-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affine [hPre_finite_affine : Cert.Pre_finite_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affine [hPre_finite_affine : Cert.Pre_finite_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Requant (m : (ℓ : Loc Cert.Requant.nD Cert.Requant.τ Cert.Requant.sig) → Buf (Elt Bits) ℓ) : Prop :=
  True

def Pre_RequantIdeal (m : (ℓ : Loc Cert.RequantIdeal.nD Cert.RequantIdeal.τ Cert.RequantIdeal.sig) → Buf (Elt Ideal) ℓ) : Prop :=
  True

def Pre_RequantIdeal_nonzero_scale [hPre_nonzero_scale : Cert.Pre_nonzero_scale.Facts] (m : (ℓ : Loc Cert.RequantIdeal.nD Cert.RequantIdeal.τ Cert.RequantIdeal.sig) → Buf (Elt Ideal) ℓ) : Prop :=
  ∀ c : Dev Cert.RequantIdeal.nD,
    (Cert.Pre_nonzero_scale.fn (F := Ideal) (m ((c.tc : Thread Cert.RequantIdeal.nD Cert.RequantIdeal.τ).loc Cert.RequantIdeal.main_arg0)) (m ((c.tc : Thread Cert.RequantIdeal.nD Cert.RequantIdeal.τ).loc Cert.RequantIdeal.main_arg1)) (m ((c.tc : Thread Cert.RequantIdeal.nD Cert.RequantIdeal.τ).loc Cert.RequantIdeal.main_arg2))) = (fun _ => 1#1)

def Pre_ReferenceRequantIdeal (m : (ℓ : Loc Cert.ReferenceRequantIdeal.nD Cert.ReferenceRequantIdeal.τ Cert.ReferenceRequantIdeal.sig) → Buf (Elt Ideal) ℓ) : Prop :=
  True

def Pre_ReferenceRequantIdeal_nonzero_scale [hPre_nonzero_scale : Cert.Pre_nonzero_scale.Facts] (m : (ℓ : Loc Cert.ReferenceRequantIdeal.nD Cert.ReferenceRequantIdeal.τ Cert.ReferenceRequantIdeal.sig) → Buf (Elt Ideal) ℓ) : Prop :=
  ∀ c : Dev Cert.ReferenceRequantIdeal.nD,
    (Cert.Pre_nonzero_scale.fn (F := Ideal) (m ((c.tc : Thread Cert.ReferenceRequantIdeal.nD Cert.ReferenceRequantIdeal.τ).loc Cert.ReferenceRequantIdeal.main_arg0)) (m ((c.tc : Thread Cert.ReferenceRequantIdeal.nD Cert.ReferenceRequantIdeal.τ).loc Cert.ReferenceRequantIdeal.main_arg1)) (m ((c.tc : Thread Cert.ReferenceRequantIdeal.nD Cert.ReferenceRequantIdeal.τ).loc Cert.ReferenceRequantIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_affine [hKernelIdeal : Cert.KernelIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_affine [hReferenceIdeal : Cert.ReferenceIdeal.Facts] [hPre_finite_affine : Cert.Pre_finite_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Requant [hRequant : Cert.Requant.Facts] : Prop :=
  ∀ (m : (ℓ : Loc Cert.Requant.nD Cert.Requant.τ Cert.Requant.sig) → Buf (Elt Bits) ℓ) (g : Dev Cert.Requant.nD → PrngReg), Pre_Requant m →
    θ_run (Cert.Requant.defs (F := Bits)) (onTc (τ := Cert.Requant.τ) (Cert.Requant.main (F := Bits))) ⟨m, fun _ => 0, g⟩ (fun r => (∀ c : Dev Cert.Requant.nD,
      r.2.mem ((c.tc : Thread Cert.Requant.nD Cert.Requant.τ).loc Cert.Requant.main_arg0) = m ((c.tc : Thread Cert.Requant.nD Cert.Requant.τ).loc Cert.Requant.main_arg0)
      ∧ r.2.mem ((c.tc : Thread Cert.Requant.nD Cert.Requant.τ).loc Cert.Requant.main_arg1) = m ((c.tc : Thread Cert.Requant.nD Cert.Requant.τ).loc Cert.Requant.main_arg1)
      ∧ r.2.mem ((c.tc : Thread Cert.Requant.nD Cert.Requant.τ).loc Cert.Requant.main_arg2) = m ((c.tc : Thread Cert.Requant.nD Cert.Requant.τ).loc Cert.Requant.main_arg2))
      ∧ r.2.sem = fun _ => 0)

def quiescent_RequantIdeal [hRequantIdeal : Cert.RequantIdeal.Facts] : Prop :=
  ∀ (m : (ℓ : Loc Cert.RequantIdeal.nD Cert.RequantIdeal.τ Cert.RequantIdeal.sig) → Buf (Elt Ideal) ℓ) (g : Dev Cert.RequantIdeal.nD → PrngReg), Pre_RequantIdeal m →
    θ_run (Cert.RequantIdeal.defs (F := Ideal)) (onTc (τ := Cert.RequantIdeal.τ) (Cert.RequantIdeal.main (F := Ideal))) ⟨m, fun _ => 0, g⟩ (fun r => (∀ c : Dev Cert.RequantIdeal.nD,
      r.2.mem ((c.tc : Thread Cert.RequantIdeal.nD Cert.RequantIdeal.τ).loc Cert.RequantIdeal.main_arg0) = m ((c.tc : Thread Cert.RequantIdeal.nD Cert.RequantIdeal.τ).loc Cert.RequantIdeal.main_arg0)
      ∧ r.2.mem ((c.tc : Thread Cert.RequantIdeal.nD Cert.RequantIdeal.τ).loc Cert.RequantIdeal.main_arg1) = m ((c.tc : Thread Cert.RequantIdeal.nD Cert.RequantIdeal.τ).loc Cert.RequantIdeal.main_arg1)
      ∧ r.2.mem ((c.tc : Thread Cert.RequantIdeal.nD Cert.RequantIdeal.τ).loc Cert.RequantIdeal.main_arg2) = m ((c.tc : Thread Cert.RequantIdeal.nD Cert.RequantIdeal.τ).loc Cert.RequantIdeal.main_arg2))
      ∧ r.2.sem = fun _ => 0)

def quiescent_RequantIdeal_pre_nonzero_scale [hRequantIdeal : Cert.RequantIdeal.Facts] [hPre_nonzero_scale : Cert.Pre_nonzero_scale.Facts] : Prop :=
  ∀ (m : (ℓ : Loc Cert.RequantIdeal.nD Cert.RequantIdeal.τ Cert.RequantIdeal.sig) → Buf (Elt Ideal) ℓ) (g : Dev Cert.RequantIdeal.nD → PrngReg), Pre_RequantIdeal_nonzero_scale m →
    θ_run (Cert.RequantIdeal.defs (F := Ideal)) (onTc (τ := Cert.RequantIdeal.τ) (Cert.RequantIdeal.main (F := Ideal))) ⟨m, fun _ => 0, g⟩ (fun r => (∀ c : Dev Cert.RequantIdeal.nD,
      r.2.mem ((c.tc : Thread Cert.RequantIdeal.nD Cert.RequantIdeal.τ).loc Cert.RequantIdeal.main_arg0) = m ((c.tc : Thread Cert.RequantIdeal.nD Cert.RequantIdeal.τ).loc Cert.RequantIdeal.main_arg0)
      ∧ r.2.mem ((c.tc : Thread Cert.RequantIdeal.nD Cert.RequantIdeal.τ).loc Cert.RequantIdeal.main_arg1) = m ((c.tc : Thread Cert.RequantIdeal.nD Cert.RequantIdeal.τ).loc Cert.RequantIdeal.main_arg1)
      ∧ r.2.mem ((c.tc : Thread Cert.RequantIdeal.nD Cert.RequantIdeal.τ).loc Cert.RequantIdeal.main_arg2) = m ((c.tc : Thread Cert.RequantIdeal.nD Cert.RequantIdeal.τ).loc Cert.RequantIdeal.main_arg2))
      ∧ r.2.sem = fun _ => 0)

def quiescent_ReferenceRequantIdeal [hReferenceRequantIdeal : Cert.ReferenceRequantIdeal.Facts] : Prop :=
  ∀ (m : (ℓ : Loc Cert.ReferenceRequantIdeal.nD Cert.ReferenceRequantIdeal.τ Cert.ReferenceRequantIdeal.sig) → Buf (Elt Ideal) ℓ) (g : Dev Cert.ReferenceRequantIdeal.nD → PrngReg), Pre_ReferenceRequantIdeal m →
    θ_run (Cert.ReferenceRequantIdeal.defs (F := Ideal)) (onTc (τ := Cert.ReferenceRequantIdeal.τ) (Cert.ReferenceRequantIdeal.main (F := Ideal))) ⟨m, fun _ => 0, g⟩ (fun r => (∀ c : Dev Cert.ReferenceRequantIdeal.nD,
      r.2.mem ((c.tc : Thread Cert.ReferenceRequantIdeal.nD Cert.ReferenceRequantIdeal.τ).loc Cert.ReferenceRequantIdeal.main_arg0) = m ((c.tc : Thread Cert.ReferenceRequantIdeal.nD Cert.ReferenceRequantIdeal.τ).loc Cert.ReferenceRequantIdeal.main_arg0)
      ∧ r.2.mem ((c.tc : Thread Cert.ReferenceRequantIdeal.nD Cert.ReferenceRequantIdeal.τ).loc Cert.ReferenceRequantIdeal.main_arg1) = m ((c.tc : Thread Cert.ReferenceRequantIdeal.nD Cert.ReferenceRequantIdeal.τ).loc Cert.ReferenceRequantIdeal.main_arg1)
      ∧ r.2.mem ((c.tc : Thread Cert.ReferenceRequantIdeal.nD Cert.ReferenceRequantIdeal.τ).loc Cert.ReferenceRequantIdeal.main_arg2) = m ((c.tc : Thread Cert.ReferenceRequantIdeal.nD Cert.ReferenceRequantIdeal.τ).loc Cert.ReferenceRequantIdeal.main_arg2))
      ∧ r.2.sem = fun _ => 0)

def quiescent_ReferenceRequantIdeal_pre_nonzero_scale [hReferenceRequantIdeal : Cert.ReferenceRequantIdeal.Facts] [hPre_nonzero_scale : Cert.Pre_nonzero_scale.Facts] : Prop :=
  ∀ (m : (ℓ : Loc Cert.ReferenceRequantIdeal.nD Cert.ReferenceRequantIdeal.τ Cert.ReferenceRequantIdeal.sig) → Buf (Elt Ideal) ℓ) (g : Dev Cert.ReferenceRequantIdeal.nD → PrngReg), Pre_ReferenceRequantIdeal_nonzero_scale m →
    θ_run (Cert.ReferenceRequantIdeal.defs (F := Ideal)) (onTc (τ := Cert.ReferenceRequantIdeal.τ) (Cert.ReferenceRequantIdeal.main (F := Ideal))) ⟨m, fun _ => 0, g⟩ (fun r => (∀ c : Dev Cert.ReferenceRequantIdeal.nD,
      r.2.mem ((c.tc : Thread Cert.ReferenceRequantIdeal.nD Cert.ReferenceRequantIdeal.τ).loc Cert.ReferenceRequantIdeal.main_arg0) = m ((c.tc : Thread Cert.ReferenceRequantIdeal.nD Cert.ReferenceRequantIdeal.τ).loc Cert.ReferenceRequantIdeal.main_arg0)
      ∧ r.2.mem ((c.tc : Thread Cert.ReferenceRequantIdeal.nD Cert.ReferenceRequantIdeal.τ).loc Cert.ReferenceRequantIdeal.main_arg1) = m ((c.tc : Thread Cert.ReferenceRequantIdeal.nD Cert.ReferenceRequantIdeal.τ).loc Cert.ReferenceRequantIdeal.main_arg1)
      ∧ r.2.mem ((c.tc : Thread Cert.ReferenceRequantIdeal.nD Cert.ReferenceRequantIdeal.τ).loc Cert.ReferenceRequantIdeal.main_arg2) = m ((c.tc : Thread Cert.ReferenceRequantIdeal.nD Cert.ReferenceRequantIdeal.τ).loc Cert.ReferenceRequantIdeal.main_arg2))
      ∧ r.2.sem = fun _ => 0)

def preserves_Kernel_KernelIdeal : Prop :=
  IdealRules.named_const.Statement Cert.KernelIdeal.κ "inv_pixels" .f32 0x3A4CCCCD#32 ((1 / 1280 : ℝ) : EReal)

def algebraic_KernelIdeal_ReferenceIdeal_pre_finite_affine [hKernelIdeal : Cert.KernelIdeal.Facts] [hReferenceIdeal : Cert.ReferenceIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81_0) = v1 c
          ∧ r.2.mem ((c.tc : Thread Cert.ReferenceIdeal.nD Cert.ReferenceIdeal.τ).loc Cert.ReferenceIdeal.main_v81_1) = v2 c
          ∧ r.2.mem ((c.tc : Thread Cert.ReferenceIdeal.nD Cert.ReferenceIdeal.τ).loc Cert.ReferenceIdeal.main_v81_2) = v3 c
          ∧ r.2.mem ((c.tc : Thread Cert.ReferenceIdeal.nD Cert.ReferenceIdeal.τ).loc Cert.ReferenceIdeal.main_v81_3) = v4 c
          ∧ r.2.mem ((c.tc : Thread Cert.ReferenceIdeal.nD Cert.ReferenceIdeal.τ).loc Cert.ReferenceIdeal.main_v81_4) = v5 c
          ∧ r.2.mem ((c.tc : Thread Cert.ReferenceIdeal.nD Cert.ReferenceIdeal.τ).loc Cert.ReferenceIdeal.main_v81_5) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Requant_RequantIdeal : Prop :=
  True

def algebraic_RequantIdeal_ReferenceRequantIdeal_pre_nonzero_scale [hRequantIdeal : Cert.RequantIdeal.Facts] [hReferenceRequantIdeal : Cert.ReferenceRequantIdeal.Facts] [hPre_nonzero_scale : Cert.Pre_nonzero_scale.Facts] : Prop :=
  ∀ (m : (ℓ : Loc Cert.RequantIdeal.nD Cert.RequantIdeal.τ Cert.RequantIdeal.sig) → Buf (Elt Ideal) ℓ) (g : Dev Cert.RequantIdeal.nD → PrngReg)
    (m' : (ℓ : Loc Cert.ReferenceRequantIdeal.nD Cert.ReferenceRequantIdeal.τ Cert.ReferenceRequantIdeal.sig) → Buf (Elt Ideal) ℓ) (g' : Dev Cert.ReferenceRequantIdeal.nD → PrngReg), Pre_RequantIdeal_nonzero_scale m →
    (∀ c : Dev Cert.RequantIdeal.nD,
      m' ((c.tc : Thread Cert.ReferenceRequantIdeal.nD Cert.ReferenceRequantIdeal.τ).loc Cert.ReferenceRequantIdeal.main_arg0) = m ((c.tc : Thread Cert.RequantIdeal.nD Cert.RequantIdeal.τ).loc Cert.RequantIdeal.main_arg0)
      ∧ m' ((c.tc : Thread Cert.ReferenceRequantIdeal.nD Cert.ReferenceRequantIdeal.τ).loc Cert.ReferenceRequantIdeal.main_arg1) = m ((c.tc : Thread Cert.RequantIdeal.nD Cert.RequantIdeal.τ).loc Cert.RequantIdeal.main_arg1)
      ∧ m' ((c.tc : Thread Cert.ReferenceRequantIdeal.nD Cert.ReferenceRequantIdeal.τ).loc Cert.ReferenceRequantIdeal.main_arg2) = m ((c.tc : Thread Cert.RequantIdeal.nD Cert.RequantIdeal.τ).loc Cert.RequantIdeal.main_arg2)) →
    ∃ (v0 : (c : Dev Cert.RequantIdeal.nD) → Buf (Elt Ideal) ((c.tc : Thread Cert.RequantIdeal.nD Cert.RequantIdeal.τ).loc Cert.RequantIdeal.main_v0)),
      θ_run (Cert.RequantIdeal.defs (F := Ideal)) (onTc (τ := Cert.RequantIdeal.τ) (Cert.RequantIdeal.main (F := Ideal))) ⟨m, fun _ => 0, g⟩ (fun r => ∀ c : Dev Cert.RequantIdeal.nD,
          r.2.mem ((c.tc : Thread Cert.RequantIdeal.nD Cert.RequantIdeal.τ).loc Cert.RequantIdeal.main_v0) = v0 c
          ∧ r.2.mem ((c.tc : Thread Cert.RequantIdeal.nD Cert.RequantIdeal.τ).loc Cert.RequantIdeal.main_arg0) = m ((c.tc : Thread Cert.RequantIdeal.nD Cert.RequantIdeal.τ).loc Cert.RequantIdeal.main_arg0)
          ∧ r.2.mem ((c.tc : Thread Cert.RequantIdeal.nD Cert.RequantIdeal.τ).loc Cert.RequantIdeal.main_arg1) = m ((c.tc : Thread Cert.RequantIdeal.nD Cert.RequantIdeal.τ).loc Cert.RequantIdeal.main_arg1)
          ∧ r.2.mem ((c.tc : Thread Cert.RequantIdeal.nD Cert.RequantIdeal.τ).loc Cert.RequantIdeal.main_arg2) = m ((c.tc : Thread Cert.RequantIdeal.nD Cert.RequantIdeal.τ).loc Cert.RequantIdeal.main_arg2))
      ∧ θ_run (Cert.ReferenceRequantIdeal.defs (F := Ideal)) (onTc (τ := Cert.ReferenceRequantIdeal.τ) (Cert.ReferenceRequantIdeal.main (F := Ideal))) ⟨m', fun _ => 0, g'⟩ (fun r => ∀ c : Dev Cert.ReferenceRequantIdeal.nD,
          r.2.mem ((c.tc : Thread Cert.ReferenceRequantIdeal.nD Cert.ReferenceRequantIdeal.τ).loc Cert.ReferenceRequantIdeal.main_v0) = v0 c
          ∧ r.2.mem ((c.tc : Thread Cert.ReferenceRequantIdeal.nD Cert.ReferenceRequantIdeal.τ).loc Cert.ReferenceRequantIdeal.main_arg0) = m' ((c.tc : Thread Cert.ReferenceRequantIdeal.nD Cert.ReferenceRequantIdeal.τ).loc Cert.ReferenceRequantIdeal.main_arg0)
          ∧ r.2.mem ((c.tc : Thread Cert.ReferenceRequantIdeal.nD Cert.ReferenceRequantIdeal.τ).loc Cert.ReferenceRequantIdeal.main_arg1) = m' ((c.tc : Thread Cert.ReferenceRequantIdeal.nD Cert.ReferenceRequantIdeal.τ).loc Cert.ReferenceRequantIdeal.main_arg1)
          ∧ r.2.mem ((c.tc : Thread Cert.ReferenceRequantIdeal.nD Cert.ReferenceRequantIdeal.τ).loc Cert.ReferenceRequantIdeal.main_arg2) = m' ((c.tc : Thread Cert.ReferenceRequantIdeal.nD Cert.ReferenceRequantIdeal.τ).loc Cert.ReferenceRequantIdeal.main_arg2))

def Claim : Prop :=
  ∃ (hKernel : Cert.Kernel.Facts) (hKernelIdeal : Cert.KernelIdeal.Facts) (hReferenceIdeal : Cert.ReferenceIdeal.Facts) (hRequant : Cert.Requant.Facts) (hRequantIdeal : Cert.RequantIdeal.Facts) (hReferenceRequantIdeal : Cert.ReferenceRequantIdeal.Facts) (hPre_finite_affine : Cert.Pre_finite_affine.Facts) (hPre_nonzero_scale : Cert.Pre_nonzero_scale.Facts),
    quiescent_Kernel (hKernel := hKernel)
    ∧ quiescent_KernelIdeal (hKernelIdeal := hKernelIdeal)
    ∧ quiescent_KernelIdeal_pre_finite_affine (hKernelIdeal := hKernelIdeal) (hPre_finite_affine := hPre_finite_affine)
    ∧ quiescent_ReferenceIdeal (hReferenceIdeal := hReferenceIdeal)
    ∧ quiescent_ReferenceIdeal_pre_finite_affine (hReferenceIdeal := hReferenceIdeal) (hPre_finite_affine := hPre_finite_affine)
    ∧ quiescent_Requant (hRequant := hRequant)
    ∧ quiescent_RequantIdeal (hRequantIdeal := hRequantIdeal)
    ∧ quiescent_RequantIdeal_pre_nonzero_scale (hRequantIdeal := hRequantIdeal) (hPre_nonzero_scale := hPre_nonzero_scale)
    ∧ quiescent_ReferenceRequantIdeal (hReferenceRequantIdeal := hReferenceRequantIdeal)
    ∧ quiescent_ReferenceRequantIdeal_pre_nonzero_scale (hReferenceRequantIdeal := hReferenceRequantIdeal) (hPre_nonzero_scale := hPre_nonzero_scale)
    ∧ preserves_Kernel_KernelIdeal
    ∧ algebraic_KernelIdeal_ReferenceIdeal_pre_finite_affine (hKernelIdeal := hKernelIdeal) (hReferenceIdeal := hReferenceIdeal) (hPre_finite_affine := hPre_finite_affine)
    ∧ preserves_Requant_RequantIdeal
    ∧ algebraic_RequantIdeal_ReferenceRequantIdeal_pre_nonzero_scale (hRequantIdeal := hRequantIdeal) (hReferenceRequantIdeal := hReferenceRequantIdeal) (hPre_nonzero_scale := hPre_nonzero_scale)
-- ==== Pre_finite_affine.lean ====
abbrev S256x32x40x120 : Shape := ⟨4, ![256, 32, 40, 120]⟩
abbrev S256 : Shape := ⟨1, ![256]⟩
abbrev S3x3x120x160 : Shape := ⟨4, ![3, 3, 120, 160]⟩
abbrev S160 : Shape := ⟨1, ![160]⟩
abbrev S160x30 : Shape := ⟨2, ![160, 30]⟩
abbrev S30 : Shape := ⟨1, ![30]⟩
abbrev S30x160 : Shape := ⟨2, ![30, 160]⟩
abbrev S_ : Shape := ⟨0, ![]⟩
abbrev S256x1 : Shape := ⟨2, ![256, 1]⟩
abbrev S1x160 : Shape := ⟨2, ![1, 160]⟩
abbrev S256x160 : Shape := ⟨2, ![256, 160]⟩

class Facts : Prop where
  bcast_S_S160 : S_.BroadcastsInDim S160 (![] : Fin 0 → Fin S160.rank)
  bcast_S_S256 : S_.BroadcastsInDim S256 (![] : Fin 0 → Fin S256.rank)
  bcast_S256_S256x1_0 : S256.BroadcastsInDim S256x1 (![0] : Fin 1 → Fin S256x1.rank)
  bcast_S160_S1x160_1 : S160.BroadcastsInDim S1x160 (![1] : Fin 1 → Fin S1x160.rank)
  bcast_S256x1_S256x160_0_1 : S256x1.BroadcastsInDim S256x160 (![0, 1] : Fin 2 → Fin S256x160.rank)
  bcast_S1x160_S256x160_0_1 : S1x160.BroadcastsInDim S256x160 (![0, 1] : Fin 2 → Fin S256x160.rank)

variable [Facts]

def fn {F : FTy → Type} [FloatOps F] (main_arg0 : IVec S256x32x40x120 8) (main_arg1 : FVec F S256 .f32) (main_arg2 : IVec S3x3x120x160 8) (main_arg3 : FVec F S160 .f32) (main_arg4 : FVec F S160 .f32) (main_arg5 : FVec F S160 .f32) (main_arg6 : FVec F S160x30 .fp8e4m3) (main_arg7 : FVec F S30 .f32) (main_arg8 : FVec F S30 .f32) (main_arg9 : FVec F S30x160 .fp8e4m3) (main_arg10 : FVec F S160 .f32) (main_arg11 : FVec F S160 .f32) : IVec S256x160 1 :=
  let main_v0 : FVec F S160 .f32 := Host.absf main_arg3
  let main_cst : FVec F S_ .f32 := constant S_ .f32 0x7F800000#32
  let main_v1 : FVec F S160 .f32 := broadcastInDim S160 ![] bcast_S_S160 main_cst
  let main_v2 : IVec S160 1 := cmpf .olt main_v0 main_v1
  let main_v3 : FVec F S160 .f32 := Host.absf main_arg4
  let main_cst_0 : FVec F S_ .f32 := constant S_ .f32 0x7F800000#32
  let main_v4 : FVec F S160 .f32 := broadcastInDim S160 ![] bcast_S_S160 main_cst_0
  let main_v5 : IVec S160 1 := cmpf .olt main_v3 main_v4
  let main_v6 : IVec S160 1 := andi main_v2 main_v5
  let main_v7 : FVec F S160 .f32 := Host.absf main_arg5
  let main_cst_1 : FVec F S_ .f32 := constant S_ .f32 0x7F800000#32
  let main_v8 : FVec F S160 .f32 := broadcastInDim S160 ![] bcast_S_S160 main_cst_1
  let main_v9 : IVec S160 1 := cmpf .olt main_v7 main_v8
  let main_v10 : IVec S160 1 := andi main_v6 main_v9
  let main_v11 : FVec F S256 .f32 := Host.absf main_arg1
  let main_cst_2 : FVec F S_ .f32 := constant S_ .f32 0x7F800000#32
  let main_v12 : FVec F S256 .f32 := broadcastInDim S256 ![] bcast_S_S256 main_cst_2
  let main_v13 : IVec S256 1 := cmpf .olt main_v11 main_v12
  let main_v14 : IVec S256x1 1 := broadcastInDim S256x1 ![0] bcast_S256_S256x1_0 main_v13
  let main_v15 : IVec S1x160 1 := broadcastInDim S1x160 ![1] bcast_S160_S1x160_1 main_v10
  let main_v16 : IVec S256x160 1 := broadcastInDim S256x160 ![0, 1] bcast_S256x1_S256x160_0_1 main_v14
  let main_v17 : IVec S256x160 1 := broadcastInDim S256x160 ![0, 1] bcast_S1x160_S256x160_0_1 main_v15
  let main_v18 : IVec S256x160 1 := andi main_v16 main_v17
  main_v18
-- ==== Pre_nonzero_scale.lean ====
abbrev S1x1 : Shape := ⟨2, ![1, 1]⟩
abbrev S32x40x160x256 : Shape := ⟨4, ![32, 40, 160, 256]⟩
abbrev S160x256 : Shape := ⟨2, ![160, 256]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S1x1 .f32) (main_arg1 : FVec F S32x40x160x256 .f32) (main_arg2 : FVec F S160x256 .f32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .une main_arg0 main_v0
  main_v1
-- ==== Kernel.lean ====
abbrev S256x32x40x120 : Shape := ⟨4, ![256, 32, 40, 120]⟩
abbrev S256 : Shape := ⟨1, ![256]⟩
abbrev S3x3x120x160 : Shape := ⟨4, ![3, 3, 120, 160]⟩
abbrev S160 : Shape := ⟨1, ![160]⟩
abbrev S160x30 : Shape := ⟨2, ![160, 30]⟩
abbrev S30 : Shape := ⟨1, ![30]⟩
abbrev S30x160 : Shape := ⟨2, ![30, 160]⟩
abbrev S32x40x120x256 : Shape := ⟨4, ![32, 40, 120, 256]⟩
abbrev S3x160x3x120 : Shape := ⟨4, ![3, 160, 3, 120]⟩
abbrev S_ : Shape := ⟨0, ![]⟩
abbrev S3x160x3x128 : Shape := ⟨4, ![3, 160, 3, 128]⟩
abbrev S3x160x384 : Shape := ⟨3, ![3, 160, 384]⟩
abbrev S1x256 : Shape := ⟨2, ![1, 256]⟩
abbrev S160x1 : Shape := ⟨2, ![160, 1]⟩
abbrev S30x1 : Shape := ⟨2, ![30, 1]⟩
abbrev S32x40x160x256 : Shape := ⟨4, ![32, 40, 160, 256]⟩
abbrev S160x256 : Shape := ⟨2, ![160, 256]⟩
abbrev S30x256 : Shape := ⟨2, ![30, 256]⟩
abbrev S1x1 : Shape := ⟨2, ![1, 1]⟩
abbrev S1x40x120x256 : Shape := ⟨4, ![1, 40, 120, 256]⟩
abbrev S1x40x160x256 : Shape := ⟨4, ![1, 40, 160, 256]⟩
abbrev S4x42x128x256 : Shape := ⟨4, ![4, 42, 128, 256]⟩
abbrev S1x1x120x256 : Shape := ⟨4, ![1, 1, 120, 256]⟩
abbrev S120x256 : Shape := ⟨2, ![120, 256]⟩
abbrev S42x128x256 : Shape := ⟨3, ![42, 128, 256]⟩
abbrev S1x42x128x256 : Shape := ⟨4, ![1, 42, 128, 256]⟩
abbrev S1x3x128x256 : Shape := ⟨4, ![1, 3, 128, 256]⟩
abbrev S3x128x256 : Shape := ⟨3, ![3, 128, 256]⟩
abbrev S384x256 : Shape := ⟨2, ![384, 256]⟩
abbrev S1x160x384 : Shape := ⟨3, ![1, 160, 384]⟩
abbrev S160x384 : Shape := ⟨2, ![160, 384]⟩
abbrev S1x1x160x256 : Shape := ⟨4, ![1, 1, 160, 256]⟩
abbrev S246x256 : Shape := ⟨2, ![246, 256]⟩
abbrev S1x160x256 : Shape := ⟨3, ![1, 160, 256]⟩
abbrev S1 : Shape := ⟨1, ![1]⟩
abbrev S1x1x1 : Shape := ⟨3, ![1, 1, 1]⟩

abbrev nBuf : Space → Nat
  | .hbm => 35
  | .vmem => 25
  | .smem => 1
  | _ => 0

abbrev bufTy : (tb : Table) → Fin (tcTables nBuf tb) → BufTy
  | .hbm, ⟨0, _⟩ => ⟨S256x32x40x120, .i8⟩
  | .hbm, ⟨1, _⟩ => ⟨S256, .f32⟩
  | .hbm, ⟨2, _⟩ => ⟨S3x3x120x160, .i8⟩
  | .hbm, ⟨3, _⟩ => ⟨S160, .f32⟩
  | .hbm, ⟨4, _⟩ => ⟨S160, .f32⟩
  | .hbm, ⟨5, _⟩ => ⟨S160, .f32⟩
  | .hbm, ⟨6, _⟩ => ⟨S160x30, .fp8e4m3⟩
  | .hbm, ⟨7, _⟩ => ⟨S30, .f32⟩
  | .hbm, ⟨8, _⟩ => ⟨S30, .f32⟩
  | .hbm, ⟨9, _⟩ => ⟨S30x160, .fp8e4m3⟩
  | .hbm, ⟨10, _⟩ => ⟨S160, .f32⟩
  | .hbm, ⟨11, _⟩ => ⟨S160, .f32⟩
  | .hbm, ⟨12, _⟩ => ⟨S32x40x120x256, .i8⟩
  | .hbm, ⟨13, _⟩ => ⟨S3x160x3x120, .i8⟩
  | .hbm, ⟨14, _⟩ => ⟨S_, .i32⟩
  | .hbm, ⟨15, _⟩ => ⟨S_, .i8⟩
  | .hbm, ⟨16, _⟩ => ⟨S3x160x3x128, .i8⟩
  | .hbm, ⟨17, _⟩ => ⟨S3x160x384, .i8⟩
  | .hbm, ⟨18, _⟩ => ⟨S1x256, .f32⟩
  | .hbm, ⟨19, _⟩ => ⟨S160x1, .f32⟩
  | .hbm, ⟨20, _⟩ => ⟨S160x1, .f32⟩
  | .hbm, ⟨21, _⟩ => ⟨S160x1, .f32⟩
  | .hbm, ⟨22, _⟩ => ⟨S30x160, .fp8e4m3⟩
  | .hbm, ⟨23, _⟩ => ⟨S30x1, .f32⟩
  | .hbm, ⟨24, _⟩ => ⟨S30x1, .f32⟩
  | .hbm, ⟨25, _⟩ => ⟨S160x30, .fp8e4m3⟩
  | .hbm, ⟨26, _⟩ => ⟨S160x1, .f32⟩
  | .hbm, ⟨27, _⟩ => ⟨S160x1, .f32⟩
  | .hbm, ⟨28, _⟩ => ⟨S32x40x160x256, .f32⟩
  | .hbm, ⟨29, _⟩ => ⟨S160x256, .f32⟩
  | .hbm, ⟨30, _⟩ => ⟨S160x256, .fp8e4m3⟩
  | .hbm, ⟨31, _⟩ => ⟨S1x256, .f32⟩
  | .hbm, ⟨32, _⟩ => ⟨S30x256, .fp8e4m3⟩
  | .hbm, ⟨33, _⟩ => ⟨S1x256, .f32⟩
  | .hbm, ⟨34, _⟩ => ⟨S1x1, .f32⟩
  | .local _ .vmem, ⟨0, _⟩ => ⟨S1x40x120x256, .i8⟩
  | .local _ .vmem, ⟨1, _⟩ => ⟨S1x40x120x256, .i8⟩
  | .local _ .vmem, ⟨2, _⟩ => ⟨S3x160x384, .i8⟩
  | .local _ .vmem, ⟨3, _⟩ => ⟨S1x256, .f32⟩
  | .local _ .vmem, ⟨4, _⟩ => ⟨S160x1, .f32⟩
  | .local _ .vmem, ⟨5, _⟩ => ⟨S160x1, .f32⟩
  | .local _ .vmem, ⟨6, _⟩ => ⟨S160x1, .f32⟩
  | .local _ .vmem, ⟨7, _⟩ => ⟨S30x160, .fp8e4m3⟩
  | .local _ .vmem, ⟨8, _⟩ => ⟨S30x1, .f32⟩
  | .local _ .vmem, ⟨9, _⟩ => ⟨S30x1, .f32⟩
  | .local _ .vmem, ⟨10, _⟩ => ⟨S160x30, .fp8e4m3⟩
  | .local _ .vmem, ⟨11, _⟩ => ⟨S160x1, .f32⟩
  | .local _ .vmem, ⟨12, _⟩ => ⟨S160x1, .f32⟩
  | .local _ .vmem, ⟨13, _⟩ => ⟨S1x40x160x256, .f32⟩
  | .local _ .vmem, ⟨14, _⟩ => ⟨S1x40x160x256, .f32⟩
  | .local _ .vmem, ⟨15, _⟩ => ⟨S160x256, .f32⟩
  | .local _ .vmem, ⟨16, _⟩ => ⟨S160x256, .fp8e4m3⟩
  | .local _ .vmem, ⟨17, _⟩ => ⟨S1x256, .f32⟩
  | .local _ .vmem, ⟨18, _⟩ => ⟨S30x256, .fp8e4m3⟩
  | .local _ .vmem, ⟨19, _⟩ => ⟨S1x256, .f32⟩
  | .local _ .vmem, ⟨20, _⟩ => ⟨S4x42x128x256, .bf16⟩
  | .local _ .vmem, ⟨21, _⟩ => ⟨S160x256, .f32⟩
  | .local _ .vmem, ⟨22, _⟩ => ⟨S160x256, .f32⟩
  | .local _ .vmem, ⟨23, _⟩ => ⟨S160x256, .f32⟩
  | .local _ .vmem, ⟨24, _⟩ => ⟨S160x256, .f32⟩
  | .local _ .smem, ⟨0, _⟩ => ⟨S1x1, .f32⟩
  | _, _ => ⟨S256x32x40x120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v14_5 : Ref sig .tc := ⟨.hbm, 33, rfl⟩
abbrev main_v14_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_stg18_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v4 : BitVec 1 := Scalar.cmpi .slt arg0 c32_i32
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_8 : BitVec 32 := 0#32
  let c40_i32 : BitVec 32 := 40#32
  let v16 : BitVec 32 := Scalar.addi c0_i32_8 c40_i32
  let c1_i32 : BitVec 32 := 1#32
  ⟨c0_i32_8, v16, c1_i32⟩
def k0_off1 (k0_t1 : Fin k0_t1_loop.trips) : Fin 4 → Nat :=
  let c0 : Index := 0#32
  let c0_i32_8 : BitVec 32 := 0#32
  let c1_i32 : BitVec 32 := 1#32
  let arg25 : BitVec 32 := Scf.iv c0_i32_8 c1_i32 k0_t1
  let v17 : Index := Scalar.indexCast arg25
  let c0_10 : Index := 0#32
  let c0_11 : Index := 0#32
  ![0, v17.toNat, 0, 0]
def k0_off2 (i : grid0.Coords) (k0_t1 : Fin k0_t1_loop.trips) : Fin 4 → Nat :=
  let arg0 : BitVec 32 := BitVec.ofNat 32 (i 0).val
  let c4_i32 : BitVec 32 := 4#32
  let v3 : BitVec 32 := Scalar.remsi arg0 c4_i32
  let v23 : Index := Scalar.indexCast v3
  let c0_i32_8 : BitVec 32 := 0#32
  let c1_i32 : BitVec 32 := 1#32
  let arg25 : BitVec 32 := Scf.iv c0_i32_8 c1_i32 k0_t1
  let c1_i32_12 : BitVec 32 := 1#32
  let v22 : BitVec 32 := Scalar.addi arg25 c1_i32_12
  let v24 : Index := Scalar.indexCast v22
  let c0_13 : Index := 0#32
  let c0_14 : Index := 0#32
  ![v23.toNat, v24.toNat, 0, 0]
def k0_cond3 (i : grid0.Coords) : BitVec 1 :=
  let arg0 : BitVec 32 := BitVec.ofNat 32 (i 0).val
  let c32_i32_2 : BitVec 32 := 32#32
  let v7 : BitVec 1 := Scalar.cmpi .eq arg0 c32_i32_2
  let v8 : BitVec 32 := Scalar.extui v7
  let c0_i32_3 : BitVec 32 := 0#32
  let v9 : BitVec 1 := Scalar.cmpi .ne v8 c0_i32_3
  v9

def k0_off3 (i : grid0.Coords) : Fin 4 → Nat :=
  let arg0 : BitVec 32 := BitVec.ofNat 32 (i 0).val
  let c4_i32 : BitVec 32 := 4#32
  let v3 : BitVec 32 := Scalar.remsi arg0 c4_i32
  let v17 : Index := Scalar.indexCast v3
  let c0 : Index := 0#32
  let c0_8 : Index := 0#32
  let c0_9 : Index := 0#32
  ![v17.toNat, 0, 0, 0]
def k0_cond4 (i : grid0.Coords) : BitVec 1 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .ne v11 c0_i32_5
  v12

@[reducible] def k0_t2_loop : Scf.Loop 32 :=
  let c0_i32_8 : BitVec 32 := 0#32
  let c40_i32 : BitVec 32 := 40#32
  let v16 : BitVec 32 := Scalar.addi c0_i32_8 c40_i32
  let c1_i32 : BitVec 32 := 1#32
  ⟨c0_i32_8, v16, c1_i32⟩
def k0_off4 (i : grid0.Coords) (k0_t2 : Fin k0_t2_loop.trips) (c0_i32_11 : BitVec 32) : Fin 4 → Nat :=
  let arg0 : BitVec 32 := BitVec.ofNat 32 (i 0).val
  let c4_i32_10 : BitVec 32 := 4#32
  let v18 : BitVec 32 := Scalar.addi arg0 c4_i32_10
  let c2_i32 : BitVec 32 := 2#32
  let v19 : BitVec 32 := Scalar.subi v18 c2_i32
  let v20 : BitVec 32 := Scalar.addi v19 c0_i32_11
  let c4_i32_12 : BitVec 32 := 4#32
  let v21 : BitVec 32 := Scalar.remsi v20 c4_i32_12
  let v22 : Index := Scalar.indexCast v21
  let c0_i32_8 : BitVec 32 := 0#32
  let c1_i32 : BitVec 32 := 1#32
  let arg25 : BitVec 32 := Scf.iv c0_i32_8 c1_i32 k0_t2
  let v23 : Index := Scalar.indexCast arg25
  let c0 : Index := 0#32
  let c0_13 : Index := 0#32
  ![v22.toNat, v23.toNat, 0, 0]
def k0_off5 (k0_t2 : Fin k0_t2_loop.trips) : Fin 4 → Nat :=
  let c0_41 : Index := 0#32
  let c0_i32_8 : BitVec 32 := 0#32
  let c1_i32 : BitVec 32 := 1#32
  let arg25 : BitVec 32 := Scf.iv c0_i32_8 c1_i32 k0_t2
  let v69 : Index := Scalar.indexCast arg25
  let c0_42 : Index := 0#32
  let c0_43 : Index := 0#32
  ![0, v69.toNat, 0, 0]
def k0_cond5 (i : grid0.Coords) : BitVec 1 :=
  let arg0 : BitVec 32 := BitVec.ofNat 32 (i 0).val
  let c32_i32_6 : BitVec 32 := 32#32
  let v13 : BitVec 1 := Scalar.cmpi .eq arg0 c32_i32_6
  let v14 : BitVec 32 := Scalar.extui v13
  let c0_i32_7 : BitVec 32 := 0#32
  let v15 : BitVec 1 := Scalar.cmpi .ne v14 c0_i32_7
  v15

def cc0_transform_0 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x40x120x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x160x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S30x160 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S30x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S160x30 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S160x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S160x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x40x160x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S160x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S160x256 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S30x256 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "inv_pixels" => some ((1 / 1280 : ℝ) : EReal)
  | _ => none
-- ==== ReferenceIdeal.lean ====
abbrev S256x32x40x120 : Shape := ⟨4, ![256, 32, 40, 120]⟩
abbrev S256 : Shape := ⟨1, ![256]⟩
abbrev S3x3x120x160 : Shape := ⟨4, ![3, 3, 120, 160]⟩
abbrev S160 : Shape := ⟨1, ![160]⟩
abbrev S160x30 : Shape := ⟨2, ![160, 30]⟩
abbrev S30 : Shape := ⟨1, ![30]⟩
abbrev S30x160 : Shape := ⟨2, ![30, 160]⟩
abbrev S_ : Shape := ⟨0, ![]⟩
abbrev S256x34x42x120 : Shape := ⟨4, ![256, 34, 42, 120]⟩
abbrev S1x1x120x160 : Shape := ⟨4, ![1, 1, 120, 160]⟩
abbrev S120x160 : Shape := ⟨2, ![120, 160]⟩
abbrev S256x32x40x160 : Shape := ⟨4, ![256, 32, 40, 160]⟩
abbrev S256x1x1x1 : Shape := ⟨4, ![256, 1, 1, 1]⟩
abbrev S1x1x1x160 : Shape := ⟨4, ![1, 1, 1, 160]⟩
abbrev S256x1x1x160 : Shape := ⟨4, ![256, 1, 1, 160]⟩
abbrev S256x160 : Shape := ⟨2, ![256, 160]⟩
abbrev S32x40x160x256 : Shape := ⟨4, ![32, 40, 160, 256]⟩
abbrev S1x30 : Shape := ⟨2, ![1, 30]⟩
abbrev S1x160 : Shape := ⟨2, ![1, 160]⟩
abbrev S160x256 : Shape := ⟨2, ![160, 256]⟩
abbrev S1x256 : Shape := ⟨2, ![1, 256]⟩
abbrev S30x256 : Shape := ⟨2, ![30, 256]⟩
abbrev S1x1 : Shape := ⟨2, ![1, 1]⟩
abbrev S256x1 : Shape := ⟨2, ![256, 1]⟩
abbrev S256x247 : Shape := ⟨2, ![256, 247]⟩
abbrev S256x30 : Shape := ⟨2, ![256, 30]⟩
abbrev S1x256x32x40x160 : Shape := ⟨5, ![1, 256, 32, 40, 160]⟩
abbrev S1 : Shape := ⟨1, ![1]⟩
abbrev S1x1x1x1x1 : Shape := ⟨5, ![1, 1, 1, 1, 1]⟩

abbrev nBuf : Space → Nat
  | .hbm => 106
  | .vmem => 14
  | .smem => 0
  | _ => 0

abbrev bufTy : (tb : Table) → Fin (tcTables nBuf tb) → BufTy
  | .hbm, ⟨0, _⟩ => ⟨S256x32x40x120, .i8⟩
  | .hbm, ⟨1, _⟩ => ⟨S256, .f32⟩
  | .hbm, ⟨2, _⟩ => ⟨S3x3x120x160, .i8⟩
  | .hbm, ⟨3, _⟩ => ⟨S160, .f32⟩
  | .hbm, ⟨4, _⟩ => ⟨S160, .f32⟩
  | .hbm, ⟨5, _⟩ => ⟨S160, .f32⟩
  | .hbm, ⟨6, _⟩ => ⟨S160x30, .fp8e4m3⟩
  | .hbm, ⟨7, _⟩ => ⟨S30, .f32⟩
  | .hbm, ⟨8, _⟩ => ⟨S30, .f32⟩
  | .hbm, ⟨9, _⟩ => ⟨S30x160, .fp8e4m3⟩
  | .hbm, ⟨10, _⟩ => ⟨S160, .f32⟩
  | .hbm, ⟨11, _⟩ => ⟨S160, .f32⟩
  | .hbm, ⟨12, _⟩ => ⟨S256x32x40x120, .i32⟩
  | .hbm, ⟨13, _⟩ => ⟨S256x32x40x120, .f32⟩
  | .hbm, ⟨14, _⟩ => ⟨S256x32x40x120, .bf16⟩
  | .hbm, ⟨15, _⟩ => ⟨S3x3x120x160, .i32⟩
  | .hbm, ⟨16, _⟩ => ⟨S3x3x120x160, .f32⟩
  | .hbm, ⟨17, _⟩ => ⟨S3x3x120x160, .bf16⟩
  | .hbm, ⟨18, _⟩ => ⟨S_, .i32⟩
  | .hbm, ⟨19, _⟩ => ⟨S_, .bf16⟩
  | .hbm, ⟨20, _⟩ => ⟨S256x34x42x120, .bf16⟩
  | .hbm, ⟨21, _⟩ => ⟨S256x32x40x120, .bf16⟩
  | .hbm, ⟨22, _⟩ => ⟨S1x1x120x160, .bf16⟩
  | .hbm, ⟨23, _⟩ => ⟨S120x160, .bf16⟩
  | .hbm, ⟨24, _⟩ => ⟨S256x32x40x160, .f32⟩
  | .hbm, ⟨25, _⟩ => ⟨S_, .f32⟩
  | .hbm, ⟨26, _⟩ => ⟨S256x32x40x160, .f32⟩
  | .hbm, ⟨27, _⟩ => ⟨S256x32x40x160, .f32⟩
  | .hbm, ⟨28, _⟩ => ⟨S256x32x40x120, .bf16⟩
  | .hbm, ⟨29, _⟩ => ⟨S1x1x120x160, .bf16⟩
  | .hbm, ⟨30, _⟩ => ⟨S120x160, .bf16⟩
  | .hbm, ⟨31, _⟩ => ⟨S256x32x40x160, .f32⟩
  | .hbm, ⟨32, _⟩ => ⟨S256x32x40x160, .f32⟩
  | .hbm, ⟨33, _⟩ => ⟨S256x32x40x120, .bf16⟩
  | .hbm, ⟨34, _⟩ => ⟨S1x1x120x160, .bf16⟩
  | .hbm, ⟨35, _⟩ => ⟨S120x160, .bf16⟩
  | .hbm, ⟨36, _⟩ => ⟨S256x32x40x160, .f32⟩
  | .hbm, ⟨37, _⟩ => ⟨S256x32x40x160, .f32⟩
  | .hbm, ⟨38, _⟩ => ⟨S256x32x40x120, .bf16⟩
  | .hbm, ⟨39, _⟩ => ⟨S1x1x120x160, .bf16⟩
  | .hbm, ⟨40, _⟩ => ⟨S120x160, .bf16⟩
  | .hbm, ⟨41, _⟩ => ⟨S256x32x40x160, .f32⟩
  | .hbm, ⟨42, _⟩ => ⟨S256x32x40x160, .f32⟩
  | .hbm, ⟨43, _⟩ => ⟨S256x32x40x120, .bf16⟩
  | .hbm, ⟨44, _⟩ => ⟨S1x1x120x160, .bf16⟩
  | .hbm, ⟨45, _⟩ => ⟨S120x160, .bf16⟩
  | .hbm, ⟨46, _⟩ => ⟨S256x32x40x160, .f32⟩
  | .hbm, ⟨47, _⟩ => ⟨S256x32x40x160, .f32⟩
  | .hbm, ⟨48, _⟩ => ⟨S256x32x40x120, .bf16⟩
  | .hbm, ⟨49, _⟩ => ⟨S1x1x120x160, .bf16⟩
  | .hbm, ⟨50, _⟩ => ⟨S120x160, .bf16⟩
  | .hbm, ⟨51, _⟩ => ⟨S256x32x40x160, .f32⟩
  | .hbm, ⟨52, _⟩ => ⟨S256x32x40x160, .f32⟩
  | .hbm, ⟨53, _⟩ => ⟨S256x32x40x120, .bf16⟩
  | .hbm, ⟨54, _⟩ => ⟨S1x1x120x160, .bf16⟩
  | .hbm, ⟨55, _⟩ => ⟨S120x160, .bf16⟩
  | .hbm, ⟨56, _⟩ => ⟨S256x32x40x160, .f32⟩
  | .hbm, ⟨57, _⟩ => ⟨S256x32x40x160, .f32⟩
  | .hbm, ⟨58, _⟩ => ⟨S256x32x40x120, .bf16⟩
  | .hbm, ⟨59, _⟩ => ⟨S1x1x120x160, .bf16⟩
  | .hbm, ⟨60, _⟩ => ⟨S120x160, .bf16⟩
  | .hbm, ⟨61, _⟩ => ⟨S256x32x40x160, .f32⟩
  | .hbm, ⟨62, _⟩ => ⟨S256x32x40x160, .f32⟩
  | .hbm, ⟨63, _⟩ => ⟨S256x32x40x120, .bf16⟩
  | .hbm, ⟨64, _⟩ => ⟨S1x1x120x160, .bf16⟩
  | .hbm, ⟨65, _⟩ => ⟨S120x160, .bf16⟩
  | .hbm, ⟨66, _⟩ => ⟨S256x32x40x160, .f32⟩
  | .hbm, ⟨67, _⟩ => ⟨S256x32x40x160, .f32⟩
  | .hbm, ⟨68, _⟩ => ⟨S256x1x1x1, .f32⟩
  | .hbm, ⟨69, _⟩ => ⟨S1x1x1x160, .f32⟩
  | .hbm, ⟨70, _⟩ => ⟨S256x1x1x160, .f32⟩
  | .hbm, ⟨71, _⟩ => ⟨S256x1x1x160, .f32⟩
  | .hbm, ⟨72, _⟩ => ⟨S256x1x1x160, .f32⟩
  | .hbm, ⟨73, _⟩ => ⟨S256x32x40x160, .f32⟩
  | .hbm, ⟨74, _⟩ => ⟨S256x32x40x160, .f32⟩
  | .hbm, ⟨75, _⟩ => ⟨S1x1x1x160, .f32⟩
  | .hbm, ⟨76, _⟩ => ⟨S256x32x40x160, .f32⟩
  | .hbm, ⟨77, _⟩ => ⟨S256x32x40x160, .f32⟩
  | .hbm, ⟨78, _⟩ => ⟨S1x1x1x160, .f32⟩
  | .hbm, ⟨79, _⟩ => ⟨S256x32x40x160, .f32⟩
  | .hbm, ⟨80, _⟩ => ⟨S256x32x40x160, .f32⟩
  | .hbm, ⟨81, _⟩ => ⟨S256x32x40x160, .f32⟩
  | .hbm, ⟨82, _⟩ => ⟨S256x32x40x160, .f32⟩
  | .hbm, ⟨83, _⟩ => ⟨S_, .f32⟩
  | .hbm, ⟨84, _⟩ => ⟨S256x32x40x160, .f32⟩
  | .hbm, ⟨85, _⟩ => ⟨S256x32x40x160, .f32⟩
  | .hbm, ⟨86, _⟩ => ⟨S_, .f32⟩
  | .hbm, ⟨87, _⟩ => ⟨S256x32x40x160, .f32⟩
  | .hbm, ⟨88, _⟩ => ⟨S256x32x40x160, .f32⟩
  | .hbm, ⟨89, _⟩ => ⟨S256x32x40x160, .f32⟩
  | .hbm, ⟨90, _⟩ => ⟨S_, .f32⟩
  | .hbm, ⟨91, _⟩ => ⟨S256x160, .f32⟩
  | .hbm, ⟨92, _⟩ => ⟨S_, .f32⟩
  | .hbm, ⟨93, _⟩ => ⟨S256x160, .f32⟩
  | .hbm, ⟨94, _⟩ => ⟨S256x160, .f32⟩
  | .hbm, ⟨95, _⟩ => ⟨S32x40x160x256, .f32⟩
  | .hbm, ⟨96, _⟩ => ⟨S1x30, .f32⟩
  | .hbm, ⟨97, _⟩ => ⟨S1x30, .f32⟩
  | .hbm, ⟨98, _⟩ => ⟨S1x160, .f32⟩
  | .hbm, ⟨99, _⟩ => ⟨S1x160, .f32⟩
  | .hbm, ⟨100, _⟩ => ⟨S160x256, .f32⟩
  | .hbm, ⟨101, _⟩ => ⟨S160x256, .fp8e4m3⟩
  | .hbm, ⟨102, _⟩ => ⟨S1x256, .f32⟩
  | .hbm, ⟨103, _⟩ => ⟨S30x256, .fp8e4m3⟩
  | .hbm, ⟨104, _⟩ => ⟨S1x256, .f32⟩
  | .hbm, ⟨105, _⟩ => ⟨S1x1, .f32⟩
  | .local _ .vmem, ⟨0, _⟩ => ⟨S256x32x40x160, .f32⟩
  | .local _ .vmem, ⟨1, _⟩ => ⟨S256x160, .f32⟩
  | .local _ .vmem, ⟨2, _⟩ => ⟨S160x30, .fp8e4m3⟩
  | .local _ .vmem, ⟨3, _⟩ => ⟨S1x30, .f32⟩
  | .local _ .vmem, ⟨4, _⟩ => ⟨S1x30, .f32⟩
  | .local _ .vmem, ⟨5, _⟩ => ⟨S30x160, .fp8e4m3⟩
  | .local _ .vmem, ⟨6, _⟩ => ⟨S1x160, .f32⟩
  | .local _ .vmem, ⟨7, _⟩ => ⟨S1x160, .f32⟩
  | .local _ .vmem, ⟨8, _⟩ => ⟨S160x256, .f32⟩
  | .local _ .vmem, ⟨9, _⟩ => ⟨S160x256, .fp8e4m3⟩
  | .local _ .vmem, ⟨10, _⟩ => ⟨S1x256, .f32⟩
  | .local _ .vmem, ⟨11, _⟩ => ⟨S30x256, .fp8e4m3⟩
  | .local _ .vmem, ⟨12, _⟩ => ⟨S1x256, .f32⟩
  | .local _ .vmem, ⟨13, _⟩ => ⟨S1x1, .f32⟩
  | _, _ => ⟨S256x32x40x120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_0 : Ref sig .tc := ⟨.hbm, 83, rfl⟩
abbrev main_v68 : Ref sig .tc := ⟨.hbm, 84, rfl⟩
abbrev main_v69 : Ref sig .tc := ⟨.hbm, 85, rfl⟩
abbrev main_cst_1 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_2 : Ref sig .tc := ⟨.hbm, 90, rfl⟩
abbrev main_v73 : Ref sig .tc := ⟨.hbm, 91, rfl⟩
abbrev main_cst_3 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81_0 : Ref sig .tc := ⟨.hbm, 100, rfl⟩
abbrev main_v81_1 : Ref sig .tc := ⟨.hbm, 101, rfl⟩
abbrev main_v81_2 : Ref sig .tc := ⟨.hbm, 102, rfl⟩
abbrev main_v81_3 : Ref sig .tc := ⟨.hbm, 103, rfl⟩
abbrev main_v81_4 : Ref sig .tc := ⟨.hbm, 104, rfl⟩
abbrev main_v81_5 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S256x32x40x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x30 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30x160 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S160x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S30x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Requant.lean ====
abbrev S1x1 : Shape := ⟨2, ![1, 1]⟩
abbrev S32x40x160x256 : Shape := ⟨4, ![32, 40, 160, 256]⟩
abbrev S160x256 : Shape := ⟨2, ![160, 256]⟩
abbrev S1x40x160x256 : Shape := ⟨4, ![1, 40, 160, 256]⟩
abbrev S1x1x160x256 : Shape := ⟨4, ![1, 1, 160, 256]⟩

abbrev nBuf : Space → Nat
  | .hbm => 4
  | .vmem => 5
  | .smem => 1
  | _ => 0

abbrev bufTy : (tb : Table) → Fin (tcTables nBuf tb) → BufTy
  | .hbm, ⟨0, _⟩ => ⟨S1x1, .f32⟩
  | .hbm, ⟨1, _⟩ => ⟨S32x40x160x256, .f32⟩
  | .hbm, ⟨2, _⟩ => ⟨S160x256, .f32⟩
  | .hbm, ⟨3, _⟩ => ⟨S32x40x160x256, .i8⟩
  | .local _ .vmem, ⟨0, _⟩ => ⟨S1x40x160x256, .f32⟩
  | .local _ .vmem, ⟨1, _⟩ => ⟨S1x40x160x256, .f32⟩
  | .local _ .vmem, ⟨2, _⟩ => ⟨S160x256, .f32⟩
  | .local _ .vmem, ⟨3, _⟩ => ⟨S1x40x160x256, .i8⟩
  | .local _ .vmem, ⟨4, _⟩ => ⟨S1x40x160x256, .i8⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c40_i32 : BitVec 32 := 40#32
  let v2 : BitVec 32 := Scalar.addi c0_i32 c40_i32
  let c1_i32 : BitVec 32 := 1#32
  ⟨c0_i32, v2, c1_i32⟩
def k0_off1 (k0_t1 : Fin k0_t1_loop.trips) : Fin 4 → Nat :=
  let c0_2 : Index := 0#32
  let c0_i32 : BitVec 32 := 0#32
  let c1_i32 : BitVec 32 := 1#32
  let arg5 : BitVec 32 := Scf.iv c0_i32 c1_i32 k0_t1
  let v3 : Index := Scalar.indexCast arg5
  let c0_3 : Index := 0#32
  let c0_4 : Index := 0#32
  ![0, v3.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x40x160x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x40x160x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRequantIdeal.lean ====
abbrev S1x1 : Shape := ⟨2, ![1, 1]⟩
abbrev S32x40x160x256 : Shape := ⟨4, ![32, 40, 160, 256]⟩
abbrev S160x256 : Shape := ⟨2, ![160, 256]⟩
abbrev S1x1x160x256 : Shape := ⟨4, ![1, 1, 160, 256]⟩

abbrev nBuf : Space → Nat
  | .hbm => 4
  | .vmem => 3
  | .smem => 1
  | _ => 0

abbrev bufTy : (tb : Table) → Fin (tcTables nBuf tb) → BufTy
  | .hbm, ⟨0, _⟩ => ⟨S1x1, .f32⟩
  | .hbm, ⟨1, _⟩ => ⟨S32x40x160x256, .f32⟩
  | .hbm, ⟨2, _⟩ => ⟨S160x256, .f32⟩
  | .hbm, ⟨3, _⟩ => ⟨S32x40x160x256, .i8⟩
  | .local _ .vmem, ⟨0, _⟩ => ⟨S32x40x160x256, .f32⟩
  | .local _ .vmem, ⟨1, _⟩ => ⟨S160x256, .f32⟩
  | .local _ .vmem, ⟨2, _⟩ => ⟨S32x40x160x256, .i8⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x40x160x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x40x160x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.P.State.lean ====
module

public import proofs.«01_k».proof.Proof.Gen.Kernel.Skeleton
public import Idealize.ShloMosaic.Lib.VecWindow

@[expose] public section

set_option maxRecDepth 16384
set_option maxHeartbeats 4000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-! ## What the kernel's buffers hold, as plain functions of what they held before -/

/-- The four-slot ring of input rows. -/
abbrev Ring (F : FTy → Type) := Vec F S4x42x128x256 .bf16
/-- A channels by batch tile. -/
abbrev Tile (F : FTy → Type) := Vec F S160x256 .f32

/-- The first loop at point `i` on the input row block `X`: columns below `k` of the row cast and put into the ring. -/
def ringK (i : grid0.Coords) (h2 : k0_cond2 i = 1#1) (X : Vec F S1x40x120x256 .i8) (R : Ring F) : ℕ → Ring F
  | 0 => R
  | k + 1 => if h : k < k0_t1_loop.trips then
      VecWindow.put (ringK i h2 X R k) (k0_off2 i ⟨k, h⟩) S1x1x120x256.size
        (k0_pay1 (VecWindow.window X (k0_off1 ⟨k, h⟩) S1x1x120x256.size (k0_off1_inb i ⟨k, h⟩ h2)))
    else ringK i h2 X R k

/-- One more trip of the first loop. -/
theorem ringK_succ (i : grid0.Coords) (h2 : k0_cond2 i = 1#1) (X : Vec F S1x40x120x256 .i8) (R : Ring F) (k : Fin k0_t1_loop.trips) :
    ringK i h2 X R (k.val + 1) = VecWindow.put (ringK i h2 X R k.val) (k0_off2 i k) S1x1x120x256.size
        (k0_pay1 (VecWindow.window X (k0_off1 k) S1x1x120x256.size (k0_off1_inb i k h2))) := by
  rw [ringK, dif_pos k.isLt]

/-- The ring's three neighbouring columns the second loop's trip `k` reads for kernel row `0`, `1` or `2`. -/
def patch (i : grid0.Coords) (h4 : k0_cond4 i = 1#1) (R : Ring F) (k : Fin k0_t2_loop.trips) (r : Fin 3) : Vec F S1x3x128x256 .bf16 :=
  VecWindow.window R (k0_off4 i k (BitVec.ofNat 32 r.val)) S1x3x128x256.size (k0_off4_inb i k h4 r)

/-- One kernel row of the packed weights. -/
def wrow (W : Vec F S3x160x384 .i8) (r : Fin 3) : Vec F S1x160x384 .i8 :=
  match r with
  | 0 => VecWindow.window W ![0, 0, 0] S1x160x384.size inb_S3x160x384_S1x160x384_0_0_0
  | 1 => VecWindow.window W ![1, 0, 0] S1x160x384.size inb_S3x160x384_S1x160x384_1_0_0
  | 2 => VecWindow.window W ![2, 0, 0] S1x160x384.size inb_S3x160x384_S1x160x384_2_0_0

/-- The sum over kernel rows `0` and `1` at trip `k`. -/
def acc2 (i : grid0.Coords) (h4 : k0_cond4 i = 1#1) (W : Vec F S3x160x384 .i8) (R : Ring F) (k : Fin k0_t2_loop.trips) : FVec F S160x256 .f32 :=
  k0_pay13 (patch i h4 R k 0) (wrow W 0) (patch i h4 R k 1) (wrow W 1)

/-- The activation tile of trip `k` (one output column). -/
def actTile (i : grid0.Coords) (h4 : k0_cond4 i = 1#1) (W : Vec F S3x160x384 .i8) (R : Ring F) (S B : Tile F) (k : Fin k0_t2_loop.trips) : FVec F S160x256 .f32 :=
  k0_pay3 (acc2 i h4 W R k) (patch i h4 R k 2) (wrow W 2) S B

/-- The output block after the trips below `k`: their columns at their tiles, the others as before. -/
def blkK (i : grid0.Coords) (h4 : k0_cond4 i = 1#1) (W : Vec F S3x160x384 .i8) (R : Ring F) (S B : Tile F) (A : Vec F S1x40x160x256 .f32) : ℕ → Vec F S1x40x160x256 .f32
  | 0 => A
  | k + 1 => if h : k < k0_t2_loop.trips then
      VecWindow.put (blkK i h4 W R S B A k) (k0_off5 ⟨k, h⟩) S1x1x160x256.size
        (k0_pay4 (acc2 i h4 W R ⟨k, h⟩) (patch i h4 R ⟨k, h⟩ 2) (wrow W 2) S B)
    else blkK i h4 W R S B A k

/-- One more trip of the second loop, for the output block. -/
theorem blkK_succ (i : grid0.Coords) (h4 : k0_cond4 i = 1#1) (W : Vec F S3x160x384 .i8) (R : Ring F) (S B : Tile F) (A : Vec F S1x40x160x256 .f32) (k : Fin k0_t2_loop.trips) :
    blkK i h4 W R S B A (k.val + 1) = VecWindow.put (blkK i h4 W R S B A k.val) (k0_off5 k) S1x1x160x256.size
        (k0_pay4 (acc2 i h4 W R k) (patch i h4 R k 2) (wrow W 2) S B) := by
  rw [blkK, dif_pos k.isLt]

/-- The running sum of the tiles of the trips below `k`. -/
def sumK (i : grid0.Coords) (h4 : k0_cond4 i = 1#1) (W : Vec F S3x160x384 .i8) (R : Ring F) (S B P : Tile F) : ℕ → Tile F
  | 0 => P
  | k + 1 => if h : k < k0_t2_loop.trips then
      k0_pay5 (acc2 i h4 W R ⟨k, h⟩) (patch i h4 R ⟨k, h⟩ 2) (wrow W 2) S B (sumK i h4 W R S B P k)
    else sumK i h4 W R S B P k

/-- One more trip of the second loop, for the running sum. -/
theorem sumK_succ (i : grid0.Coords) (h4 : k0_cond4 i = 1#1) (W : Vec F S3x160x384 .i8) (R : Ring F) (S B P : Tile F) (k : Fin k0_t2_loop.trips) :
    sumK i h4 W R S B P (k.val + 1)
      = k0_pay5 (acc2 i h4 W R k) (patch i h4 R k 2) (wrow W 2) S B (sumK i h4 W R S B P k.val) := by
  rw [sumK, dif_pos k.isLt]

/-- The running maximum of the tiles' absolute values over the trips below `k`. -/
def maxK (i : grid0.Coords) (h4 : k0_cond4 i = 1#1) (W : Vec F S3x160x384 .i8) (R : Ring F) (S B M : Tile F) : ℕ → Tile F
  | 0 => M
  | k + 1 => if h : k < k0_t2_loop.trips then
      k0_pay6 (acc2 i h4 W R ⟨k, h⟩) (patch i h4 R ⟨k, h⟩ 2) (wrow W 2) S B (maxK i h4 W R S B M k)
    else maxK i h4 W R S B M k

/-- One more trip of the second loop, for the running maximum. -/
theorem maxK_succ (i : grid0.Coords) (h4 : k0_cond4 i = 1#1) (W : Vec F S3x160x384 .i8) (R : Ring F) (S B M : Tile F) (k : Fin k0_t2_loop.trips) :
    maxK i h4 W R S B M (k.val + 1)
      = k0_pay6 (acc2 i h4 W R k) (patch i h4 R k 2) (wrow W 2) S B (maxK i h4 W R S B M k.val) := by
  rw [maxK, dif_pos k.isLt]

end Cert.Kernel.Run

end
-- ==== Proof.P.Tail.lean ====
module

public import proofs.«01_k».proof.Proof.P.State

@[expose] public section

set_option maxRecDepth 16384
set_option maxHeartbeats 4000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-! ## What the last point computes from the running sum `P`, as plain functions -/
variable (P : Tile F) (X7 : Vec F S30x160 .fp8e4m3) (X8 X9 : Vec F S30x1 .f32) (X10 : Vec F S160x30 .fp8e4m3) (X11 X12 : Vec F S160x1 .f32)
/-- The pooled features' codes. -/
def pCodes : FVec F S160x256 .fp8e4m3 := k0_pay16 P
/-- The pooled features' scales. -/
def pScale : FVec F S1x256 .f32 := k0_pay19 (F := F) (k0_pay17 P) k0_pay18
/-- The hidden layer. -/
def hid : FVec F S30x256 .f32 := k0_pay20 (k0_pay16 P) (k0_pay17 P) k0_pay18 X7 X8 X9
/-- Where the hidden layer's largest magnitude underflows to nothing. -/
def hZero : IVec S1x256 1 := k0_pay22 (k0_pay16 P) (k0_pay17 P) k0_pay18 X7 X8 X9
/-- The hidden layer's scale exponents. -/
def hExp : IVec S1x256 32 := k0_pay23 (k0_pay16 P) (k0_pay17 P) k0_pay18 X7 X8 X9
/-- The hidden layer's codes. -/
def hCodes : FVec F S30x256 .fp8e4m3 := k0_pay25 (hid P X7 X8 X9) (hZero P X7 X8 X9) (hExp P X7 X8 X9)
/-- The hidden layer's scales. -/
def hScale : FVec F S1x256 .f32 := k0_pay26 (F := F) (hZero P X7 X8 X9) (hExp P X7 X8 X9)
/-- The gate. -/
def gate : FVec F S160x256 .f32 := k0_pay27 (hid P X7 X8 X9) (hZero P X7 X8 X9) (hExp P X7 X8 X9) X10 X11 X12
/-- The output scale, from the gate and the running maximum `M`. -/
def yScale (M : Tile F) : F .f32 := k0_pay7 (gate P X7 X8 X9 X10 X11 X12) M

end Cert.Kernel.Run

end
-- ==== Proof.P.Dats.lean ====
module

public import proofs.«01_k».proof.Proof.P.Tail
public import proofs.«01_k».proof.Proof.Gen.Kernel.Frame

@[expose] public section

set_option maxRecDepth 16384
set_option maxHeartbeats 4000000

noncomputable section

/-! What the scratch buffers and the windows hold at every point, and the pipeline's proof data. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

/-- The first step's condition holds at the first point alone. -/
theorem cond1_iff : ∀ t : Fin cfg0.N, Scalar.cmpi .ne (Scalar.extui (Scalar.cmpi .eq (BitVec.ofNat 32 ((grid0.coords t) 0).val) 0#32) : BitVec 32) 0#32 = 1#1 ↔ t.val = 0 := by
  change ∀ t : Fin grid0.N, _; decide +kernel
/-- The condition for taking in an image row holds at the points before the last. -/
theorem cond2_iff : ∀ t : Fin cfg0.N, k0_cond2 (grid0.coords t) = 1#1 ↔ t.val < 32 := by
  change ∀ t : Fin grid0.N, _; decide +kernel
/-- The condition for zeroing a ring slot holds at the last point alone. -/
theorem cond3_iff : ∀ t : Fin cfg0.N, k0_cond3 (grid0.coords t) = 1#1 ↔ t.val = 32 := by
  change ∀ t : Fin grid0.N, _; decide +kernel
/-- The condition for computing an output row holds at every point but the first. -/
theorem cond4_iff : ∀ t : Fin cfg0.N, k0_cond4 (grid0.coords t) = 1#1 ↔ t.val ≠ 0 := by
  change ∀ t : Fin grid0.N, _; decide +kernel
/-- The condition for the closing computation holds at the last point alone. -/
theorem cond5_iff : ∀ t : Fin cfg0.N, k0_cond5 (grid0.coords t) = 1#1 ↔ t.val = 32 := by
  change ∀ t : Fin grid0.N, _; decide +kernel

/-- The trips of the second loop are the 40 columns. -/
theorem trips2 : k0_t2_loop.trips = 40 := by decide +kernel

/-- An output block's index lies in the window of its own column. -/
theorem mem_col (y : S1x40x160x256.Idx) (k : Fin k0_t2_loop.trips) (h : (y 1).val = k.val) :
    ∀ a, k0_off5 k a ≤ (y a).val ∧ (y a).val < k0_off5 k a + S1x1x160x256.size a := by
  rw [k0_off5_eq k]
  intro a
  have h0 : (y 0).val < 1 := (y 0).isLt
  have h2 : (y 2).val < 160 := (y 2).isLt
  have h3 : (y 3).val < 256 := (y 3).isLt
  fin_cases a
  · exact ⟨Nat.zero_le _, by simpa using h0⟩
  · exact ⟨h.symm.le, by simpa [h] using Nat.lt_succ_self _⟩
  · exact ⟨Nat.zero_le _, by simpa using h2⟩
  · exact ⟨Nat.zero_le _, by simpa using h3⟩

/-- The column of an output block's index, as a trip of the second loop. -/
def colOf (y : S1x40x160x256.Idx) : Fin k0_t2_loop.trips := ⟨(y 1).val, trips2.symm ▸ (y 1).isLt⟩

/-- The output block: every column at its tile. -/
def ablk (i : grid0.Coords) (h4 : k0_cond4 i = 1#1) (W : Vec F S3x160x384 .i8) (R : Ring F) (S B : Tile F) : Vec F S1x40x160x256 .f32 := fun y =>
  k0_pay4 (acc2 i h4 W R (colOf y)) (patch i h4 R (colOf y) 2) (wrow W 2) S B (Rect.unitLocal (s := S1x40x160x256) (off := k0_off5 (colOf y)) (size := S1x1x160x256.size) y (mem_col y (colOf y) rfl))

/-- The columns already put in are at their tiles. -/
theorem blkK_eq (i : grid0.Coords) (h4 : k0_cond4 i = 1#1) (W : Vec F S3x160x384 .i8) (R : Ring F) (S B : Tile F) (A : Vec F S1x40x160x256 .f32) (n : ℕ)
    (hn : n ≤ k0_t2_loop.trips) (y : S1x40x160x256.Idx) (hy : (y 1).val < n) : blkK i h4 W R S B A n y = ablk i h4 W R S B y := by
  induction n with
  | zero => exact absurd hy (Nat.not_lt_zero _)
  | succ n ih =>
    rw [blkK, dif_pos (show n < k0_t2_loop.trips from hn)]
    unfold VecWindow.put
    by_cases hc : (y 1).val = n
    · rw [dif_pos (mem_col y ⟨n, hn⟩ hc)]
      unfold ablk
      have e : colOf y = ⟨n, hn⟩ := Fin.ext hc
      have key : ∀ (k k' : Fin k0_t2_loop.trips) (e : k = k') (h : _) (h' : _),
          k0_pay4 (acc2 i h4 W R k) (patch i h4 R k 2) (wrow W 2) S B (Rect.unitLocal (s := S1x40x160x256) (off := k0_off5 k) (size := S1x1x160x256.size) y h)
          = k0_pay4 (acc2 i h4 W R k') (patch i h4 R k' 2) (wrow W 2) S B (Rect.unitLocal (s := S1x40x160x256) (off := k0_off5 k') (size := S1x1x160x256.size) y h') := by
        intro k k' e h h'; subst e; rfl
      exact key _ _ e.symm _ _
    · rw [dif_neg, ih (Nat.le_of_succ_le hn) (by omega)]
      intro hall
      have h1 := hall 1
      rw [k0_off5_eq ⟨n, hn⟩] at h1
      have a1 : n ≤ (y 1).val := h1.1
      have a2 : (y 1).val < n + 1 := h1.2
      omega

/-- After all the trips the whole block is at its tiles, whatever it held. -/
theorem blkK_all (i : grid0.Coords) (h4 : k0_cond4 i = 1#1) (W : Vec F S3x160x384 .i8) (R : Ring F) (S B : Tile F) (A : Vec F S1x40x160x256 .f32) :
    blkK i h4 W R S B A k0_t2_loop.trips = ablk i h4 W R S B :=
  funext fun y => blkK_eq i h4 W R S B A _ le_rfl y (trips2.symm ▸ (y 1).isLt)

/-- What the scratch buffers hold between points. -/
structure St (F : FTy → Type) where
  /-- the four input rows kept -/
  ring : Ring F
  /-- the scale, broadcast -/
  sc : Tile F
  /-- the bias, broadcast -/
  bi : Tile F
  /-- the running sum -/
  sum : Tile F
  /-- the running maximum -/
  mx : Tile F

/-- The first point. -/
def stA (i : grid0.Coords) (h2 : k0_cond2 i = 1#1) (X1 : Vec F S1x40x120x256 .i8) (X3 : Vec F S1x256 .f32) (X4 X5 X6 : Vec F S160x1 .f32) : St F :=
  ⟨ringK i h2 X1 (k0_pay8 (F := F)) k0_t1_loop.trips, k0_pay9 X3 X4 X5, k0_pay10 X6, k0_pay11, k0_pay12⟩

/-- An output row computed and accumulated from the ring `R`. -/
def accum (i : grid0.Coords) (h4 : k0_cond4 i = 1#1) (X2 : Vec F S3x160x384 .i8) (R : Ring F) (s : St F) : St F :=
  ⟨R, s.sc, s.bi, sumK i h4 X2 R s.sc s.bi s.sum k0_t2_loop.trips, maxK i h4 X2 R s.sc s.bi s.mx k0_t2_loop.trips⟩

/-- A middle point. -/
def stB (i : grid0.Coords) (h2 : k0_cond2 i = 1#1) (h4 : k0_cond4 i = 1#1) (X1 : Vec F S1x40x120x256 .i8) (X2 : Vec F S3x160x384 .i8) (s : St F) : St F :=
  accum i h4 X2 (ringK i h2 X1 s.ring k0_t1_loop.trips) s

/-- The last point. -/
def stC (i : grid0.Coords) (h4 : k0_cond4 i = 1#1) (X2 : Vec F S3x160x384 .i8) (s : St F) : St F :=
  accum i h4 X2 (VecWindow.put s.ring (k0_off3 i) S1x42x128x256.size (k0_pay2 (F := F))) s

variable (m : (ℓ : Loc nD τ sig) → Buf (Elt F) ℓ) (ρ : Dev nD → PrngReg)

/-- What the scratch holds after point `n`. -/
def st (c : Dev nD) : (n : ℕ) → n < cfg0.N → St F
  | 0, h => stA (grid0.coords ⟨0, h⟩) ((cond2_iff ⟨0, h⟩).2 (by show 0 < 32; omega)) (iblk m c 0 ⟨0, h⟩) (iblk m c 2 ⟨0, h⟩) (iblk m c 3 ⟨0, h⟩) (iblk m c 4 ⟨0, h⟩) (iblk m c 5 ⟨0, h⟩)
  | n + 1, h => if h' : n + 1 < 32 then
      stB (grid0.coords ⟨n + 1, h⟩) ((cond2_iff ⟨n + 1, h⟩).2 h') ((cond4_iff ⟨n + 1, h⟩).2 (by show n + 1 ≠ 0; omega)) (iblk m c 0 ⟨n + 1, h⟩) (iblk m c 1 ⟨n + 1, h⟩) (st c n (Nat.lt_of_succ_lt h))
    else stC (grid0.coords ⟨n + 1, h⟩) ((cond4_iff ⟨n + 1, h⟩).2 (by show n + 1 ≠ 0; omega)) (iblk m c 1 ⟨n + 1, h⟩) (st c n (Nat.lt_of_succ_lt h))

/-- The scratch buffers after the first point. -/
theorem st_A (c : Dev nD) (t : Fin cfg0.N) (ht : t.val = 0) (h2 : k0_cond2 (grid0.coords t) = 1#1) :
    st m c t.val t.isLt = stA (grid0.coords t) h2 (iblk m c 0 t) (iblk m c 2 t) (iblk m c 3 t) (iblk m c 4 t) (iblk m c 5 t) := by
  obtain ⟨n, hn⟩ := t; subst ht; rfl

/-- The scratch buffers after a point in between. -/
theorem st_B (c : Dev nD) (t : Fin cfg0.N) (h0 : t.val ≠ 0) (ht : t.val < 32) (h2 : k0_cond2 (grid0.coords t) = 1#1) (h4 : k0_cond4 (grid0.coords t) = 1#1) :
    st m c t.val t.isLt = stB (grid0.coords t) h2 h4 (iblk m c 0 t) (iblk m c 1 t) (st m c (t.val - 1) (by omega)) := by
  obtain ⟨n, hn⟩ := t
  cases n with
  | zero => exact absurd rfl h0
  | succ n => exact dif_pos ht

/-- The scratch buffers after the last point. -/
theorem st_C (c : Dev nD) (t : Fin cfg0.N) (ht : t.val = 32) (h4 : k0_cond4 (grid0.coords t) = 1#1) :
    st m c t.val t.isLt = stC (grid0.coords t) h4 (iblk m c 1 t) (st m c (t.val - 1) (by omega)) := by
  obtain ⟨n, hn⟩ := t
  cases n with
  | zero => exact absurd ht (by show ¬ 0 = 32; omega)
  | succ n => exact dif_neg (by have : n + 1 = 32 := ht; omega)

/-- A value to name for the block of a point that computes none. -/
def someBlk : Vec F S1x40x160x256 .f32 := fun _ => (k0_pay11 (F := F)) (fun a => ⟨0, by fin_cases a <;> decide⟩)

/-- The output block after point `t`. -/
def ablkAt (c : Dev nD) (t : Fin cfg0.N) : Vec F S1x40x160x256 .f32 :=
  if h4 : k0_cond4 (grid0.coords t) = 1#1 then
    ablk (grid0.coords t) h4 (iblk m c 1 t) (st m c t.val t.isLt).ring (st m c t.val t.isLt).sc (st m c t.val t.isLt).bi
  else someBlk

/-- Scratch buffer 0. -/
abbrev scM0 : Memref sig .tc .vmem S4x42x128x256 .bf16 := Memref.whole cc0_scratch0
/-- Scratch buffer 1. -/
abbrev scM1 : Memref sig .tc .vmem S160x256 .f32 := Memref.whole cc0_scratch1
/-- Scratch buffer 2. -/
abbrev scM2 : Memref sig .tc .vmem S160x256 .f32 := Memref.whole cc0_scratch2
/-- Scratch buffer 3. -/
abbrev scM3 : Memref sig .tc .vmem S160x256 .f32 := Memref.whole cc0_scratch3
/-- Scratch buffer 4. -/
abbrev scM4 : Memref sig .tc .vmem S160x256 .f32 := Memref.whole cc0_scratch4

/-- The launch's invariant, the scratch buffers as memrefs. -/
theorem PhiA_eq (c : Dev nD) : (Pipeline.ΦA spec0 c : sProp 𝕄G)
    = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-- The invariant after point `n`: each scratch buffer at what the point left in it. -/
def PhiAt (c : Dev nD) (s : St F) : sProp 𝕄G :=
  iprop(iprop(owns (c : Thread nD τ) scM0 fullShare s.ring ∗ owns (c : Thread nD τ) scM1 fullShare s.sc ∗ owns (c : Thread nD τ) scM2 fullShare s.bi ∗ owns (c : Thread nD τ) scM3 fullShare s.sum ∗ owns (c : Thread nD τ) scM4 fullShare s.mx) ∗ (∃ r, prngReg c r))

/-- The invariant before position `n`. -/
def PhiS (c : Dev nD) : (n : ℕ) → n ≤ cfg0.N → sProp 𝕄G
  | 0, _ => Pipeline.ΦA spec0 c
  | n + 1, hn => PhiAt c (st m c n hn)

/-- The invariant before the first point. -/
theorem PhiS_zero (c : Dev nD) (n : ℕ) (h : n ≤ cfg0.N) (hz : n = 0) : PhiS m c n h = Pipeline.ΦA spec0 c := by
  subst hz; rfl

/-- The invariant before a later point. -/
theorem PhiS_pos (c : Dev nD) (n : ℕ) (h : n ≤ cfg0.N) (hz : n ≠ 0) : PhiS m c n h = PhiAt c (st m c (n - 1) (by omega)) := by
  cases n with
  | zero => exact absurd rfl hz
  | succ n => rfl

/-- The pipeline's proof data: inputs at their blocks, the output block at its tiles, the last point's results as functions of
    the running sum and maximum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => ablkAt m c t
    | ⟨13, _⟩ => gate (st m c t.val t.isLt).sum (iblk m c 6 t) (iblk m c 7 t) (iblk m c 8 t) (iblk m c 9 t) (iblk m c 10 t) (iblk m c 11 t)
    | ⟨14, _⟩ => pCodes (st m c t.val t.isLt).sum
    | ⟨15, _⟩ => pScale (st m c t.val t.isLt).sum
    | ⟨16, _⟩ => hCodes (st m c t.val t.isLt).sum (iblk m c 6 t) (iblk m c 7 t) (iblk m c 8 t)
    | ⟨17, _⟩ => hScale (st m c t.val t.isLt).sum (iblk m c 6 t) (iblk m c 7 t) (iblk m c 8 t)
    | ⟨18, _⟩ => (fun _ => yScale (st m c t.val t.isLt).sum (iblk m c 6 t) (iblk m c 7 t) (iblk m c 8 t) (iblk m c 9 t) (iblk m c 10 t) (iblk m c 11 t) (st m c t.val t.isLt).mx)
    | ⟨n + 19, h⟩ => absurd h (by show ¬ n + 19 < 19; omega)
  Φ t := PhiS m c t.val (Nat.le_of_lt_succ t.isLt)
  q _ := fullShare
  owed _ := 0

/-- The windows' arrays hold what they hold at the region's entry. -/
theorem A_eq (c : Dev nD) (w : Fin cfg0.W) : (dats m 0 c).A w = V m c (Pipeline.arrRef spec0 w) := by
  dsimp only [dats]

/-- The proof data's invariant before a point. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- What the launch hands the region is the invariant before the first point. -/
theorem hin (c : Dev nD) : (Pipeline.ΦA spec0 c : sProp 𝕄G) ⊢ (dats m 0 c).Φ 0 := by
  rw [show (dats m 0 c).Φ 0 = PhiS m c 0 (Nat.zero_le _) from rfl, PhiS_zero m c 0 _ rfl]

/-- After the last point the invariant gives the scratch back. -/
theorem hout (c : Dev nD) : (dats m 0 c).Φ (Fin.last cfg0.N) ⊢ (Pipeline.ΦA spec0 c : sProp 𝕄G) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA_eq]
  unfold PhiAt
  iintro ⟨⟨H0, H1, H2, H3, H4⟩, Hr⟩
  isplitl [H0 H1 H2 H3 H4]
  · isplitl [H0]
    · iexists _; iexact H0
    isplitl [H1]
    · iexists _; iexact H1
    isplitl [H2]
    · iexists _; iexact H2
    isplitl [H3]
    · iexists _; iexact H3
    iexists _; iexact H4
  · iexact Hr

/-- What window 0 holds after the body at a point. -/
theorem after_0 (c : Dev nD) (t : Fin cfg0.N) : (dats m 0 c).after 0 t = iblk m c 0 t := by dsimp only [dats]
/-- What window 1 holds after the body at a point. -/
theorem after_1 (c : Dev nD) (t : Fin cfg0.N) : (dats m 0 c).after 1 t = iblk m c 1 t := by dsimp only [dats]
/-- What window 2 holds after the body at a point. -/
theorem after_2 (c : Dev nD) (t : Fin cfg0.N) : (dats m 0 c).after 2 t = iblk m c 2 t := by dsimp only [dats]
/-- What window 3 holds after the body at a point. -/
theorem after_3 (c : Dev nD) (t : Fin cfg0.N) : (dats m 0 c).after 3 t = iblk m c 3 t := by dsimp only [dats]
/-- What window 4 holds after the body at a point. -/
theorem after_4 (c : Dev nD) (t : Fin cfg0.N) : (dats m 0 c).after 4 t = iblk m c 4 t := by dsimp only [dats]
/-- What window 5 holds after the body at a point. -/
theorem after_5 (c : Dev nD) (t : Fin cfg0.N) : (dats m 0 c).after 5 t = iblk m c 5 t := by dsimp only [dats]
/-- What window 6 holds after the body at a point. -/
theorem after_6 (c : Dev nD) (t : Fin cfg0.N) : (dats m 0 c).after 6 t = iblk m c 6 t := by dsimp only [dats]
/-- What window 7 holds after the body at a point. -/
theorem after_7 (c : Dev nD) (t : Fin cfg0.N) : (dats m 0 c).after 7 t = iblk m c 7 t := by dsimp only [dats]
/-- What window 8 holds after the body at a point. -/
theorem after_8 (c : Dev nD) (t : Fin cfg0.N) : (dats m 0 c).after 8 t = iblk m c 8 t := by dsimp only [dats]
/-- What window 9 holds after the body at a point. -/
theorem after_9 (c : Dev nD) (t : Fin cfg0.N) : (dats m 0 c).after 9 t = iblk m c 9 t := by dsimp only [dats]
/-- What window 10 holds after the body at a point. -/
theorem after_10 (c : Dev nD) (t : Fin cfg0.N) : (dats m 0 c).after 10 t = iblk m c 10 t := by dsimp only [dats]
/-- What window 11 holds after the body at a point. -/
theorem after_11 (c : Dev nD) (t : Fin cfg0.N) : (dats m 0 c).after 11 t = iblk m c 11 t := by dsimp only [dats]
/-- Input window 0 holds its block before the body at every point. -/
theorem before_0 (c : Dev nD) (t : Fin cfg0.N) (d) : (dats m 0 c).before 0 t d = iblk m c 0 t :=
  before0_0_of m (dats m 0 c) (A_eq m c 0) (after_0 m c) t d
/-- Input window 1 holds its block before the body at every point. -/
theorem before_1 (c : Dev nD) (t : Fin cfg0.N) (d) : (dats m 0 c).before 1 t d = iblk m c 1 t :=
  before0_1_of m (dats m 0 c) (A_eq m c 1) (after_1 m c) t d
/-- Input window 2 holds its block before the body at every point. -/
theorem before_2 (c : Dev nD) (t : Fin cfg0.N) (d) : (dats m 0 c).before 2 t d = iblk m c 2 t :=
  before0_2_of m (dats m 0 c) (A_eq m c 2) (after_2 m c) t d
/-- Input window 3 holds its block before the body at every point. -/
theorem before_3 (c : Dev nD) (t : Fin cfg0.N) (d) : (dats m 0 c).before 3 t d = iblk m c 3 t :=
  before0_3_of m (dats m 0 c) (A_eq m c 3) (after_3 m c) t d
/-- Input window 4 holds its block before the body at every point. -/
theorem before_4 (c : Dev nD) (t : Fin cfg0.N) (d) : (dats m 0 c).before 4 t d = iblk m c 4 t :=
  before0_4_of m (dats m 0 c) (A_eq m c 4) (after_4 m c) t d
/-- Input window 5 holds its block before the body at every point. -/
theorem before_5 (c : Dev nD) (t : Fin cfg0.N) (d) : (dats m 0 c).before 5 t d = iblk m c 5 t :=
  before0_5_of m (dats m 0 c) (A_eq m c 5) (after_5 m c) t d
/-- Input window 6 holds its block before the body at every point. -/
theorem before_6 (c : Dev nD) (t : Fin cfg0.N) (d) : (dats m 0 c).before 6 t d = iblk m c 6 t :=
  before0_6_of m (dats m 0 c) (A_eq m c 6) (after_6 m c) t d
/-- Input window 7 holds its block before the body at every point. -/
theorem before_7 (c : Dev nD) (t : Fin cfg0.N) (d) : (dats m 0 c).before 7 t d = iblk m c 7 t :=
  before0_7_of m (dats m 0 c) (A_eq m c 7) (after_7 m c) t d
/-- Input window 8 holds its block before the body at every point. -/
theorem before_8 (c : Dev nD) (t : Fin cfg0.N) (d) : (dats m 0 c).before 8 t d = iblk m c 8 t :=
  before0_8_of m (dats m 0 c) (A_eq m c 8) (after_8 m c) t d
/-- Input window 9 holds its block before the body at every point. -/
theorem before_9 (c : Dev nD) (t : Fin cfg0.N) (d) : (dats m 0 c).before 9 t d = iblk m c 9 t :=
  before0_9_of m (dats m 0 c) (A_eq m c 9) (after_9 m c) t d
/-- Input window 10 holds its block before the body at every point. -/
theorem before_10 (c : Dev nD) (t : Fin cfg0.N) (d) : (dats m 0 c).before 10 t d = iblk m c 10 t :=
  before0_10_of m (dats m 0 c) (A_eq m c 10) (after_10 m c) t d
/-- Input window 11 holds its block before the body at every point. -/
theorem before_11 (c : Dev nD) (t : Fin cfg0.N) (d) : (dats m 0 c).before 11 t d = iblk m c 11 t :=
  before0_11_of m (dats m 0 c) (A_eq m c 11) (after_11 m c) t d

end Cert.Kernel.Run

end
-- ==== Proof.P.Leaves.lean ====
module

public import proofs.«01_k».proof.Proof.P.Dats

@[expose] public section

set_option maxRecDepth 16384
set_option maxHeartbeats 4000000

noncomputable section

/-! What the body is called with and what it leaves, window by window. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- What the body is called with at point `t`, window by window. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- What it returns: inputs as they were; an output stored at this point at its value, one left alone as it was. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- The points at which window 12 is not written. -/
theorem idle12 (t : Fin cfg0.N) : cfg0.idle 12 (cfg0.grid.coords t) = !(k0_cond4 (grid0.coords t) == 1#1) := rfl
/-- The points at which window 13 is not written. -/
theorem idle13 (t : Fin cfg0.N) : cfg0.idle 13 (cfg0.grid.coords t) = !(k0_cond5 (grid0.coords t) == 1#1) := rfl
/-- The points at which window 14 is not written. -/
theorem idle14 (t : Fin cfg0.N) : cfg0.idle 14 (cfg0.grid.coords t) = !(k0_cond5 (grid0.coords t) == 1#1) := rfl
/-- The points at which window 15 is not written. -/
theorem idle15 (t : Fin cfg0.N) : cfg0.idle 15 (cfg0.grid.coords t) = !(k0_cond5 (grid0.coords t) == 1#1) := rfl
/-- The points at which window 16 is not written. -/
theorem idle16 (t : Fin cfg0.N) : cfg0.idle 16 (cfg0.grid.coords t) = !(k0_cond5 (grid0.coords t) == 1#1) := rfl
/-- The points at which window 17 is not written. -/
theorem idle17 (t : Fin cfg0.N) : cfg0.idle 17 (cfg0.grid.coords t) = !(k0_cond5 (grid0.coords t) == 1#1) := rfl
/-- The points at which window 18 is not written. -/
theorem idle18 (t : Fin cfg0.N) : cfg0.idle 18 (cfg0.grid.coords t) = !(k0_cond5 (grid0.coords t) == 1#1) := rfl

/-- A point that does not write window 12 does not write it back. -/
theorem noflush12 : ∀ t : Fin cfg0.N, t.val = 0 → (cfg0.win 12).flush t = false := by
  intro t ht
  have key : ∀ t : Fin grid0.N, t.val = 0 → win0_12.flush t = false := by decide +kernel
  exact key t ht
/-- A point that does not write window 13 does not write it back. -/
theorem noflush13 (t : Fin cfg0.N) (ht : t.val ≠ 32) : (cfg0.win 13).flush t = false := by
  have h := flush0_13 t
  have hN : t.val < 33 := t.isLt
  cases hf : (cfg0.win 13).flush t
  · rfl
  · have := h.1 hf; omega
/-- A point that does not write window 14 does not write it back. -/
theorem noflush14 (t : Fin cfg0.N) (ht : t.val ≠ 32) : (cfg0.win 14).flush t = false := by
  have h := flush0_14 t
  have hN : t.val < 33 := t.isLt
  cases hf : (cfg0.win 14).flush t
  · rfl
  · have := h.1 hf; omega
/-- A point that does not write window 15 does not write it back. -/
theorem noflush15 (t : Fin cfg0.N) (ht : t.val ≠ 32) : (cfg0.win 15).flush t = false := by
  have h := flush0_15 t
  have hN : t.val < 33 := t.isLt
  cases hf : (cfg0.win 15).flush t
  · rfl
  · have := h.1 hf; omega
/-- A point that does not write window 16 does not write it back. -/
theorem noflush16 (t : Fin cfg0.N) (ht : t.val ≠ 32) : (cfg0.win 16).flush t = false := by
  have h := flush0_16 t
  have hN : t.val < 33 := t.isLt
  cases hf : (cfg0.win 16).flush t
  · rfl
  · have := h.1 hf; omega
/-- A point that does not write window 17 does not write it back. -/
theorem noflush17 (t : Fin cfg0.N) (ht : t.val ≠ 32) : (cfg0.win 17).flush t = false := by
  have h := flush0_17 t
  have hN : t.val < 33 := t.isLt
  cases hf : (cfg0.win 17).flush t
  · rfl
  · have := h.1 hf; omega
/-- A point that does not write window 18 does not write it back. -/
theorem noflush18 (t : Fin cfg0.N) (ht : t.val ≠ 32) : (cfg0.win 18).flush t = false := by
  have h := flush0_18 t
  have hN : t.val < 33 := t.isLt
  cases hf : (cfg0.win 18).flush t
  · rfl
  · have := h.1 hf; omega

/-- What the body leaves in window 12 at a point that writes it. -/
theorem leaves_on12 (c : Dev nD) (t : Fin cfg0.N) (h : t.val ≠ 0) :
    (dats m 0 c).leavesExact 12 t = (owns (c : Thread nD τ) (st0_12 t) fullShare ((dats m 0 c).after 12 t) : sProp 𝕄G) := by
  have hi : cfg0.idle 12 (cfg0.grid.coords t) = false := by rw [idle12, (cond4_iff t).2 h]; rfl
  unfold Dat.leavesExact; rw [hi]
/-- What the body leaves in window 12 at a point that does not write it. -/
theorem leaves_off12 (c : Dev nD) (t : Fin cfg0.N) (h : ¬ t.val ≠ 0) :
    (dats m 0 c).leavesExact 12 t = (iprop(∃ d, owns (c : Thread nD τ) (st0_12 t) fullShare ((dats m 0 c).before 12 t d)) : sProp 𝕄G) := by
  have hi : cfg0.idle 12 (cfg0.grid.coords t) = true := by
    rw [idle12]
    have hc : ¬ k0_cond4 (grid0.coords t) = 1#1 := fun hc => h ((cond4_iff t).1 hc)
    simp only [Bool.not_eq_true', beq_eq_false_iff_ne, ne_eq]; exact hc
  exact Dat.leavesExact_idle _ _ _ hi (noflush12 t (not_not.1 h))

/-- What the body leaves in window 13 at a point that writes it. -/
theorem leaves_on13 (c : Dev nD) (t : Fin cfg0.N) (h : t.val = 32) :
    (dats m 0 c).leavesExact 13 t = (owns (c : Thread nD τ) (st0_13 t) fullShare ((dats m 0 c).after 13 t) : sProp 𝕄G) := by
  have hi : cfg0.idle 13 (cfg0.grid.coords t) = false := by rw [idle13, (cond5_iff t).2 h]; rfl
  unfold Dat.leavesExact; rw [hi]
/-- What the body leaves in window 13 at a point that does not write it. -/
theorem leaves_off13 (c : Dev nD) (t : Fin cfg0.N) (h : ¬ t.val = 32) :
    (dats m 0 c).leavesExact 13 t = (iprop(∃ d, owns (c : Thread nD τ) (st0_13 t) fullShare ((dats m 0 c).before 13 t d)) : sProp 𝕄G) := by
  have hi : cfg0.idle 13 (cfg0.grid.coords t) = true := by
    rw [idle13]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush13 t h)

/-- What the body leaves in window 14 at a point that writes it. -/
theorem leaves_on14 (c : Dev nD) (t : Fin cfg0.N) (h : t.val = 32) :
    (dats m 0 c).leavesExact 14 t = (owns (c : Thread nD τ) (st0_14 t) fullShare ((dats m 0 c).after 14 t) : sProp 𝕄G) := by
  have hi : cfg0.idle 14 (cfg0.grid.coords t) = false := by rw [idle14, (cond5_iff t).2 h]; rfl
  unfold Dat.leavesExact; rw [hi]
/-- What the body leaves in window 14 at a point that does not write it. -/
theorem leaves_off14 (c : Dev nD) (t : Fin cfg0.N) (h : ¬ t.val = 32) :
    (dats m 0 c).leavesExact 14 t = (iprop(∃ d, owns (c : Thread nD τ) (st0_14 t) fullShare ((dats m 0 c).before 14 t d)) : sProp 𝕄G) := by
  have hi : cfg0.idle 14 (cfg0.grid.coords t) = true := by
    rw [idle14]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush14 t h)

/-- What the body leaves in window 15 at a point that writes it. -/
theorem leaves_on15 (c : Dev nD) (t : Fin cfg0.N) (h : t.val = 32) :
    (dats m 0 c).leavesExact 15 t = (owns (c : Thread nD τ) (st0_15 t) fullShare ((dats m 0 c).after 15 t) : sProp 𝕄G) := by
  have hi : cfg0.idle 15 (cfg0.grid.coords t) = false := by rw [idle15, (cond5_iff t).2 h]; rfl
  unfold Dat.leavesExact; rw [hi]
/-- What the body leaves in window 15 at a point that does not write it. -/
theorem leaves_off15 (c : Dev nD) (t : Fin cfg0.N) (h : ¬ t.val = 32) :
    (dats m 0 c).leavesExact 15 t = (iprop(∃ d, owns (c : Thread nD τ) (st0_15 t) fullShare ((dats m 0 c).before 15 t d)) : sProp 𝕄G) := by
  have hi : cfg0.idle 15 (cfg0.grid.coords t) = true := by
    rw [idle15]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush15 t h)

/-- What the body leaves in window 16 at a point that writes it. -/
theorem leaves_on16 (c : Dev nD) (t : Fin cfg0.N) (h : t.val = 32) :
    (dats m 0 c).leavesExact 16 t = (owns (c : Thread nD τ) (st0_16 t) fullShare ((dats m 0 c).after 16 t) : sProp 𝕄G) := by
  have hi : cfg0.idle 16 (cfg0.grid.coords t) = false := by rw [idle16, (cond5_iff t).2 h]; rfl
  unfold Dat.leavesExact; rw [hi]
/-- What the body leaves in window 16 at a point that does not write it. -/
theorem leaves_off16 (c : Dev nD) (t : Fin cfg0.N) (h : ¬ t.val = 32) :
    (dats m 0 c).leavesExact 16 t = (iprop(∃ d, owns (c : Thread nD τ) (st0_16 t) fullShare ((dats m 0 c).before 16 t d)) : sProp 𝕄G) := by
  have hi : cfg0.idle 16 (cfg0.grid.coords t) = true := by
    rw [idle16]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush16 t h)

/-- What the body leaves in window 17 at a point that writes it. -/
theorem leaves_on17 (c : Dev nD) (t : Fin cfg0.N) (h : t.val = 32) :
    (dats m 0 c).leavesExact 17 t = (owns (c : Thread nD τ) (st0_17 t) fullShare ((dats m 0 c).after 17 t) : sProp 𝕄G) := by
  have hi : cfg0.idle 17 (cfg0.grid.coords t) = false := by rw [idle17, (cond5_iff t).2 h]; rfl
  unfold Dat.leavesExact; rw [hi]
/-- What the body leaves in window 17 at a point that does not write it. -/
theorem leaves_off17 (c : Dev nD) (t : Fin cfg0.N) (h : ¬ t.val = 32) :
    (dats m 0 c).leavesExact 17 t = (iprop(∃ d, owns (c : Thread nD τ) (st0_17 t) fullShare ((dats m 0 c).before 17 t d)) : sProp 𝕄G) := by
  have hi : cfg0.idle 17 (cfg0.grid.coords t) = true := by
    rw [idle17]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush17 t h)

/-- What the body leaves in window 18 at a point that writes it. -/
theorem leaves_on18 (c : Dev nD) (t : Fin cfg0.N) (h : t.val = 32) :
    (dats m 0 c).leavesExact 18 t = (owns (c : Thread nD τ) (st0_18 t) fullShare ((dats m 0 c).after 18 t) : sProp 𝕄G) := by
  have hi : cfg0.idle 18 (cfg0.grid.coords t) = false := by rw [idle18, (cond5_iff t).2 h]; rfl
  unfold Dat.leavesExact; rw [hi]
/-- What the body leaves in window 18 at a point that does not write it. -/
theorem leaves_off18 (c : Dev nD) (t : Fin cfg0.N) (h : ¬ t.val = 32) :
    (dats m 0 c).leavesExact 18 t = (iprop(∃ d, owns (c : Thread nD τ) (st0_18 t) fullShare ((dats m 0 c).before 18 t d)) : sProp 𝕄G) := by
  have hi : cfg0.idle 18 (cfg0.grid.coords t) = true := by
    rw [idle18]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush18 t h)
/-- What window 12 holds after the body at a point. -/
theorem after_12 (c : Dev nD) (t : Fin cfg0.N) (h4 : k0_cond4 (grid0.coords t) = 1#1) : (dats m 0 c).after 12 t = ablk (grid0.coords t) h4 (iblk m c 1 t) (st m c t.val t.isLt).ring (st m c t.val t.isLt).sc (st m c t.val t.isLt).bi := by
  rw [show (dats m 0 c).after 12 t = ablkAt m c t by dsimp only [dats]]
  unfold ablkAt; rw [dif_pos h4]
/-- What window 13 holds after the body at a point. -/
theorem after_13 (c : Dev nD) (t : Fin cfg0.N) : (dats m 0 c).after 13 t = gate (st m c t.val t.isLt).sum (iblk m c 6 t) (iblk m c 7 t) (iblk m c 8 t) (iblk m c 9 t) (iblk m c 10 t) (iblk m c 11 t) := by dsimp only [dats]
/-- What window 14 holds after the body at a point. -/
theorem after_14 (c : Dev nD) (t : Fin cfg0.N) : (dats m 0 c).after 14 t = pCodes (st m c t.val t.isLt).sum := by dsimp only [dats]
/-- What window 15 holds after the body at a point. -/
theorem after_15 (c : Dev nD) (t : Fin cfg0.N) : (dats m 0 c).after 15 t = pScale (st m c t.val t.isLt).sum := by dsimp only [dats]
/-- What window 16 holds after the body at a point. -/
theorem after_16 (c : Dev nD) (t : Fin cfg0.N) : (dats m 0 c).after 16 t = hCodes (st m c t.val t.isLt).sum (iblk m c 6 t) (iblk m c 7 t) (iblk m c 8 t) := by dsimp only [dats]
/-- What window 17 holds after the body at a point. -/
theorem after_17 (c : Dev nD) (t : Fin cfg0.N) : (dats m 0 c).after 17 t = hScale (st m c t.val t.isLt).sum (iblk m c 6 t) (iblk m c 7 t) (iblk m c 8 t) := by dsimp only [dats]
/-- What window 18 holds after the body at a point. -/
theorem after_18 (c : Dev nD) (t : Fin cfg0.N) : (dats m 0 c).after 18 t = (fun _ => yScale (st m c t.val t.isLt).sum (iblk m c 6 t) (iblk m c 7 t) (iblk m c 8 t) (iblk m c 9 t) (iblk m c 10 t) (iblk m c 11 t) (st m c t.val t.isLt).mx) := by dsimp only [dats]

end Cert.Kernel.Run

end
-- ==== Proof.P.Loop1.lean ====
module

public import proofs.«01_k».proof.Proof.P.State
public import proofs.«01_k».proof.Proof.Gen.Kernel.Loops

@[expose] public section

set_option maxRecDepth 16384
set_option maxHeartbeats 4000000

noncomputable section

/-! The first loop: the point's image row, taken into a slot of the ring. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

/-- The first loop's invariant: the input block as it is, the ring with the columns below `k` put in. -/
abbrev inv1 (c : Dev nD) (i : grid0.Coords) (arg1 : Memref sig .tc .vmem S1x40x120x256 .i8) (arg20 : Memref sig .tc .vmem S4x42x128x256 .bf16)
    (h2 : k0_cond2 i = 1#1) (X1 : BufTy.Contents (Elt F) arg1.view.ty) (G : BufTy.Contents (Elt F) arg20.view.ty) (k : ℕ) : sProp 𝕄G :=
  iprop((arg1.view.loc (c : Thread nD τ) ↦[arg1.view.set]{fullShare} X1)
    ∗ (∃ f, (arg20.view.loc (c : Thread nD τ) ↦[arg20.view.set]{fullShare} f)
        ∗ ⌜arg20.view.read (Elt F) f = ringK i h2 (arg1.view.read (Elt F) X1) (arg20.view.read (Elt F) G) k⌝))

set_option warn.classDefReducibility false in
/-- The first loop by its invariant. -/
@[sl_loop] def loop1 (𝒱 : Variants) (c : Dev nD) (bd : Option 𝒱.V) (E : Set ℕ) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (k0_h2 : k0_cond2 i = 1#1)
    (X1 : BufTy.Contents (Elt F) arg1.view.ty) (G : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h2 where
  inv := fun k _ => inv1 c i arg1 arg20 k0_h2 X1 G k
  step k acc := by
    have hk : k.val < 40 := Nat.lt_of_lt_of_le k.isLt k0_t1_abs.2.1
    unfold k0_t1_body
    iintro ⟨HR, ⟨%f, HW, %hf⟩⟩
    sl_exec
    sl_step
    isplitl [HR]; · iexact HR
    iexists _; isplitl [HW]; · iexact HW
    ipureintro
    rw [ringK_succ, ← hf]
    exact View.read_writes_cons_put _ _ _ _ _ rfl

end Cert.Kernel.Run

end
-- ==== Proof.P.Loop2.lean ====
module

public import proofs.«01_k».proof.Proof.P.State
public import proofs.«01_k».proof.Proof.Gen.Kernel.Loops

@[expose] public section

set_option maxRecDepth 16384
set_option maxHeartbeats 4000000

noncomputable section

/-! The second loop: the point's output row, column by column, with its running sum and maximum. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

/-- The second loop's invariant: weights, ring, scale and bias as they are; the output block's columns below `k`,
    the running sum and the running maximum at what the trips below `k` leave. -/
abbrev inv2 (c : Dev nD) (i : grid0.Coords) (arg2 : Memref sig .tc .vmem S3x160x384 .i8) (arg13 : Memref sig .tc .vmem S1x40x160x256 .f32)
    (arg20 : Memref sig .tc .vmem S4x42x128x256 .bf16) (arg21 arg22 arg23 arg24 : Memref sig .tc .vmem S160x256 .f32)
    (h4 : k0_cond4 i = 1#1) (X2 : BufTy.Contents (Elt F) arg2.view.ty) (X20 : BufTy.Contents (Elt F) arg20.view.ty)
    (X21 : BufTy.Contents (Elt F) arg21.view.ty) (X22 : BufTy.Contents (Elt F) arg22.view.ty)
    (G13 : BufTy.Contents (Elt F) arg13.view.ty) (G23 : BufTy.Contents (Elt F) arg23.view.ty) (G24 : BufTy.Contents (Elt F) arg24.view.ty)
    (k : ℕ) : sProp 𝕄G :=
  iprop((arg2.view.loc (c : Thread nD τ) ↦[arg2.view.set]{fullShare} X2)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (∃ f, (arg13.view.loc (c : Thread nD τ) ↦[arg13.view.set]{fullShare} f)
        ∗ ⌜arg13.view.read (Elt F) f = blkK i h4 (arg2.view.read (Elt F) X2) (arg20.view.read (Elt F) X20) (arg21.view.read (Elt F) X21) (arg22.view.read (Elt F) X22) (arg13.view.read (Elt F) G13) k⌝)
    ∗ (∃ f, (arg23.view.loc (c : Thread nD τ) ↦[arg23.view.set]{fullShare} f)
        ∗ ⌜arg23.view.read (Elt F) f = sumK i h4 (arg2.view.read (Elt F) X2) (arg20.view.read (Elt F) X20) (arg21.view.read (Elt F) X21) (arg22.view.read (Elt F) X22) (arg23.view.read (Elt F) G23) k⌝)
    ∗ (∃ f, (arg24.view.loc (c : Thread nD τ) ↦[arg24.view.set]{fullShare} f)
        ∗ ⌜arg24.view.read (Elt F) f = maxK i h4 (arg2.view.read (Elt F) X2) (arg20.view.read (Elt F) X20) (arg21.view.read (Elt F) X21) (arg22.view.read (Elt F) X22) (arg24.view.read (Elt F) G24) k⌝))

set_option warn.classDefReducibility false in
/-- The second loop by its invariant. -/
@[sl_loop] def loop2 (𝒱 : Variants) (c : Dev nD) (bd : Option 𝒱.V) (E : Set ℕ) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (arg0 : BitVec 32) (k0_h4 : k0_cond4 i = 1#1)
    (X2 : BufTy.Contents (Elt F) arg2.view.ty) (X20 : BufTy.Contents (Elt F) arg20.view.ty)
    (X21 : BufTy.Contents (Elt F) arg21.view.ty) (X22 : BufTy.Contents (Elt F) arg22.view.ty)
    (G13 : BufTy.Contents (Elt F) arg13.view.ty) (G23 : BufTy.Contents (Elt F) arg23.view.ty) (G24 : BufTy.Contents (Elt F) arg24.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k0_h4 where
  inv := fun k _ => inv2 c i arg2 arg13 arg20 arg21 arg22 arg23 arg24 k0_h4 X2 X20 X21 X22 G13 G23 G24 k
  step k acc := by
    have hk : k.val < 40 := Nat.lt_of_lt_of_le k.isLt k0_t2_abs.2.1
    unfold k0_t2_body
    simp only [k0_part2_eq_skeleton]
    unfold k0_part2_skel
    iintro ⟨H2, H20, H21, H22, ⟨%f13, H13, %h13⟩, ⟨%f23, H23, %h23⟩, ⟨%f24, H24, %h24⟩⟩
    sl_exec
    sl_step
    have e21 : arg21.view.readAt (Elt F) (Rect.unit ![0, 0] ![160, 256] inb_S160x256_S160x256_0_0).toLoadRect X21 = arg21.view.read (Elt F) X21 :=
      View.readAt_full arg21.view X21 inb_S160x256_S160x256_0_0
    have e22 : arg22.view.readAt (Elt F) (Rect.unit ![0, 0] ![160, 256] inb_S160x256_S160x256_0_0).toLoadRect X22 = arg22.view.read (Elt F) X22 :=
      View.readAt_full arg22.view X22 inb_S160x256_S160x256_0_0
    have e23 : arg23.view.readAt (Elt F) (Rect.unit ![0, 0] ![160, 256] inb_S160x256_S160x256_0_0).toLoadRect f23 = arg23.view.read (Elt F) f23 :=
      View.readAt_full arg23.view f23 inb_S160x256_S160x256_0_0
    have e24 : arg24.view.readAt (Elt F) (Rect.unit ![0, 0] ![160, 256] inb_S160x256_S160x256_0_0).toLoadRect f24 = arg24.view.read (Elt F) f24 :=
      View.readAt_full arg24.view f24 inb_S160x256_S160x256_0_0
    isplitl [H2]; · iexact H2
    isplitl [H20]; · iexact H20
    isplitl [H21]; · iexact H21
    isplitl [H22]; · iexact H22
    isplitl [H13]
    · iexists _; isplitl [H13]; · iexact H13
      ipureintro
      rw [blkK_succ, ← h13, e21, e22]
      exact View.read_writes_cons_put _ _ _ _ _ rfl
    isplitl [H23]
    · iexists _; isplitl [H23]; · iexact H23
      ipureintro
      rw [sumK_succ, ← h23, e21, e22, e23]
      exact View.read_writes_full _ _ _ _ _
    · iexists _; isplitl [H24]; · iexact H24
      ipureintro
      rw [maxK_succ, ← h24, e21, e22, e24]
      exact View.read_writes_full _ _ _ _ _

end Cert.Kernel.Run

end
-- ==== Proof.P.RunA.lean ====
module

public import proofs.«01_k».proof.Proof.P.Loop1
public import proofs.«01_k».proof.Proof.P.Loop2

@[expose] public section

set_option maxRecDepth 16384
set_option maxHeartbeats 4000000

noncomputable section

/-! The body's execution at the first point. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

set_option maxHeartbeats 40000000 in
/-- The first point: scratch initialised, the first row taken in. -/
theorem runA (c : Dev nD) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (h1 : Scalar.cmpi .ne (Scalar.extui (Scalar.cmpi .eq (BitVec.ofNat 32 (i 0).val) 0#32) : BitVec 32) 0#32 = 1#1)(h2 : k0_cond2 i = 1#1)(h3 : ¬ k0_cond3 i = 1#1)(h4 : ¬ k0_cond4 i = 1#1)(h5 : ¬ k0_cond5 i = 1#1)
    (X1 : Vec F S1x40x120x256 .i8) (X3 : Vec F S1x256 .f32) (X4 : Vec F S160x1 .f32) (X5 : Vec F S160x1 .f32) (X6 : Vec F S160x1 .f32) (X20 : Vec F S4x42x128x256 .bf16) (X21 : Vec F S160x256 .f32) (X22 : Vec F S160x256 .f32) (X23 : Vec F S160x256 .f32) (X24 : Vec F S160x256 .f32) :
    (iprop(owns (c : Thread nD τ) arg1 fullShare (X1) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg20 fullShare (X20) ∗ owns (c : Thread nD τ) arg21 fullShare (X21) ∗ owns (c : Thread nD τ) arg22 fullShare (X22) ∗ owns (c : Thread nD τ) arg23 fullShare (X23) ∗ owns (c : Thread nD τ) arg24 fullShare (X24)) : sProp 𝕄G)
    ⊢ wp frame (wpE (defs₀ (F := F)) Variants.none (c : Thread nD τ) none) Set.univ (cc0_conv_silu_gate (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(owns (c : Thread nD τ) arg1 fullShare (X1) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg20 fullShare (ringK i h2 X1 (k0_pay8 (F := F)) k0_t1_loop.trips) ∗ owns (c : Thread nD τ) arg21 fullShare (k0_pay9 X3 X4 X5) ∗ owns (c : Thread nD τ) arg22 fullShare (k0_pay10 X6) ∗ owns (c : Thread nD τ) arg23 fullShare (k0_pay11 (F := F)) ∗ owns (c : Thread nD τ) arg24 fullShare (k0_pay12 (F := F)))) := by
  simp only [cc0_conv_silu_gate_eq_skeleton]
  unfold cc0_conv_silu_gate_skel
  simp only [k0_part1_eq_skeleton]; unfold k0_part1_skel
  unfold owns
  iintro ⟨⟨%f1, %hf1, H1⟩, ⟨%f3, %hf3, H3⟩, ⟨%f4, %hf4, H4⟩, ⟨%f5, %hf5, H5⟩, ⟨%f6, %hf6, H6⟩, ⟨%f20, %hf20, H20⟩, ⟨%f21, %hf21, H21⟩, ⟨%f22, %hf22, H22⟩, ⟨%f23, %hf23, H23⟩, ⟨%f24, %hf24, H24⟩⟩
  subst hf1
  subst hf3
  subst hf4
  subst hf5
  subst hf6
  subst hf20
  subst hf21
  subst hf22
  subst hf23
  subst hf24
  sl_exec
  sl_step
  have e3 : ∀ f, arg3.view.readAt (Elt F) (Rect.unit ![0, 0] ![1, 256] inb_S1x256_S1x256_0_0).toLoadRect f = arg3.view.read (Elt F) f :=
    fun f => View.readAt_full arg3.view f inb_S1x256_S1x256_0_0
  have e4 : ∀ f, arg4.view.readAt (Elt F) (Rect.unit ![0, 0] ![160, 1] inb_S160x1_S160x1_0_0).toLoadRect f = arg4.view.read (Elt F) f :=
    fun f => View.readAt_full arg4.view f inb_S160x1_S160x1_0_0
  have e5 : ∀ f, arg5.view.readAt (Elt F) (Rect.unit ![0, 0] ![160, 1] inb_S160x1_S160x1_0_0).toLoadRect f = arg5.view.read (Elt F) f :=
    fun f => View.readAt_full arg5.view f inb_S160x1_S160x1_0_0
  have e6 : ∀ f, arg6.view.readAt (Elt F) (Rect.unit ![0, 0] ![160, 1] inb_S160x1_S160x1_0_0).toLoadRect f = arg6.view.read (Elt F) f :=
    fun f => View.readAt_full arg6.view f inb_S160x1_S160x1_0_0
  isplitl [H1]
  · iexists _; isplitr [H1]
    · ipureintro; rfl
    · iexact H1
  isplitl [H3]
  · iexists _; isplitr [H3]
    · ipureintro; rfl
    · iexact H3
  isplitl [H4]
  · iexists _; isplitr [H4]
    · ipureintro; rfl
    · iexact H4
  isplitl [H5]
  · iexists _; isplitr [H5]
    · ipureintro; rfl
    · iexact H5
  isplitl [H6]
  · iexists _; isplitr [H6]
    · ipureintro; rfl
    · iexact H6
  isplitl [H20]
  · iexists _; isplitr [H20]
    rotate_left
    · iexact H20
    · ipureintro
      rw [hL2]
      sl_unfold_words
      exact congrArg (fun R => ringK i h2 (arg1.view.read (Elt F) f1) R k0_t1_loop.trips) (View.read_writes_full _ _ _ _ _)
  isplitl [H21]
  · iexists _; isplitr [H21]
    rotate_left
    · iexact H21
    · ipureintro
      sl_unfold_words
      simp only [e3, e4, e5, e6]
      exact View.read_writes_full _ _ _ _ _
  isplitl [H22]
  · iexists _; isplitr [H22]
    rotate_left
    · iexact H22
    · ipureintro
      sl_unfold_words
      simp only [e3, e4, e5, e6]
      exact View.read_writes_full _ _ _ _ _
  isplitl [H23]
  · iexists _; isplitr [H23]
    rotate_left
    · iexact H23
    · ipureintro
      sl_unfold_words
      exact View.read_writes_full _ _ _ _ _
  · iexists _; isplitr [H24]
    rotate_left
    · iexact H24
    · ipureintro
      sl_unfold_words
      exact View.read_writes_full _ _ _ _ _

end Cert.Kernel.Run

end
-- ==== Proof.P.SoundA.lean ====
module

public import proofs.«01_k».proof.Proof.P.Leaves
public import proofs.«01_k».proof.Proof.P.RunA

@[expose] public section

set_option maxRecDepth 16384
set_option maxHeartbeats 4000000

noncomputable section

/-! The body's obligation at the first point. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- A triple used where more than its postcondition is wanted. -/
theorem run_with {α : Type} {c : Dev nD} {P K : sProp 𝕄G} {Q : α → sProp 𝕄G} {p : Prog (TpuEff nD τ sig (Elt F) Λ₀ .tc) α}
    (h : P ⊢ wp frame (wpE (defs₀ (F := F)) Variants.none (c : Thread nD τ) none) Set.univ p Q) :
    iprop(P ∗ (∀ a, Q a -∗ K)) ⊢ wp frame (wpE (defs₀ (F := F)) Variants.none (c : Thread nD τ) none) Set.univ p (fun _ => K) := by
  iintro ⟨HP, HK⟩
  iapply (wp_wand_r frame _ Set.univ)
  isplitl [HP]
  · iapply h; iexact HP
  · iexact HK

/-- The first point. -/
theorem sound_A (c : Dev nD) (t : Fin cfg0.N) (ht : t.val = 0) :
    bodyPre m c t ⊢ wp frame (wpE (defs₀ (F := F)) Variants.none c none) Set.univ (bodyAt0 t) (fun _ => bodyPost m c t) := by
  have hN : t.val < 33 := t.isLt
  have h1 := (cond1_iff t).2 ht
  have h2 := (cond2_iff t).2 (by omega)
  have h3 : ¬ _ := fun h => absurd ((cond3_iff t).1 h) (by omega)
  have h4 : ¬ _ := fun h => absurd ((cond4_iff t).1 h) (by omega)
  have h5 : ¬ _ := fun h => absurd ((cond5_iff t).1 h) (by omega)
  unfold bodyPre bodyPost bodyAt0
  rw [show (dats m 0 c).Φ t.succ = PhiAt c (st m c t.val t.isLt) from rfl, PhiS_castSucc m c t,
    show (dats m 0 c).owesAt () t.succ = (dats m 0 c).owesAt () t.castSucc from rfl]
  simp only [before_0, before_1, before_2, before_3, before_4, before_5, before_6, before_7, before_8, before_9, before_10, before_11, after_0, after_1, after_2, after_3, after_4, after_5, after_6, after_7, after_8, after_9, after_10, after_11]
  rw [PhiS_zero m c _ _ ht, PhiA_eq, leaves_off12 m c t (by omega), leaves_off13 m c t (by omega), leaves_off14 m c t (by omega), leaves_off15 m c t (by omega), leaves_off16 m c t (by omega), leaves_off17 m c t (by omega), leaves_off18 m c t (by omega), st_A m c t ht h2]
  iintro ⟨⟨⟨⟨%d20_0, S0⟩, ⟨%d20_1, S1⟩, ⟨%d20_2, S2⟩, ⟨%d20_3, S3⟩, ⟨%d20_4, S4⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_with (runA c (grid0.coords t) _ _ _ _ _ _ _ _ _ _ _ _ _ _ _ _ _ _ _ _ _ _ _ _ _ _ _ _ _ _ _ _ _ _ _ _ _ _ _ _ _ _ _ _ _ _ _ _ h1 h2 h3 h4 h5 (iblk m c 0 t) (iblk m c 2 t) (iblk m c 3 t) (iblk m c 4 t) (iblk m c 5 t) d20_0 d20_1 d20_2 d20_3 d20_4))
  isplitl [H0 H2 H3 H4 H5 S0 S1 S2 S3 S4]
  · isplitl [H0]; · iexact H0
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  iintro %_ ⟨H0, H2, H3, H4, H5, S0, S1, S2, S3, S4⟩
  isplitl [S0 S1 S2 S3 S4 Hr]
  · unfold PhiAt
    isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel.Run

end
-- ==== Proof.P.RunB.lean ====
module

public import proofs.«01_k».proof.Proof.P.Loop1
public import proofs.«01_k».proof.Proof.P.Loop2

@[expose] public section

set_option maxRecDepth 16384
set_option maxHeartbeats 4000000

noncomputable section

/-! The body's execution at a point in between. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

set_option maxHeartbeats 40000000 in
/-- A middle point: the next row taken in, one output row computed and accumulated. -/
theorem runB (c : Dev nD) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (h1 : ¬ Scalar.cmpi .ne (Scalar.extui (Scalar.cmpi .eq (BitVec.ofNat 32 (i 0).val) 0#32) : BitVec 32) 0#32 = 1#1)(h2 : k0_cond2 i = 1#1)(h3 : ¬ k0_cond3 i = 1#1)(h4 : k0_cond4 i = 1#1)(h5 : ¬ k0_cond5 i = 1#1)
    (X1 : Vec F S1x40x120x256 .i8) (X2 : Vec F S3x160x384 .i8) (X13 : Vec F S1x40x160x256 .f32) (X20 : Vec F S4x42x128x256 .bf16) (X21 : Vec F S160x256 .f32) (X22 : Vec F S160x256 .f32) (X23 : Vec F S160x256 .f32) (X24 : Vec F S160x256 .f32) :
    (iprop(owns (c : Thread nD τ) arg1 fullShare (X1) ∗ owns (c : Thread nD τ) arg2 fullShare (X2) ∗ owns (c : Thread nD τ) arg13 fullShare (X13) ∗ owns (c : Thread nD τ) arg20 fullShare (X20) ∗ owns (c : Thread nD τ) arg21 fullShare (X21) ∗ owns (c : Thread nD τ) arg22 fullShare (X22) ∗ owns (c : Thread nD τ) arg23 fullShare (X23) ∗ owns (c : Thread nD τ) arg24 fullShare (X24)) : sProp 𝕄G)
    ⊢ wp frame (wpE (defs₀ (F := F)) Variants.none (c : Thread nD τ) none) Set.univ (cc0_conv_silu_gate (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(owns (c : Thread nD τ) arg1 fullShare (X1) ∗ owns (c : Thread nD τ) arg2 fullShare (X2) ∗ owns (c : Thread nD τ) arg13 fullShare (blkK i h4 X2 (ringK i h2 X1 X20 k0_t1_loop.trips) X21 X22 X13 k0_t2_loop.trips) ∗ owns (c : Thread nD τ) arg20 fullShare (ringK i h2 X1 X20 k0_t1_loop.trips) ∗ owns (c : Thread nD τ) arg21 fullShare (X21) ∗ owns (c : Thread nD τ) arg22 fullShare (X22) ∗ owns (c : Thread nD τ) arg23 fullShare (sumK i h4 X2 (ringK i h2 X1 X20 k0_t1_loop.trips) X21 X22 X23 k0_t2_loop.trips) ∗ owns (c : Thread nD τ) arg24 fullShare (maxK i h4 X2 (ringK i h2 X1 X20 k0_t1_loop.trips) X21 X22 X24 k0_t2_loop.trips))) := by
  simp only [cc0_conv_silu_gate_eq_skeleton]
  unfold cc0_conv_silu_gate_skel

  unfold owns
  iintro ⟨⟨%f1, %hf1, H1⟩, ⟨%f2, %hf2, H2⟩, ⟨%f13, %hf13, H13⟩, ⟨%f20, %hf20, H20⟩, ⟨%f21, %hf21, H21⟩, ⟨%f22, %hf22, H22⟩, ⟨%f23, %hf23, H23⟩, ⟨%f24, %hf24, H24⟩⟩
  subst hf1
  subst hf2
  subst hf13
  subst hf20
  subst hf21
  subst hf22
  subst hf23
  subst hf24
  sl_exec
  sl_step
  isplitl [H1]
  · iexists _; isplitr [H1]
    · ipureintro; rfl
    · iexact H1
  isplitl [H2]
  · iexists _; isplitr [H2]
    · ipureintro; rfl
    · iexact H2
  isplitl [H13]
  · iexists _; isplitr [H13]
    rotate_left
    · iexact H13
    · ipureintro
      rw [hL8, hL2]
  isplitl [H20]
  · iexists _; isplitr [H20]
    rotate_left
    · iexact H20
    · ipureintro
      exact hL2
  isplitl [H21]
  · iexists _; isplitr [H21]
    · ipureintro; rfl
    · iexact H21
  isplitl [H22]
  · iexists _; isplitr [H22]
    · ipureintro; rfl
    · iexact H22
  isplitl [H23]
  · iexists _; isplitr [H23]
    rotate_left
    · iexact H23
    · ipureintro
      rw [hL10, hL2]
  · iexists _; isplitr [H24]
    rotate_left
    · iexact H24
    · ipureintro
      rw [hL12, hL2]

end Cert.Kernel.Run

end
-- ==== Proof.P.SoundB.lean ====
module

public import proofs.«01_k».proof.Proof.P.SoundA
public import proofs.«01_k».proof.Proof.P.RunB

@[expose] public section

set_option maxRecDepth 16384
set_option maxHeartbeats 4000000

noncomputable section

/-! The body's obligation at a point in between. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- A middle point. -/
theorem sound_B (c : Dev nD) (t : Fin cfg0.N) (h0 : t.val ≠ 0) (ht : t.val < 32) :
    bodyPre m c t ⊢ wp frame (wpE (defs₀ (F := F)) Variants.none c none) Set.univ (bodyAt0 t) (fun _ => bodyPost m c t) := by
  have hN : t.val < 33 := t.isLt
  have h1 : ¬ _ := fun h => absurd ((cond1_iff t).1 h) h0
  have h2 := (cond2_iff t).2 ht
  have h3 : ¬ _ := fun h => absurd ((cond3_iff t).1 h) (by omega)
  have h4 := (cond4_iff t).2 h0
  have h5 : ¬ _ := fun h => absurd ((cond5_iff t).1 h) (by omega)
  unfold bodyPre bodyPost bodyAt0
  rw [show (dats m 0 c).Φ t.succ = PhiAt c (st m c t.val t.isLt) from rfl, PhiS_castSucc m c t,
    show (dats m 0 c).owesAt () t.succ = (dats m 0 c).owesAt () t.castSucc from rfl]
  simp only [before_0, before_1, before_2, before_3, before_4, before_5, before_6, before_7, before_8, before_9, before_10, before_11, after_0, after_1, after_2, after_3, after_4, after_5, after_6, after_7, after_8, after_9, after_10, after_11]
  rw [PhiS_pos m c _ _ h0, leaves_on12 m c t h0, leaves_off13 m c t (by omega), leaves_off14 m c t (by omega), leaves_off15 m c t (by omega), leaves_off16 m c t (by omega), leaves_off17 m c t (by omega), leaves_off18 m c t (by omega), after_12 m c t h4, st_B m c t h0 ht h2 h4]
  unfold PhiAt
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_with (runB c (grid0.coords t) _ _ _ _ _ _ _ _ _ _ _ _ _ _ _ _ _ _ _ _ _ _ _ _ _ _ _ _ _ _ _ _ _ _ _ _ _ _ _ _ _ _ _ _ _ _ _ _ h1 h2 h3 h4 h5 (iblk m c 0 t) (iblk m c 1 t) ((dats m 0 c).before 12 t d12) (st m c (t.val - 1) (by omega)).ring (st m c (t.val - 1) (by omega)).sc (st m c (t.val - 1) (by omega)).bi (st m c (t.val - 1) (by omega)).sum (st m c (t.val - 1) (by omega)).mx))
  isplitl [H0 H1 H12 S0 S1 S2 S3 S4]
  · isplitl [H0]; · iexact H0
    isplitl [H1]; · iexact H1
    isplitl [H12]; · iexact H12
    isplitl [S0]; · iexact S0
    isplitl [S1]; · iexact S1
    isplitl [S2]; · iexact S2
    isplitl [S3]; · iexact S3
    iexact S4
  rw [blkK_all]
  iintro %_ ⟨H0, H1, H12, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel.Run

end
-- ==== Proof.P.RunC.lean ====
module

public import proofs.«01_k».proof.Proof.P.Loop1
public import proofs.«01_k».proof.Proof.P.Loop2
public import proofs.«01_k».proof.Proof.P.Tail

@[expose] public section

set_option maxRecDepth 16384
set_option maxHeartbeats 4000000

noncomputable section

/-! The body's execution at the last point. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

set_option maxHeartbeats 40000000 in
/-- The last point: a zero row, the last output row, and the gate. -/
theorem runC (c : Dev nD) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (h1 : ¬ Scalar.cmpi .ne (Scalar.extui (Scalar.cmpi .eq (BitVec.ofNat 32 (i 0).val) 0#32) : BitVec 32) 0#32 = 1#1)(h2 : ¬ k0_cond2 i = 1#1)(h3 : k0_cond3 i = 1#1)(h4 : k0_cond4 i = 1#1)(h5 : k0_cond5 i = 1#1)
    (X2 : Vec F S3x160x384 .i8) (X7 : Vec F S30x160 .fp8e4m3) (X8 : Vec F S30x1 .f32) (X9 : Vec F S30x1 .f32) (X10 : Vec F S160x30 .fp8e4m3) (X11 : Vec F S160x1 .f32) (X12 : Vec F S160x1 .f32) (X13 : Vec F S1x40x160x256 .f32) (X14 : Vec F S160x256 .f32) (X15 : Vec F S160x256 .fp8e4m3) (X16 : Vec F S1x256 .f32) (X17 : Vec F S30x256 .fp8e4m3) (X18 : Vec F S1x256 .f32) (X19 : Vec F S1x1 .f32) (X20 : Vec F S4x42x128x256 .bf16) (X21 : Vec F S160x256 .f32) (X22 : Vec F S160x256 .f32) (X23 : Vec F S160x256 .f32) (X24 : Vec F S160x256 .f32) :
    (iprop(owns (c : Thread nD τ) arg2 fullShare (X2) ∗ owns (c : Thread nD τ) arg7 fullShare (X7) ∗ owns (c : Thread nD τ) arg8 fullShare (X8) ∗ owns (c : Thread nD τ) arg9 fullShare (X9) ∗ owns (c : Thread nD τ) arg10 fullShare (X10) ∗ owns (c : Thread nD τ) arg11 fullShare (X11) ∗ owns (c : Thread nD τ) arg12 fullShare (X12) ∗ owns (c : Thread nD τ) arg13 fullShare (X13) ∗ owns (c : Thread nD τ) arg14 fullShare (X14) ∗ owns (c : Thread nD τ) arg15 fullShare (X15) ∗ owns (c : Thread nD τ) arg16 fullShare (X16) ∗ owns (c : Thread nD τ) arg17 fullShare (X17) ∗ owns (c : Thread nD τ) arg18 fullShare (X18) ∗ owns (c : Thread nD τ) arg19 fullShare (X19) ∗ owns (c : Thread nD τ) arg20 fullShare (X20) ∗ owns (c : Thread nD τ) arg21 fullShare (X21) ∗ owns (c : Thread nD τ) arg22 fullShare (X22) ∗ owns (c : Thread nD τ) arg23 fullShare (X23) ∗ owns (c : Thread nD τ) arg24 fullShare (X24)) : sProp 𝕄G)
    ⊢ wp frame (wpE (defs₀ (F := F)) Variants.none (c : Thread nD τ) none) Set.univ (cc0_conv_silu_gate (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(owns (c : Thread nD τ) arg2 fullShare (X2) ∗ owns (c : Thread nD τ) arg7 fullShare (X7) ∗ owns (c : Thread nD τ) arg8 fullShare (X8) ∗ owns (c : Thread nD τ) arg9 fullShare (X9) ∗ owns (c : Thread nD τ) arg10 fullShare (X10) ∗ owns (c : Thread nD τ) arg11 fullShare (X11) ∗ owns (c : Thread nD τ) arg12 fullShare (X12) ∗ owns (c : Thread nD τ) arg13 fullShare (blkK i h4 X2 (VecWindow.put X20 (k0_off3 i) S1x42x128x256.size (k0_pay2 (F := F))) X21 X22 X13 k0_t2_loop.trips) ∗ owns (c : Thread nD τ) arg14 fullShare (gate (sumK i h4 X2 (VecWindow.put X20 (k0_off3 i) S1x42x128x256.size (k0_pay2 (F := F))) X21 X22 X23 k0_t2_loop.trips) X7 X8 X9 X10 X11 X12) ∗ owns (c : Thread nD τ) arg15 fullShare (pCodes (sumK i h4 X2 (VecWindow.put X20 (k0_off3 i) S1x42x128x256.size (k0_pay2 (F := F))) X21 X22 X23 k0_t2_loop.trips)) ∗ owns (c : Thread nD τ) arg16 fullShare (pScale (sumK i h4 X2 (VecWindow.put X20 (k0_off3 i) S1x42x128x256.size (k0_pay2 (F := F))) X21 X22 X23 k0_t2_loop.trips)) ∗ owns (c : Thread nD τ) arg17 fullShare (hCodes (sumK i h4 X2 (VecWindow.put X20 (k0_off3 i) S1x42x128x256.size (k0_pay2 (F := F))) X21 X22 X23 k0_t2_loop.trips) X7 X8 X9) ∗ owns (c : Thread nD τ) arg18 fullShare (hScale (sumK i h4 X2 (VecWindow.put X20 (k0_off3 i) S1x42x128x256.size (k0_pay2 (F := F))) X21 X22 X23 k0_t2_loop.trips) X7 X8 X9) ∗ owns (c : Thread nD τ) arg19 fullShare (fun _ => yScale (sumK i h4 X2 (VecWindow.put X20 (k0_off3 i) S1x42x128x256.size (k0_pay2 (F := F))) X21 X22 X23 k0_t2_loop.trips) X7 X8 X9 X10 X11 X12 (maxK i h4 X2 (VecWindow.put X20 (k0_off3 i) S1x42x128x256.size (k0_pay2 (F := F))) X21 X22 X24 k0_t2_loop.trips)) ∗ owns (c : Thread nD τ) arg20 fullShare (VecWindow.put X20 (k0_off3 i) S1x42x128x256.size (k0_pay2 (F := F))) ∗ owns (c : Thread nD τ) arg21 fullShare (X21) ∗ owns (c : Thread nD τ) arg22 fullShare (X22) ∗ owns (c : Thread nD τ) arg23 fullShare (sumK i h4 X2 (VecWindow.put X20 (k0_off3 i) S1x42x128x256.size (k0_pay2 (F := F))) X21 X22 X23 k0_t2_loop.trips) ∗ owns (c : Thread nD τ) arg24 fullShare (maxK i h4 X2 (VecWindow.put X20 (k0_off3 i) S1x42x128x256.size (k0_pay2 (F := F))) X21 X22 X24 k0_t2_loop.trips))) := by
  simp only [cc0_conv_silu_gate_eq_skeleton]
  unfold cc0_conv_silu_gate_skel
  simp only [k0_part3_eq_skeleton, k0_part4_eq_skeleton, k0_part5_eq_skeleton]; unfold k0_part3_skel k0_part4_skel k0_part5_skel
  unfold owns
  iintro ⟨⟨%f2, %hf2, H2⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩⟩
  subst hf2
  subst hf7
  subst hf8
  subst hf9
  subst hf10
  subst hf11
  subst hf12
  subst hf13
  subst hf14
  subst hf15
  subst hf16
  subst hf17
  subst hf18
  subst hf19
  subst hf20
  subst hf21
  subst hf22
  subst hf23
  subst hf24
  sl_exec
  sl_step
  have eR : ∀ inb, arg20.view.read (Elt F) (arg20.view.writes (Elt F) f20 [⟨Rect.unit (k0_off3 i) ![1, 42, 128, 256] inb, k0_pay2 (F := F)⟩])
      = VecWindow.put (arg20.view.read (Elt F) f20) (k0_off3 i) S1x42x128x256.size (k0_pay2 (F := F)) :=
    fun inb => View.read_writes_cons_put arg20.view f20 inb (k0_pay2 (F := F)) [] rfl
  have e7 : ∀ f, arg7.view.readAt (Elt F) (Rect.unit ![0, 0] ![30, 160] inb_S30x160_S30x160_0_0).toLoadRect f = arg7.view.read (Elt F) f :=
    fun f => View.readAt_full arg7.view f inb_S30x160_S30x160_0_0
  have e8 : ∀ f, arg8.view.readAt (Elt F) (Rect.unit ![0, 0] ![30, 1] inb_S30x1_S30x1_0_0).toLoadRect f = arg8.view.read (Elt F) f :=
    fun f => View.readAt_full arg8.view f inb_S30x1_S30x1_0_0
  have e9 : ∀ f, arg9.view.readAt (Elt F) (Rect.unit ![0, 0] ![30, 1] inb_S30x1_S30x1_0_0).toLoadRect f = arg9.view.read (Elt F) f :=
    fun f => View.readAt_full arg9.view f inb_S30x1_S30x1_0_0
  have e10 : ∀ f, arg10.view.readAt (Elt F) (Rect.unit ![0, 0] ![160, 30] inb_S160x30_S160x30_0_0).toLoadRect f = arg10.view.read (Elt F) f :=
    fun f => View.readAt_full arg10.view f inb_S160x30_S160x30_0_0
  have e11 : ∀ f, arg11.view.readAt (Elt F) (Rect.unit ![0, 0] ![160, 1] inb_S160x1_S160x1_0_0).toLoadRect f = arg11.view.read (Elt F) f :=
    fun f => View.readAt_full arg11.view f inb_S160x1_S160x1_0_0
  have e12 : ∀ f, arg12.view.readAt (Elt F) (Rect.unit ![0, 0] ![160, 1] inb_S160x1_S160x1_0_0).toLoadRect f = arg12.view.read (Elt F) f :=
    fun f => View.readAt_full arg12.view f inb_S160x1_S160x1_0_0
  have e23 : ∀ f, arg23.view.readAt (Elt F) (Rect.unit ![0, 0] ![160, 256] inb_S160x256_S160x256_0_0).toLoadRect f = arg23.view.read (Elt F) f :=
    fun f => View.readAt_full arg23.view f inb_S160x256_S160x256_0_0
  have e24 : ∀ f, arg24.view.readAt (Elt F) (Rect.unit ![0, 0] ![160, 256] inb_S160x256_S160x256_0_0).toLoadRect f = arg24.view.read (Elt F) f :=
    fun f => View.readAt_full arg24.view f inb_S160x256_S160x256_0_0
  isplitl [H2]
  · iexists _; isplitr [H2]
    · ipureintro; rfl
    · iexact H2
  isplitl [H7]
  · iexists _; isplitr [H7]
    · ipureintro; rfl
    · iexact H7
  isplitl [H8]
  · iexists _; isplitr [H8]
    · ipureintro; rfl
    · iexact H8
  isplitl [H9]
  · iexists _; isplitr [H9]
    · ipureintro; rfl
    · iexact H9
  isplitl [H10]
  · iexists _; isplitr [H10]
    · ipureintro; rfl
    · iexact H10
  isplitl [H11]
  · iexists _; isplitr [H11]
    · ipureintro; rfl
    · iexact H11
  isplitl [H12]
  · iexists _; isplitr [H12]
    · ipureintro; rfl
    · iexact H12
  isplitl [H13]
  · iexists _; isplitr [H13]
    rotate_left
    · iexact H13
    · ipureintro
      rw [hL5, eR]
  isplitl [H14]
  · iexists _; isplitr [H14]
    rotate_left
    · iexact H14
    · ipureintro
      sl_unfold_words
      simp only [e7, e8, e9, e10, e11, e12, e23, e24, hL7, hL9, eR]
      exact View.read_writes_full _ _ _ _ _
  isplitl [H15]
  · iexists _; isplitr [H15]
    rotate_left
    · iexact H15
    · ipureintro
      sl_unfold_words
      simp only [e7, e8, e9, e10, e11, e12, e23, e24, hL7, hL9, eR]
      exact View.read_writes_full _ _ _ _ _
  isplitl [H16]
  · iexists _; isplitr [H16]
    rotate_left
    · iexact H16
    · ipureintro
      sl_unfold_words
      simp only [e7, e8, e9, e10, e11, e12, e23, e24, hL7, hL9, eR]
      exact View.read_writes_full _ _ _ _ _
  isplitl [H17]
  · iexists _; isplitr [H17]
    rotate_left
    · iexact H17
    · ipureintro
      sl_unfold_words
      simp only [e7, e8, e9, e10, e11, e12, e23, e24, hL7, hL9, eR]
      exact View.read_writes_full _ _ _ _ _
  isplitl [H18]
  · iexists _; isplitr [H18]
    rotate_left
    · iexact H18
    · ipureintro
      sl_unfold_words
      simp only [e7, e8, e9, e10, e11, e12, e23, e24, hL7, hL9, eR]
      exact View.read_writes_full _ _ _ _ _
  isplitl [H19]
  · iexists _; isplitr [H19]
    rotate_left
    · iexact H19
    · ipureintro
      sl_unfold_words
      simp only [e7, e8, e9, e10, e11, e12, e23, e24, hL7, hL9, eR]
      exact View.read_writes_full _ _ _ _ _
  isplitl [H20]
  · iexists _; isplitr [H20]
    rotate_left
    · iexact H20
    · ipureintro
      exact eR _
  isplitl [H21]
  · iexists _; isplitr [H21]
    · ipureintro; rfl
    · iexact H21
  isplitl [H22]
  · iexists _; isplitr [H22]
    · ipureintro; rfl
    · iexact H22
  isplitl [H23]
  · iexists _; isplitr [H23]
    rotate_left
    · iexact H23
    · ipureintro
      rw [hL7, eR]
  · iexists _; isplitr [H24]
    rotate_left
    · iexact H24
    · ipureintro
      rw [hL9, eR]

end Cert.Kernel.Run

end
-- ==== Proof.P.SoundC.lean ====
module

public import proofs.«01_k».proof.Proof.P.SoundB
public import proofs.«01_k».proof.Proof.P.RunC

@[expose] public section

set_option maxRecDepth 16384
set_option maxHeartbeats 4000000

noncomputable section

/-! The body's obligation at the last point. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The last point. -/
theorem sound_C (c : Dev nD) (t : Fin cfg0.N) (ht : t.val = 32) :
    bodyPre m c t ⊢ wp frame (wpE (defs₀ (F := F)) Variants.none c none) Set.univ (bodyAt0 t) (fun _ => bodyPost m c t) := by
  have hN : t.val < 33 := t.isLt
  have h0 : t.val ≠ 0 := by omega
  have h1 : ¬ _ := fun h => absurd ((cond1_iff t).1 h) h0
  have h2 : ¬ _ := fun h => absurd ((cond2_iff t).1 h) (by omega)
  have h3 := (cond3_iff t).2 ht
  have h4 := (cond4_iff t).2 h0
  have h5 := (cond5_iff t).2 ht
  unfold bodyPre bodyPost bodyAt0
  rw [show (dats m 0 c).Φ t.succ = PhiAt c (st m c t.val t.isLt) from rfl, PhiS_castSucc m c t,
    show (dats m 0 c).owesAt () t.succ = (dats m 0 c).owesAt () t.castSucc from rfl]
  simp only [before_0, before_1, before_2, before_3, before_4, before_5, before_6, before_7, before_8, before_9, before_10, before_11, after_0, after_1, after_2, after_3, after_4, after_5, after_6, after_7, after_8, after_9, after_10, after_11]
  rw [PhiS_pos m c _ _ h0, leaves_on12 m c t h0, leaves_on13 m c t ht, leaves_on14 m c t ht, leaves_on15 m c t ht, leaves_on16 m c t ht, leaves_on17 m c t ht, leaves_on18 m c t ht, after_12 m c t h4, after_13 m c t, after_14 m c t, after_15 m c t, after_16 m c t, after_17 m c t, after_18 m c t, st_C m c t ht h4]
  unfold PhiAt
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_with (runC c (grid0.coords t) _ _ _ _ _ _ _ _ _ _ _ _ _ _ _ _ _ _ _ _ _ _ _ _ _ _ _ _ _ _ _ _ _ _ _ _ _ _ _ _ _ _ _ _ _ _ _ _ h1 h2 h3 h4 h5 (iblk m c 1 t) (iblk m c 6 t) (iblk m c 7 t) (iblk m c 8 t) (iblk m c 9 t) (iblk m c 10 t) (iblk m c 11 t) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18) (st m c (t.val - 1) (by omega)).ring (st m c (t.val - 1) (by omega)).sc (st m c (t.val - 1) (by omega)).bi (st m c (t.val - 1) (by omega)).sum (st m c (t.val - 1) (by omega)).mx))
  isplitl [H1 H6 H7 H8 H9 H10 H11 H12 H13 H14 H15 H16 H17 H18 S0 S1 S2 S3 S4]
  · isplitl [H1]; · iexact H1
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    iexact S4
  rw [blkK_all]
  iintro %_ ⟨H1, H6, H7, H8, H9, H10, H11, H12, H13, H14, H15, H16, H17, H18, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Kernel.Run

end
-- ==== Proof.P.Run.lean ====
module

public import proofs.«01_k».proof.Proof.P.SoundC
public import Idealize.ShloMosaic.Lib.Claim

@[expose] public section

set_option maxRecDepth 16384
set_option maxHeartbeats 4000000

noncomputable section

/-! The body at any point, and from it the whole run and the frame. -/

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := t.isLt
  by_cases h0 : t.val = 0
  · exact sound_A m c t h0
  · by_cases h1 : t.val < 32
    · exact sound_B m c t h0 h1
    · exact sound_C m c t (by omega)

/-- The pipeline's body at a point. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every final state has every array of the pipeline at what the proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the pipeline's arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.PI.State.lean ====
module

public import proofs.«01_k».proof.Proof.Gen.KernelIdeal.Skeleton
public import Idealize.ShloMosaic.Lib.VecWindow

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-! ## What the kernel's buffers hold, as plain functions of what they held before -/

/-- The four-slot ring of input rows. -/
abbrev Ring (F : FTy → Type) := Vec F S4x42x128x256 .bf16
/-- A channels by batch tile. -/
abbrev Tile (F : FTy → Type) := Vec F S160x256 .f32

/-- The first loop at point `i` on the input row block `X`: columns below `k` of the row cast and put into the ring. -/
def ringK (i : grid0.Coords) (h2 : k0_cond2 i = 1#1) (X : Vec F S1x40x120x256 .i8) (R : Ring F) : ℕ → Ring F
  | 0 => R
  | k + 1 => if h : k < k0_t1_loop.trips then
      VecWindow.put (ringK i h2 X R k) (k0_off2 i ⟨k, h⟩) S1x1x120x256.size
        (k0_pay1 (VecWindow.window X (k0_off1 ⟨k, h⟩) S1x1x120x256.size (k0_off1_inb i ⟨k, h⟩ h2)))
    else ringK i h2 X R k

/-- One more trip of the first loop. -/
theorem ringK_succ (i : grid0.Coords) (h2 : k0_cond2 i = 1#1) (X : Vec F S1x40x120x256 .i8) (R : Ring F) (k : Fin k0_t1_loop.trips) :
    ringK i h2 X R (k.val + 1) = VecWindow.put (ringK i h2 X R k.val) (k0_off2 i k) S1x1x120x256.size
        (k0_pay1 (VecWindow.window X (k0_off1 k) S1x1x120x256.size (k0_off1_inb i k h2))) := by
  rw [ringK, dif_pos k.isLt]

/-- The ring's three neighbouring columns the second loop's trip `k` reads for kernel row `0`, `1` or `2`. -/
def patch (i : grid0.Coords) (h4 : k0_cond4 i = 1#1) (R : Ring F) (k : Fin k0_t2_loop.trips) (r : Fin 3) : Vec F S1x3x128x256 .bf16 :=
  VecWindow.window R (k0_off4 i k (BitVec.ofNat 32 r.val)) S1x3x128x256.size (k0_off4_inb i k h4 r)

/-- One kernel row of the packed weights. -/
def wrow (W : Vec F S3x160x384 .i8) (r : Fin 3) : Vec F S1x160x384 .i8 :=
  match r with
  | 0 => VecWindow.window W ![0, 0, 0] S1x160x384.size inb_S3x160x384_S1x160x384_0_0_0
  | 1 => VecWindow.window W ![1, 0, 0] S1x160x384.size inb_S3x160x384_S1x160x384_1_0_0
  | 2 => VecWindow.window W ![2, 0, 0] S1x160x384.size inb_S3x160x384_S1x160x384_2_0_0

/-- The sum over kernel rows `0` and `1` at trip `k`. -/
def acc2 (i : grid0.Coords) (h4 : k0_cond4 i = 1#1) (W : Vec F S3x160x384 .i8) (R : Ring F) (k : Fin k0_t2_loop.trips) : FVec F S160x256 .f32 :=
  k0_pay13 (patch i h4 R k 0) (wrow W 0) (patch i h4 R k 1) (wrow W 1)

/-- The activation tile of trip `k` (one output column). -/
def actTile (i : grid0.Coords) (h4 : k0_cond4 i = 1#1) (W : Vec F S3x160x384 .i8) (R : Ring F) (S B : Tile F) (k : Fin k0_t2_loop.trips) : FVec F S160x256 .f32 :=
  k0_pay3 (acc2 i h4 W R k) (patch i h4 R k 2) (wrow W 2) S B

/-- The output block after the trips below `k`: their columns at their tiles, the others as before. -/
def blkK (i : grid0.Coords) (h4 : k0_cond4 i = 1#1) (W : Vec F S3x160x384 .i8) (R : Ring F) (S B : Tile F) (A : Vec F S1x40x160x256 .f32) : ℕ → Vec F S1x40x160x256 .f32
  | 0 => A
  | k + 1 => if h : k < k0_t2_loop.trips then
      VecWindow.put (blkK i h4 W R S B A k) (k0_off5 ⟨k, h⟩) S1x1x160x256.size
        (k0_pay4 (acc2 i h4 W R ⟨k, h⟩) (patch i h4 R ⟨k, h⟩ 2) (wrow W 2) S B)
    else blkK i h4 W R S B A k

/-- One more trip of the second loop, for the output block. -/
theorem blkK_succ (i : grid0.Coords) (h4 : k0_cond4 i = 1#1) (W : Vec F S3x160x384 .i8) (R : Ring F) (S B : Tile F) (A : Vec F S1x40x160x256 .f32) (k : Fin k0_t2_loop.trips) :
    blkK i h4 W R S B A (k.val + 1) = VecWindow.put (blkK i h4 W R S B A k.val) (k0_off5 k) S1x1x160x256.size
        (k0_pay4 (acc2 i h4 W R k) (patch i h4 R k 2) (wrow W 2) S B) := by
  rw [blkK, dif_pos k.isLt]

/-- The running sum of the tiles of the trips below `k`. -/
def sumK (i : grid0.Coords) (h4 : k0_cond4 i = 1#1) (W : Vec F S3x160x384 .i8) (R : Ring F) (S B P : Tile F) : ℕ → Tile F
  | 0 => P
  | k + 1 => if h : k < k0_t2_loop.trips then
      k0_pay5 (acc2 i h4 W R ⟨k, h⟩) (patch i h4 R ⟨k, h⟩ 2) (wrow W 2) S B (sumK i h4 W R S B P k)
    else sumK i h4 W R S B P k

/-- One more trip of the second loop, for the running sum. -/
theorem sumK_succ (i : grid0.Coords) (h4 : k0_cond4 i = 1#1) (W : Vec F S3x160x384 .i8) (R : Ring F) (S B P : Tile F) (k : Fin k0_t2_loop.trips) :
    sumK i h4 W R S B P (k.val + 1)
      = k0_pay5 (acc2 i h4 W R k) (patch i h4 R k 2) (wrow W 2) S B (sumK i h4 W R S B P k.val) := by
  rw [sumK, dif_pos k.isLt]

/-- The running maximum of the tiles' absolute values over the trips below `k`. -/
def maxK (i : grid0.Coords) (h4 : k0_cond4 i = 1#1) (W : Vec F S3x160x384 .i8) (R : Ring F) (S B M : Tile F) : ℕ → Tile F
  | 0 => M
  | k + 1 => if h : k < k0_t2_loop.trips then
      k0_pay6 (acc2 i h4 W R ⟨k, h⟩) (patch i h4 R ⟨k, h⟩ 2) (wrow W 2) S B (maxK i h4 W R S B M k)
    else maxK i h4 W R S B M k

/-- One more trip of the second loop, for the running maximum. -/
theorem maxK_succ (i : grid0.Coords) (h4 : k0_cond4 i = 1#1) (W : Vec F S3x160x384 .i8) (R : Ring F) (S B M : Tile F) (k : Fin k0_t2_loop.trips) :
    maxK i h4 W R S B M (k.val + 1)
      = k0_pay6 (acc2 i h4 W R k) (patch i h4 R k 2) (wrow W 2) S B (maxK i h4 W R S B M k.val) := by
  rw [maxK, dif_pos k.isLt]

end Cert.KernelIdeal.Run

end
-- ==== Proof.PI.Tail.lean ====
module

public import proofs.«01_k».proof.Proof.PI.State

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-! ## What the last point computes from the running sum `P`, as plain functions -/
variable (P : Tile F) (X7 : Vec F S30x160 .fp8e4m3) (X8 X9 : Vec F S30x1 .f32) (X10 : Vec F S160x30 .fp8e4m3) (X11 X12 : Vec F S160x1 .f32)
/-- The pooled features' codes. -/
def pCodes : FVec F S160x256 .fp8e4m3 := k0_pay16 P
/-- The pooled features' scales. -/
def pScale : FVec F S1x256 .f32 := k0_pay19 (F := F) (k0_pay17 P) k0_pay18
/-- The hidden layer. -/
def hid : FVec F S30x256 .f32 := k0_pay20 (k0_pay16 P) (k0_pay17 P) k0_pay18 X7 X8 X9
/-- Where the hidden layer's largest magnitude underflows to nothing. -/
def hZero : IVec S1x256 1 := k0_pay22 (k0_pay16 P) (k0_pay17 P) k0_pay18 X7 X8 X9
/-- The hidden layer's scale exponents. -/
def hExp : IVec S1x256 32 := k0_pay23 (k0_pay16 P) (k0_pay17 P) k0_pay18 X7 X8 X9
/-- The hidden layer's codes. -/
def hCodes : FVec F S30x256 .fp8e4m3 := k0_pay25 (hid P X7 X8 X9) (hZero P X7 X8 X9) (hExp P X7 X8 X9)
/-- The hidden layer's scales. -/
def hScale : FVec F S1x256 .f32 := k0_pay26 (F := F) (hZero P X7 X8 X9) (hExp P X7 X8 X9)
/-- The gate. -/
def gate : FVec F S160x256 .f32 := k0_pay27 (hid P X7 X8 X9) (hZero P X7 X8 X9) (hExp P X7 X8 X9) X10 X11 X12
/-- The output scale, from the gate and the running maximum `M`. -/
def yScale (M : Tile F) : F .f32 := k0_pay7 (gate P X7 X8 X9 X10 X11 X12) M

end Cert.KernelIdeal.Run

end
-- ==== Proof.PI.Dats.lean ====
module

public import proofs.«01_k».proof.Proof.PI.Tail
public import proofs.«01_k».proof.Proof.Gen.KernelIdeal.Frame

@[expose] public section

set_option maxRecDepth 16384
set_option maxHeartbeats 4000000

noncomputable section

/-! What the scratch buffers and the windows hold at every point, and the pipeline's proof data. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

/-- The first step's condition holds at the first point alone. -/
theorem cond1_iff : ∀ t : Fin cfg0.N, Scalar.cmpi .ne (Scalar.extui (Scalar.cmpi .eq (BitVec.ofNat 32 ((grid0.coords t) 0).val) 0#32) : BitVec 32) 0#32 = 1#1 ↔ t.val = 0 := by
  change ∀ t : Fin grid0.N, _; decide +kernel
/-- The condition for taking in an image row holds at the points before the last. -/
theorem cond2_iff : ∀ t : Fin cfg0.N, k0_cond2 (grid0.coords t) = 1#1 ↔ t.val < 32 := by
  change ∀ t : Fin grid0.N, _; decide +kernel
/-- The condition for zeroing a ring slot holds at the last point alone. -/
theorem cond3_iff : ∀ t : Fin cfg0.N, k0_cond3 (grid0.coords t) = 1#1 ↔ t.val = 32 := by
  change ∀ t : Fin grid0.N, _; decide +kernel
/-- The condition for computing an output row holds at every point but the first. -/
theorem cond4_iff : ∀ t : Fin cfg0.N, k0_cond4 (grid0.coords t) = 1#1 ↔ t.val ≠ 0 := by
  change ∀ t : Fin grid0.N, _; decide +kernel
/-- The condition for the closing computation holds at the last point alone. -/
theorem cond5_iff : ∀ t : Fin cfg0.N, k0_cond5 (grid0.coords t) = 1#1 ↔ t.val = 32 := by
  change ∀ t : Fin grid0.N, _; decide +kernel

/-- The trips of the second loop are the 40 columns. -/
theorem trips2 : k0_t2_loop.trips = 40 := by decide +kernel

/-- An output block's index lies in the window of its own column. -/
theorem mem_col (y : S1x40x160x256.Idx) (k : Fin k0_t2_loop.trips) (h : (y 1).val = k.val) :
    ∀ a, k0_off5 k a ≤ (y a).val ∧ (y a).val < k0_off5 k a + S1x1x160x256.size a := by
  rw [k0_off5_eq k]
  intro a
  have h0 : (y 0).val < 1 := (y 0).isLt
  have h2 : (y 2).val < 160 := (y 2).isLt
  have h3 : (y 3).val < 256 := (y 3).isLt
  fin_cases a
  · exact ⟨Nat.zero_le _, by simpa using h0⟩
  · exact ⟨h.symm.le, by simpa [h] using Nat.lt_succ_self _⟩
  · exact ⟨Nat.zero_le _, by simpa using h2⟩
  · exact ⟨Nat.zero_le _, by simpa using h3⟩

/-- The column of an output block's index, as a trip of the second loop. -/
def colOf (y : S1x40x160x256.Idx) : Fin k0_t2_loop.trips := ⟨(y 1).val, trips2.symm ▸ (y 1).isLt⟩

/-- The output block: every column at its tile. -/
def ablk (i : grid0.Coords) (h4 : k0_cond4 i = 1#1) (W : Vec F S3x160x384 .i8) (R : Ring F) (S B : Tile F) : Vec F S1x40x160x256 .f32 := fun y =>
  k0_pay4 (acc2 i h4 W R (colOf y)) (patch i h4 R (colOf y) 2) (wrow W 2) S B (Rect.unitLocal (s := S1x40x160x256) (off := k0_off5 (colOf y)) (size := S1x1x160x256.size) y (mem_col y (colOf y) rfl))

/-- The columns already put in are at their tiles. -/
theorem blkK_eq (i : grid0.Coords) (h4 : k0_cond4 i = 1#1) (W : Vec F S3x160x384 .i8) (R : Ring F) (S B : Tile F) (A : Vec F S1x40x160x256 .f32) (n : ℕ)
    (hn : n ≤ k0_t2_loop.trips) (y : S1x40x160x256.Idx) (hy : (y 1).val < n) : blkK i h4 W R S B A n y = ablk i h4 W R S B y := by
  induction n with
  | zero => exact absurd hy (Nat.not_lt_zero _)
  | succ n ih =>
    rw [blkK, dif_pos (show n < k0_t2_loop.trips from hn)]
    unfold VecWindow.put
    by_cases hc : (y 1).val = n
    · rw [dif_pos (mem_col y ⟨n, hn⟩ hc)]
      unfold ablk
      have e : colOf y = ⟨n, hn⟩ := Fin.ext hc
      have key : ∀ (k k' : Fin k0_t2_loop.trips) (e : k = k') (h : _) (h' : _),
          k0_pay4 (acc2 i h4 W R k) (patch i h4 R k 2) (wrow W 2) S B (Rect.unitLocal (s := S1x40x160x256) (off := k0_off5 k) (size := S1x1x160x256.size) y h)
          = k0_pay4 (acc2 i h4 W R k') (patch i h4 R k' 2) (wrow W 2) S B (Rect.unitLocal (s := S1x40x160x256) (off := k0_off5 k') (size := S1x1x160x256.size) y h') := by
        intro k k' e h h'; subst e; rfl
      exact key _ _ e.symm _ _
    · rw [dif_neg, ih (Nat.le_of_succ_le hn) (by omega)]
      intro hall
      have h1 := hall 1
      rw [k0_off5_eq ⟨n, hn⟩] at h1
      have a1 : n ≤ (y 1).val := h1.1
      have a2 : (y 1).val < n + 1 := h1.2
      omega

/-- After all the trips the whole block is at its tiles, whatever it held. -/
theorem blkK_all (i : grid0.Coords) (h4 : k0_cond4 i = 1#1) (W : Vec F S3x160x384 .i8) (R : Ring F) (S B : Tile F) (A : Vec F S1x40x160x256 .f32) :
    blkK i h4 W R S B A k0_t2_loop.trips = ablk i h4 W R S B :=
  funext fun y => blkK_eq i h4 W R S B A _ le_rfl y (trips2.symm ▸ (y 1).isLt)

/-- What the scratch buffers hold between points. -/
structure St (F : FTy → Type) where
  /-- the four input rows kept -/
  ring : Ring F
  /-- the scale, broadcast -/
  sc : Tile F
  /-- the bias, broadcast -/
  bi : Tile F
  /-- the running sum -/
  sum : Tile F
  /-- the running maximum -/
  mx : Tile F

/-- The first point. -/
def stA (i : grid0.Coords) (h2 : k0_cond2 i = 1#1) (X1 : Vec F S1x40x120x256 .i8) (X3 : Vec F S1x256 .f32) (X4 X5 X6 : Vec F S160x1 .f32) : St F :=
  ⟨ringK i h2 X1 (k0_pay8 (F := F)) k0_t1_loop.trips, k0_pay9 X3 X4 X5, k0_pay10 X6, k0_pay11, k0_pay12⟩

/-- An output row computed and accumulated from the ring `R`. -/
def accum (i : grid0.Coords) (h4 : k0_cond4 i = 1#1) (X2 : Vec F S3x160x384 .i8) (R : Ring F) (s : St F) : St F :=
  ⟨R, s.sc, s.bi, sumK i h4 X2 R s.sc s.bi s.sum k0_t2_loop.trips, maxK i h4 X2 R s.sc s.bi s.mx k0_t2_loop.trips⟩

/-- A middle point. -/
def stB (i : grid0.Coords) (h2 : k0_cond2 i = 1#1) (h4 : k0_cond4 i = 1#1) (X1 : Vec F S1x40x120x256 .i8) (X2 : Vec F S3x160x384 .i8) (s : St F) : St F :=
  accum i h4 X2 (ringK i h2 X1 s.ring k0_t1_loop.trips) s

/-- The last point. -/
def stC (i : grid0.Coords) (h4 : k0_cond4 i = 1#1) (X2 : Vec F S3x160x384 .i8) (s : St F) : St F :=
  accum i h4 X2 (VecWindow.put s.ring (k0_off3 i) S1x42x128x256.size (k0_pay2 (F := F))) s

variable (m : (ℓ : Loc nD τ sig) → Buf (Elt F) ℓ) (ρ : Dev nD → PrngReg)

/-- What the scratch holds after point `n`. -/
def st (c : Dev nD) : (n : ℕ) → n < cfg0.N → St F
  | 0, h => stA (grid0.coords ⟨0, h⟩) ((cond2_iff ⟨0, h⟩).2 (by show 0 < 32; omega)) (iblk m c 0 ⟨0, h⟩) (iblk m c 2 ⟨0, h⟩) (iblk m c 3 ⟨0, h⟩) (iblk m c 4 ⟨0, h⟩) (iblk m c 5 ⟨0, h⟩)
  | n + 1, h => if h' : n + 1 < 32 then
      stB (grid0.coords ⟨n + 1, h⟩) ((cond2_iff ⟨n + 1, h⟩).2 h') ((cond4_iff ⟨n + 1, h⟩).2 (by show n + 1 ≠ 0; omega)) (iblk m c 0 ⟨n + 1, h⟩) (iblk m c 1 ⟨n + 1, h⟩) (st c n (Nat.lt_of_succ_lt h))
    else stC (grid0.coords ⟨n + 1, h⟩) ((cond4_iff ⟨n + 1, h⟩).2 (by show n + 1 ≠ 0; omega)) (iblk m c 1 ⟨n + 1, h⟩) (st c n (Nat.lt_of_succ_lt h))

/-- The scratch buffers after the first point. -/
theorem st_A (c : Dev nD) (t : Fin cfg0.N) (ht : t.val = 0) (h2 : k0_cond2 (grid0.coords t) = 1#1) :
    st m c t.val t.isLt = stA (grid0.coords t) h2 (iblk m c 0 t) (iblk m c 2 t) (iblk m c 3 t) (iblk m c 4 t) (iblk m c 5 t) := by
  obtain ⟨n, hn⟩ := t; subst ht; rfl

/-- The scratch buffers after a point in between. -/
theorem st_B (c : Dev nD) (t : Fin cfg0.N) (h0 : t.val ≠ 0) (ht : t.val < 32) (h2 : k0_cond2 (grid0.coords t) = 1#1) (h4 : k0_cond4 (grid0.coords t) = 1#1) :
    st m c t.val t.isLt = stB (grid0.coords t) h2 h4 (iblk m c 0 t) (iblk m c 1 t) (st m c (t.val - 1) (by omega)) := by
  obtain ⟨n, hn⟩ := t
  cases n with
  | zero => exact absurd rfl h0
  | succ n => exact dif_pos ht

/-- The scratch buffers after the last point. -/
theorem st_C (c : Dev nD) (t : Fin cfg0.N) (ht : t.val = 32) (h4 : k0_cond4 (grid0.coords t) = 1#1) :
    st m c t.val t.isLt = stC (grid0.coords t) h4 (iblk m c 1 t) (st m c (t.val - 1) (by omega)) := by
  obtain ⟨n, hn⟩ := t
  cases n with
  | zero => exact absurd ht (by show ¬ 0 = 32; omega)
  | succ n => exact dif_neg (by have : n + 1 = 32 := ht; omega)

/-- A value to name for the block of a point that computes none. -/
def someBlk : Vec F S1x40x160x256 .f32 := fun _ => (k0_pay11 (F := F)) (fun a => ⟨0, by fin_cases a <;> decide⟩)

/-- The output block after point `t`. -/
def ablkAt (c : Dev nD) (t : Fin cfg0.N) : Vec F S1x40x160x256 .f32 :=
  if h4 : k0_cond4 (grid0.coords t) = 1#1 then
    ablk (grid0.coords t) h4 (iblk m c 1 t) (st m c t.val t.isLt).ring (st m c t.val t.isLt).sc (st m c t.val t.isLt).bi
  else someBlk

/-- Scratch buffer 0. -/
abbrev scM0 : Memref sig .tc .vmem S4x42x128x256 .bf16 := Memref.whole cc0_scratch0
/-- Scratch buffer 1. -/
abbrev scM1 : Memref sig .tc .vmem S160x256 .f32 := Memref.whole cc0_scratch1
/-- Scratch buffer 2. -/
abbrev scM2 : Memref sig .tc .vmem S160x256 .f32 := Memref.whole cc0_scratch2
/-- Scratch buffer 3. -/
abbrev scM3 : Memref sig .tc .vmem S160x256 .f32 := Memref.whole cc0_scratch3
/-- Scratch buffer 4. -/
abbrev scM4 : Memref sig .tc .vmem S160x256 .f32 := Memref.whole cc0_scratch4

/-- The launch's invariant, the scratch buffers as memrefs. -/
theorem PhiA_eq (c : Dev nD) : (Pipeline.ΦA spec0 c : sProp 𝕄G)
    = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-- The invariant after point `n`: each scratch buffer at what the point left in it. -/
def PhiAt (c : Dev nD) (s : St F) : sProp 𝕄G :=
  iprop(iprop(owns (c : Thread nD τ) scM0 fullShare s.ring ∗ owns (c : Thread nD τ) scM1 fullShare s.sc ∗ owns (c : Thread nD τ) scM2 fullShare s.bi ∗ owns (c : Thread nD τ) scM3 fullShare s.sum ∗ owns (c : Thread nD τ) scM4 fullShare s.mx) ∗ (∃ r, prngReg c r))

/-- The invariant before position `n`. -/
def PhiS (c : Dev nD) : (n : ℕ) → n ≤ cfg0.N → sProp 𝕄G
  | 0, _ => Pipeline.ΦA spec0 c
  | n + 1, hn => PhiAt c (st m c n hn)

/-- The invariant before the first point. -/
theorem PhiS_zero (c : Dev nD) (n : ℕ) (h : n ≤ cfg0.N) (hz : n = 0) : PhiS m c n h = Pipeline.ΦA spec0 c := by
  subst hz; rfl

/-- The invariant before a later point. -/
theorem PhiS_pos (c : Dev nD) (n : ℕ) (h : n ≤ cfg0.N) (hz : n ≠ 0) : PhiS m c n h = PhiAt c (st m c (n - 1) (by omega)) := by
  cases n with
  | zero => exact absurd rfl hz
  | succ n => rfl

/-- The pipeline's proof data: inputs at their blocks, the output block at its tiles, the last point's results as functions of
    the running sum and maximum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => ablkAt m c t
    | ⟨13, _⟩ => gate (st m c t.val t.isLt).sum (iblk m c 6 t) (iblk m c 7 t) (iblk m c 8 t) (iblk m c 9 t) (iblk m c 10 t) (iblk m c 11 t)
    | ⟨14, _⟩ => pCodes (st m c t.val t.isLt).sum
    | ⟨15, _⟩ => pScale (st m c t.val t.isLt).sum
    | ⟨16, _⟩ => hCodes (st m c t.val t.isLt).sum (iblk m c 6 t) (iblk m c 7 t) (iblk m c 8 t)
    | ⟨17, _⟩ => hScale (st m c t.val t.isLt).sum (iblk m c 6 t) (iblk m c 7 t) (iblk m c 8 t)
    | ⟨18, _⟩ => (fun _ => yScale (st m c t.val t.isLt).sum (iblk m c 6 t) (iblk m c 7 t) (iblk m c 8 t) (iblk m c 9 t) (iblk m c 10 t) (iblk m c 11 t) (st m c t.val t.isLt).mx)
    | ⟨n + 19, h⟩ => absurd h (by show ¬ n + 19 < 19; omega)
  Φ t := PhiS m c t.val (Nat.le_of_lt_succ t.isLt)
  q _ := fullShare
  owed _ := 0

/-- The windows' arrays hold what they hold at the region's entry. -/
theorem A_eq (c : Dev nD) (w : Fin cfg0.W) : (dats m 0 c).A w = V m c (Pipeline.arrRef spec0 w) := by
  dsimp only [dats]

/-- The proof data's invariant before a point. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- What the launch hands the region is the invariant before the first point. -/
theorem hin (c : Dev nD) : (Pipeline.ΦA spec0 c : sProp 𝕄G) ⊢ (dats m 0 c).Φ 0 := by
  rw [show (dats m 0 c).Φ 0 = PhiS m c 0 (Nat.zero_le _) from rfl, PhiS_zero m c 0 _ rfl]

/-- After the last point the invariant gives the scratch back. -/
theorem hout (c : Dev nD) : (dats m 0 c).Φ (Fin.last cfg0.N) ⊢ (Pipeline.ΦA spec0 c : sProp 𝕄G) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA_eq]
  unfold PhiAt
  iintro ⟨⟨H0, H1, H2, H3, H4⟩, Hr⟩
  isplitl [H0 H1 H2 H3 H4]
  · isplitl [H0]
    · iexists _; iexact H0
    isplitl [H1]
    · iexists _; iexact H1
    isplitl [H2]
    · iexists _; iexact H2
    isplitl [H3]
    · iexists _; iexact H3
    iexists _; iexact H4
  · iexact Hr

/-- What window 0 holds after the body at a point. -/
theorem after_0 (c : Dev nD) (t : Fin cfg0.N) : (dats m 0 c).after 0 t = iblk m c 0 t := by dsimp only [dats]
/-- What window 1 holds after the body at a point. -/
theorem after_1 (c : Dev nD) (t : Fin cfg0.N) : (dats m 0 c).after 1 t = iblk m c 1 t := by dsimp only [dats]
/-- What window 2 holds after the body at a point. -/
theorem after_2 (c : Dev nD) (t : Fin cfg0.N) : (dats m 0 c).after 2 t = iblk m c 2 t := by dsimp only [dats]
/-- What window 3 holds after the body at a point. -/
theorem after_3 (c : Dev nD) (t : Fin cfg0.N) : (dats m 0 c).after 3 t = iblk m c 3 t := by dsimp only [dats]
/-- What window 4 holds after the body at a point. -/
theorem after_4 (c : Dev nD) (t : Fin cfg0.N) : (dats m 0 c).after 4 t = iblk m c 4 t := by dsimp only [dats]
/-- What window 5 holds after the body at a point. -/
theorem after_5 (c : Dev nD) (t : Fin cfg0.N) : (dats m 0 c).after 5 t = iblk m c 5 t := by dsimp only [dats]
/-- What window 6 holds after the body at a point. -/
theorem after_6 (c : Dev nD) (t : Fin cfg0.N) : (dats m 0 c).after 6 t = iblk m c 6 t := by dsimp only [dats]
/-- What window 7 holds after the body at a point. -/
theorem after_7 (c : Dev nD) (t : Fin cfg0.N) : (dats m 0 c).after 7 t = iblk m c 7 t := by dsimp only [dats]
/-- What window 8 holds after the body at a point. -/
theorem after_8 (c : Dev nD) (t : Fin cfg0.N) : (dats m 0 c).after 8 t = iblk m c 8 t := by dsimp only [dats]
/-- What window 9 holds after the body at a point. -/
theorem after_9 (c : Dev nD) (t : Fin cfg0.N) : (dats m 0 c).after 9 t = iblk m c 9 t := by dsimp only [dats]
/-- What window 10 holds after the body at a point. -/
theorem after_10 (c : Dev nD) (t : Fin cfg0.N) : (dats m 0 c).after 10 t = iblk m c 10 t := by dsimp only [dats]
/-- What window 11 holds after the body at a point. -/
theorem after_11 (c : Dev nD) (t : Fin cfg0.N) : (dats m 0 c).after 11 t = iblk m c 11 t := by dsimp only [dats]
/-- Input window 0 holds its block before the body at every point. -/
theorem before_0 (c : Dev nD) (t : Fin cfg0.N) (d) : (dats m 0 c).before 0 t d = iblk m c 0 t :=
  before0_0_of m (dats m 0 c) (A_eq m c 0) (after_0 m c) t d
/-- Input window 1 holds its block before the body at every point. -/
theorem before_1 (c : Dev nD) (t : Fin cfg0.N) (d) : (dats m 0 c).before 1 t d = iblk m c 1 t :=
  before0_1_of m (dats m 0 c) (A_eq m c 1) (after_1 m c) t d
/-- Input window 2 holds its block before the body at every point. -/
theorem before_2 (c : Dev nD) (t : Fin cfg0.N) (d) : (dats m 0 c).before 2 t d = iblk m c 2 t :=
  before0_2_of m (dats m 0 c) (A_eq m c 2) (after_2 m c) t d
/-- Input window 3 holds its block before the body at every point. -/
theorem before_3 (c : Dev nD) (t : Fin cfg0.N) (d) : (dats m 0 c).before 3 t d = iblk m c 3 t :=
  before0_3_of m (dats m 0 c) (A_eq m c 3) (after_3 m c) t d
/-- Input window 4 holds its block before the body at every point. -/
theorem before_4 (c : Dev nD) (t : Fin cfg0.N) (d) : (dats m 0 c).before 4 t d = iblk m c 4 t :=
  before0_4_of m (dats m 0 c) (A_eq m c 4) (after_4 m c) t d
/-- Input window 5 holds its block before the body at every point. -/
theorem before_5 (c : Dev nD) (t : Fin cfg0.N) (d) : (dats m 0 c).before 5 t d = iblk m c 5 t :=
  before0_5_of m (dats m 0 c) (A_eq m c 5) (after_5 m c) t d
/-- Input window 6 holds its block before the body at every point. -/
theorem before_6 (c : Dev nD) (t : Fin cfg0.N) (d) : (dats m 0 c).before 6 t d = iblk m c 6 t :=
  before0_6_of m (dats m 0 c) (A_eq m c 6) (after_6 m c) t d
/-- Input window 7 holds its block before the body at every point. -/
theorem before_7 (c : Dev nD) (t : Fin cfg0.N) (d) : (dats m 0 c).before 7 t d = iblk m c 7 t :=
  before0_7_of m (dats m 0 c) (A_eq m c 7) (after_7 m c) t d
/-- Input window 8 holds its block before the body at every point. -/
theorem before_8 (c : Dev nD) (t : Fin cfg0.N) (d) : (dats m 0 c).before 8 t d = iblk m c 8 t :=
  before0_8_of m (dats m 0 c) (A_eq m c 8) (after_8 m c) t d
/-- Input window 9 holds its block before the body at every point. -/
theorem before_9 (c : Dev nD) (t : Fin cfg0.N) (d) : (dats m 0 c).before 9 t d = iblk m c 9 t :=
  before0_9_of m (dats m 0 c) (A_eq m c 9) (after_9 m c) t d
/-- Input window 10 holds its block before the body at every point. -/
theorem before_10 (c : Dev nD) (t : Fin cfg0.N) (d) : (dats m 0 c).before 10 t d = iblk m c 10 t :=
  before0_10_of m (dats m 0 c) (A_eq m c 10) (after_10 m c) t d
/-- Input window 11 holds its block before the body at every point. -/
theorem before_11 (c : Dev nD) (t : Fin cfg0.N) (d) : (dats m 0 c).before 11 t d = iblk m c 11 t :=
  before0_11_of m (dats m 0 c) (A_eq m c 11) (after_11 m c) t d

end Cert.KernelIdeal.Run

end
-- ==== Proof.PI.Leaves.lean ====
module

public import proofs.«01_k».proof.Proof.PI.Dats

@[expose] public section

set_option maxRecDepth 16384
set_option maxHeartbeats 4000000

noncomputable section

/-! What the body is called with and what it leaves, window by window. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- What the body is called with at point `t`, window by window. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- What it returns: inputs as they were; an output stored at this point at its value, one left alone as it was. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- The points at which window 12 is not written. -/
theorem idle12 (t : Fin cfg0.N) : cfg0.idle 12 (cfg0.grid.coords t) = !(k0_cond4 (grid0.coords t) == 1#1) := rfl
/-- The points at which window 13 is not written. -/
theorem idle13 (t : Fin cfg0.N) : cfg0.idle 13 (cfg0.grid.coords t) = !(k0_cond5 (grid0.coords t) == 1#1) := rfl
/-- The points at which window 14 is not written. -/
theorem idle14 (t : Fin cfg0.N) : cfg0.idle 14 (cfg0.grid.coords t) = !(k0_cond5 (grid0.coords t) == 1#1) := rfl
/-- The points at which window 15 is not written. -/
theorem idle15 (t : Fin cfg0.N) : cfg0.idle 15 (cfg0.grid.coords t) = !(k0_cond5 (grid0.coords t) == 1#1) := rfl
/-- The points at which window 16 is not written. -/
theorem idle16 (t : Fin cfg0.N) : cfg0.idle 16 (cfg0.grid.coords t) = !(k0_cond5 (grid0.coords t) == 1#1) := rfl
/-- The points at which window 17 is not written. -/
theorem idle17 (t : Fin cfg0.N) : cfg0.idle 17 (cfg0.grid.coords t) = !(k0_cond5 (grid0.coords t) == 1#1) := rfl
/-- The points at which window 18 is not written. -/
theorem idle18 (t : Fin cfg0.N) : cfg0.idle 18 (cfg0.grid.coords t) = !(k0_cond5 (grid0.coords t) == 1#1) := rfl

/-- A point that does not write window 12 does not write it back. -/
theorem noflush12 : ∀ t : Fin cfg0.N, t.val = 0 → (cfg0.win 12).flush t = false := by
  intro t ht
  have key : ∀ t : Fin grid0.N, t.val = 0 → win0_12.flush t = false := by decide +kernel
  exact key t ht
/-- A point that does not write window 13 does not write it back. -/
theorem noflush13 (t : Fin cfg0.N) (ht : t.val ≠ 32) : (cfg0.win 13).flush t = false := by
  have h := flush0_13 t
  have hN : t.val < 33 := t.isLt
  cases hf : (cfg0.win 13).flush t
  · rfl
  · have := h.1 hf; omega
/-- A point that does not write window 14 does not write it back. -/
theorem noflush14 (t : Fin cfg0.N) (ht : t.val ≠ 32) : (cfg0.win 14).flush t = false := by
  have h := flush0_14 t
  have hN : t.val < 33 := t.isLt
  cases hf : (cfg0.win 14).flush t
  · rfl
  · have := h.1 hf; omega
/-- A point that does not write window 15 does not write it back. -/
theorem noflush15 (t : Fin cfg0.N) (ht : t.val ≠ 32) : (cfg0.win 15).flush t = false := by
  have h := flush0_15 t
  have hN : t.val < 33 := t.isLt
  cases hf : (cfg0.win 15).flush t
  · rfl
  · have := h.1 hf; omega
/-- A point that does not write window 16 does not write it back. -/
theorem noflush16 (t : Fin cfg0.N) (ht : t.val ≠ 32) : (cfg0.win 16).flush t = false := by
  have h := flush0_16 t
  have hN : t.val < 33 := t.isLt
  cases hf : (cfg0.win 16).flush t
  · rfl
  · have := h.1 hf; omega
/-- A point that does not write window 17 does not write it back. -/
theorem noflush17 (t : Fin cfg0.N) (ht : t.val ≠ 32) : (cfg0.win 17).flush t = false := by
  have h := flush0_17 t
  have hN : t.val < 33 := t.isLt
  cases hf : (cfg0.win 17).flush t
  · rfl
  · have := h.1 hf; omega
/-- A point that does not write window 18 does not write it back. -/
theorem noflush18 (t : Fin cfg0.N) (ht : t.val ≠ 32) : (cfg0.win 18).flush t = false := by
  have h := flush0_18 t
  have hN : t.val < 33 := t.isLt
  cases hf : (cfg0.win 18).flush t
  · rfl
  · have := h.1 hf; omega

/-- What the body leaves in window 12 at a point that writes it. -/
theorem leaves_on12 (c : Dev nD) (t : Fin cfg0.N) (h : t.val ≠ 0) :
    (dats m 0 c).leavesExact 12 t = (owns (c : Thread nD τ) (st0_12 t) fullShare ((dats m 0 c).after 12 t) : sProp 𝕄G) := by
  have hi : cfg0.idle 12 (cfg0.grid.coords t) = false := by rw [idle12, (cond4_iff t).2 h]; rfl
  unfold Dat.leavesExact; rw [hi]
/-- What the body leaves in window 12 at a point that does not write it. -/
theorem leaves_off12 (c : Dev nD) (t : Fin cfg0.N) (h : ¬ t.val ≠ 0) :
    (dats m 0 c).leavesExact 12 t = (iprop(∃ d, owns (c : Thread nD τ) (st0_12 t) fullShare ((dats m 0 c).before 12 t d)) : sProp 𝕄G) := by
  have hi : cfg0.idle 12 (cfg0.grid.coords t) = true := by
    rw [idle12]
    have hc : ¬ k0_cond4 (grid0.coords t) = 1#1 := fun hc => h ((cond4_iff t).1 hc)
    simp only [Bool.not_eq_true', beq_eq_false_iff_ne, ne_eq]; exact hc
  exact Dat.leavesExact_idle _ _ _ hi (noflush12 t (not_not.1 h))

/-- What the body leaves in window 13 at a point that writes it. -/
theorem leaves_on13 (c : Dev nD) (t : Fin cfg0.N) (h : t.val = 32) :
    (dats m 0 c).leavesExact 13 t = (owns (c : Thread nD τ) (st0_13 t) fullShare ((dats m 0 c).after 13 t) : sProp 𝕄G) := by
  have hi : cfg0.idle 13 (cfg0.grid.coords t) = false := by rw [idle13, (cond5_iff t).2 h]; rfl
  unfold Dat.leavesExact; rw [hi]
/-- What the body leaves in window 13 at a point that does not write it. -/
theorem leaves_off13 (c : Dev nD) (t : Fin cfg0.N) (h : ¬ t.val = 32) :
    (dats m 0 c).leavesExact 13 t = (iprop(∃ d, owns (c : Thread nD τ) (st0_13 t) fullShare ((dats m 0 c).before 13 t d)) : sProp 𝕄G) := by
  have hi : cfg0.idle 13 (cfg0.grid.coords t) = true := by
    rw [idle13]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush13 t h)

/-- What the body leaves in window 14 at a point that writes it. -/
theorem leaves_on14 (c : Dev nD) (t : Fin cfg0.N) (h : t.val = 32) :
    (dats m 0 c).leavesExact 14 t = (owns (c : Thread nD τ) (st0_14 t) fullShare ((dats m 0 c).after 14 t) : sProp 𝕄G) := by
  have hi : cfg0.idle 14 (cfg0.grid.coords t) = false := by rw [idle14, (cond5_iff t).2 h]; rfl
  unfold Dat.leavesExact; rw [hi]
/-- What the body leaves in window 14 at a point that does not write it. -/
theorem leaves_off14 (c : Dev nD) (t : Fin cfg0.N) (h : ¬ t.val = 32) :
    (dats m 0 c).leavesExact 14 t = (iprop(∃ d, owns (c : Thread nD τ) (st0_14 t) fullShare ((dats m 0 c).before 14 t d)) : sProp 𝕄G) := by
  have hi : cfg0.idle 14 (cfg0.grid.coords t) = true := by
    rw [idle14]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush14 t h)

/-- What the body leaves in window 15 at a point that writes it. -/
theorem leaves_on15 (c : Dev nD) (t : Fin cfg0.N) (h : t.val = 32) :
    (dats m 0 c).leavesExact 15 t = (owns (c : Thread nD τ) (st0_15 t) fullShare ((dats m 0 c).after 15 t) : sProp 𝕄G) := by
  have hi : cfg0.idle 15 (cfg0.grid.coords t) = false := by rw [idle15, (cond5_iff t).2 h]; rfl
  unfold Dat.leavesExact; rw [hi]
/-- What the body leaves in window 15 at a point that does not write it. -/
theorem leaves_off15 (c : Dev nD) (t : Fin cfg0.N) (h : ¬ t.val = 32) :
    (dats m 0 c).leavesExact 15 t = (iprop(∃ d, owns (c : Thread nD τ) (st0_15 t) fullShare ((dats m 0 c).before 15 t d)) : sProp 𝕄G) := by
  have hi : cfg0.idle 15 (cfg0.grid.coords t) = true := by
    rw [idle15]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush15 t h)

/-- What the body leaves in window 16 at a point that writes it. -/
theorem leaves_on16 (c : Dev nD) (t : Fin cfg0.N) (h : t.val = 32) :
    (dats m 0 c).leavesExact 16 t = (owns (c : Thread nD τ) (st0_16 t) fullShare ((dats m 0 c).after 16 t) : sProp 𝕄G) := by
  have hi : cfg0.idle 16 (cfg0.grid.coords t) = false := by rw [idle16, (cond5_iff t).2 h]; rfl
  unfold Dat.leavesExact; rw [hi]
/-- What the body leaves in window 16 at a point that does not write it. -/
theorem leaves_off16 (c : Dev nD) (t : Fin cfg0.N) (h : ¬ t.val = 32) :
    (dats m 0 c).leavesExact 16 t = (iprop(∃ d, owns (c : Thread nD τ) (st0_16 t) fullShare ((dats m 0 c).before 16 t d)) : sProp 𝕄G) := by
  have hi : cfg0.idle 16 (cfg0.grid.coords t) = true := by
    rw [idle16]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush16 t h)

/-- What the body leaves in window 17 at a point that writes it. -/
theorem leaves_on17 (c : Dev nD) (t : Fin cfg0.N) (h : t.val = 32) :
    (dats m 0 c).leavesExact 17 t = (owns (c : Thread nD τ) (st0_17 t) fullShare ((dats m 0 c).after 17 t) : sProp 𝕄G) := by
  have hi : cfg0.idle 17 (cfg0.grid.coords t) = false := by rw [idle17, (cond5_iff t).2 h]; rfl
  unfold Dat.leavesExact; rw [hi]
/-- What the body leaves in window 17 at a point that does not write it. -/
theorem leaves_off17 (c : Dev nD) (t : Fin cfg0.N) (h : ¬ t.val = 32) :
    (dats m 0 c).leavesExact 17 t = (iprop(∃ d, owns (c : Thread nD τ) (st0_17 t) fullShare ((dats m 0 c).before 17 t d)) : sProp 𝕄G) := by
  have hi : cfg0.idle 17 (cfg0.grid.coords t) = true := by
    rw [idle17]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush17 t h)

/-- What the body leaves in window 18 at a point that writes it. -/
theorem leaves_on18 (c : Dev nD) (t : Fin cfg0.N) (h : t.val = 32) :
    (dats m 0 c).leavesExact 18 t = (owns (c : Thread nD τ) (st0_18 t) fullShare ((dats m 0 c).after 18 t) : sProp 𝕄G) := by
  have hi : cfg0.idle 18 (cfg0.grid.coords t) = false := by rw [idle18, (cond5_iff t).2 h]; rfl
  unfold Dat.leavesExact; rw [hi]
/-- What the body leaves in window 18 at a point that does not write it. -/
theorem leaves_off18 (c : Dev nD) (t : Fin cfg0.N) (h : ¬ t.val = 32) :
    (dats m 0 c).leavesExact 18 t = (iprop(∃ d, owns (c : Thread nD τ) (st0_18 t) fullShare ((dats m 0 c).before 18 t d)) : sProp 𝕄G) := by
  have hi : cfg0.idle 18 (cfg0.grid.coords t) = true := by
    rw [idle18]
    have hc : ¬ k0_cond5 (grid0.coords t) = 1#1 := fun hc => h ((cond5_iff t).1 hc)
    simp only [Bool.not_eq_true', beq_eq_false_iff_ne, ne_eq]; exact hc
  exact Dat.leavesExact_idle _ _ _ hi (noflush18 t h)
/-- What window 12 holds after the body at a point. -/
theorem after_12 (c : Dev nD) (t : Fin cfg0.N) (h4 : k0_cond4 (grid0.coords t) = 1#1) : (dats m 0 c).after 12 t = ablk (grid0.coords t) h4 (iblk m c 1 t) (st m c t.val t.isLt).ring (st m c t.val t.isLt).sc (st m c t.val t.isLt).bi := by
  rw [show (dats m 0 c).after 12 t = ablkAt m c t by dsimp only [dats]]
  unfold ablkAt; rw [dif_pos h4]
/-- What window 13 holds after the body at a point. -/
theorem after_13 (c : Dev nD) (t : Fin cfg0.N) : (dats m 0 c).after 13 t = gate (st m c t.val t.isLt).sum (iblk m c 6 t) (iblk m c 7 t) (iblk m c 8 t) (iblk m c 9 t) (iblk m c 10 t) (iblk m c 11 t) := by dsimp only [dats]
/-- What window 14 holds after the body at a point. -/
theorem after_14 (c : Dev nD) (t : Fin cfg0.N) : (dats m 0 c).after 14 t = pCodes (st m c t.val t.isLt).sum := by dsimp only [dats]
/-- What window 15 holds after the body at a point. -/
theorem after_15 (c : Dev nD) (t : Fin cfg0.N) : (dats m 0 c).after 15 t = pScale (st m c t.val t.isLt).sum := by dsimp only [dats]
/-- What window 16 holds after the body at a point. -/
theorem after_16 (c : Dev nD) (t : Fin cfg0.N) : (dats m 0 c).after 16 t = hCodes (st m c t.val t.isLt).sum (iblk m c 6 t) (iblk m c 7 t) (iblk m c 8 t) := by dsimp only [dats]
/-- What window 17 holds after the body at a point. -/
theorem after_17 (c : Dev nD) (t : Fin cfg0.N) : (dats m 0 c).after 17 t = hScale (st m c t.val t.isLt).sum (iblk m c 6 t) (iblk m c 7 t) (iblk m c 8 t) := by dsimp only [dats]
/-- What window 18 holds after the body at a point. -/
theorem after_18 (c : Dev nD) (t : Fin cfg0.N) : (dats m 0 c).after 18 t = (fun _ => yScale (st m c t.val t.isLt).sum (iblk m c 6 t) (iblk m c 7 t) (iblk m c 8 t) (iblk m c 9 t) (iblk m c 10 t) (iblk m c 11 t) (st m c t.val t.isLt).mx) := by dsimp only [dats]

end Cert.KernelIdeal.Run

end
-- ==== Proof.PI.Loop1.lean ====
module

public import proofs.«01_k».proof.Proof.PI.State
public import proofs.«01_k».proof.Proof.Gen.KernelIdeal.Loops

@[expose] public section

set_option maxRecDepth 16384
set_option maxHeartbeats 4000000

noncomputable section

/-! The first loop: the point's image row, taken into a slot of the ring. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

/-- The first loop's invariant: the input block as it is, the ring with the columns below `k` put in. -/
abbrev inv1 (c : Dev nD) (i : grid0.Coords) (arg1 : Memref sig .tc .vmem S1x40x120x256 .i8) (arg20 : Memref sig .tc .vmem S4x42x128x256 .bf16)
    (h2 : k0_cond2 i = 1#1) (X1 : BufTy.Contents (Elt F) arg1.view.ty) (G : BufTy.Contents (Elt F) arg20.view.ty) (k : ℕ) : sProp 𝕄G :=
  iprop((arg1.view.loc (c : Thread nD τ) ↦[arg1.view.set]{fullShare} X1)
    ∗ (∃ f, (arg20.view.loc (c : Thread nD τ) ↦[arg20.view.set]{fullShare} f)
        ∗ ⌜arg20.view.read (Elt F) f = ringK i h2 (arg1.view.read (Elt F) X1) (arg20.view.read (Elt F) G) k⌝))

set_option warn.classDefReducibility false in
/-- The first loop by its invariant. -/
@[sl_loop] def loop1 (𝒱 : Variants) (c : Dev nD) (bd : Option 𝒱.V) (E : Set ℕ) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (k0_h2 : k0_cond2 i = 1#1)
    (X1 : BufTy.Contents (Elt F) arg1.view.ty) (G : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h2 where
  inv := fun k _ => inv1 c i arg1 arg20 k0_h2 X1 G k
  step k acc := by
    have hk : k.val < 40 := Nat.lt_of_lt_of_le k.isLt k0_t1_abs.2.1
    unfold k0_t1_body
    iintro ⟨HR, ⟨%f, HW, %hf⟩⟩
    sl_exec
    sl_step
    isplitl [HR]; · iexact HR
    iexists _; isplitl [HW]; · iexact HW
    ipureintro
    rw [ringK_succ, ← hf]
    exact View.read_writes_cons_put _ _ _ _ _ rfl

end Cert.KernelIdeal.Run

end
-- ==== Proof.PI.Loop2.lean ====
module

public import proofs.«01_k».proof.Proof.PI.State
public import proofs.«01_k».proof.Proof.Gen.KernelIdeal.Loops

@[expose] public section

set_option maxRecDepth 16384
set_option maxHeartbeats 4000000

noncomputable section

/-! The second loop: the point's output row, column by column, with its running sum and maximum. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

/-- The second loop's invariant: weights, ring, scale and bias as they are; the output block's columns below `k`,
    the running sum and the running maximum at what the trips below `k` leave. -/
abbrev inv2 (c : Dev nD) (i : grid0.Coords) (arg2 : Memref sig .tc .vmem S3x160x384 .i8) (arg13 : Memref sig .tc .vmem S1x40x160x256 .f32)
    (arg20 : Memref sig .tc .vmem S4x42x128x256 .bf16) (arg21 arg22 arg23 arg24 : Memref sig .tc .vmem S160x256 .f32)
    (h4 : k0_cond4 i = 1#1) (X2 : BufTy.Contents (Elt F) arg2.view.ty) (X20 : BufTy.Contents (Elt F) arg20.view.ty)
    (X21 : BufTy.Contents (Elt F) arg21.view.ty) (X22 : BufTy.Contents (Elt F) arg22.view.ty)
    (G13 : BufTy.Contents (Elt F) arg13.view.ty) (G23 : BufTy.Contents (Elt F) arg23.view.ty) (G24 : BufTy.Contents (Elt F) arg24.view.ty)
    (k : ℕ) : sProp 𝕄G :=
  iprop((arg2.view.loc (c : Thread nD τ) ↦[arg2.view.set]{fullShare} X2)
    ∗ (arg20.view.loc (c : Thread nD τ) ↦[arg20.view.set]{fullShare} X20)
    ∗ (arg21.view.loc (c : Thread nD τ) ↦[arg21.view.set]{fullShare} X21)
    ∗ (arg22.view.loc (c : Thread nD τ) ↦[arg22.view.set]{fullShare} X22)
    ∗ (∃ f, (arg13.view.loc (c : Thread nD τ) ↦[arg13.view.set]{fullShare} f)
        ∗ ⌜arg13.view.read (Elt F) f = blkK i h4 (arg2.view.read (Elt F) X2) (arg20.view.read (Elt F) X20) (arg21.view.read (Elt F) X21) (arg22.view.read (Elt F) X22) (arg13.view.read (Elt F) G13) k⌝)
    ∗ (∃ f, (arg23.view.loc (c : Thread nD τ) ↦[arg23.view.set]{fullShare} f)
        ∗ ⌜arg23.view.read (Elt F) f = sumK i h4 (arg2.view.read (Elt F) X2) (arg20.view.read (Elt F) X20) (arg21.view.read (Elt F) X21) (arg22.view.read (Elt F) X22) (arg23.view.read (Elt F) G23) k⌝)
    ∗ (∃ f, (arg24.view.loc (c : Thread nD τ) ↦[arg24.view.set]{fullShare} f)
        ∗ ⌜arg24.view.read (Elt F) f = maxK i h4 (arg2.view.read (Elt F) X2) (arg20.view.read (Elt F) X20) (arg21.view.read (Elt F) X21) (arg22.view.read (Elt F) X22) (arg24.view.read (Elt F) G24) k⌝))

set_option warn.classDefReducibility false in
/-- The second loop by its invariant. -/
@[sl_loop] def loop2 (𝒱 : Variants) (c : Dev nD) (bd : Option 𝒱.V) (E : Set ℕ) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (arg0 : BitVec 32) (k0_h4 : k0_cond4 i = 1#1)
    (X2 : BufTy.Contents (Elt F) arg2.view.ty) (X20 : BufTy.Contents (Elt F) arg20.view.ty)
    (X21 : BufTy.Contents (Elt F) arg21.view.ty) (X22 : BufTy.Contents (Elt F) arg22.view.ty)
    (G13 : BufTy.Contents (Elt F) arg13.view.ty) (G23 : BufTy.Contents (Elt F) arg23.view.ty) (G24 : BufTy.Contents (Elt F) arg24.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k0_h4 where
  inv := fun k _ => inv2 c i arg2 arg13 arg20 arg21 arg22 arg23 arg24 k0_h4 X2 X20 X21 X22 G13 G23 G24 k
  step k acc := by
    have hk : k.val < 40 := Nat.lt_of_lt_of_le k.isLt k0_t2_abs.2.1
    unfold k0_t2_body
    simp only [k0_part2_eq_skeleton]
    unfold k0_part2_skel
    iintro ⟨H2, H20, H21, H22, ⟨%f13, H13, %h13⟩, ⟨%f23, H23, %h23⟩, ⟨%f24, H24, %h24⟩⟩
    sl_exec
    sl_step
    have e21 : arg21.view.readAt (Elt F) (Rect.unit ![0, 0] ![160, 256] inb_S160x256_S160x256_0_0).toLoadRect X21 = arg21.view.read (Elt F) X21 :=
      View.readAt_full arg21.view X21 inb_S160x256_S160x256_0_0
    have e22 : arg22.view.readAt (Elt F) (Rect.unit ![0, 0] ![160, 256] inb_S160x256_S160x256_0_0).toLoadRect X22 = arg22.view.read (Elt F) X22 :=
      View.readAt_full arg22.view X22 inb_S160x256_S160x256_0_0
    have e23 : arg23.view.readAt (Elt F) (Rect.unit ![0, 0] ![160, 256] inb_S160x256_S160x256_0_0).toLoadRect f23 = arg23.view.read (Elt F) f23 :=
      View.readAt_full arg23.view f23 inb_S160x256_S160x256_0_0
    have e24 : arg24.view.readAt (Elt F) (Rect.unit ![0, 0] ![160, 256] inb_S160x256_S160x256_0_0).toLoadRect f24 = arg24.view.read (Elt F) f24 :=
      View.readAt_full arg24.view f24 inb_S160x256_S160x256_0_0
    isplitl [H2]; · iexact H2
    isplitl [H20]; · iexact H20
    isplitl [H21]; · iexact H21
    isplitl [H22]; · iexact H22
    isplitl [H13]
    · iexists _; isplitl [H13]; · iexact H13
      ipureintro
      rw [blkK_succ, ← h13, e21, e22]
      exact View.read_writes_cons_put _ _ _ _ _ rfl
    isplitl [H23]
    · iexists _; isplitl [H23]; · iexact H23
      ipureintro
      rw [sumK_succ, ← h23, e21, e22, e23]
      exact View.read_writes_full _ _ _ _ _
    · iexists _; isplitl [H24]; · iexact H24
      ipureintro
      rw [maxK_succ, ← h24, e21, e22, e24]
      exact View.read_writes_full _ _ _ _ _

end Cert.KernelIdeal.Run

end
-- ==== Proof.PI.RunA.lean ====
module

public import proofs.«01_k».proof.Proof.PI.Loop1
public import proofs.«01_k».proof.Proof.PI.Loop2

@[expose] public section

set_option maxRecDepth 16384
set_option maxHeartbeats 4000000

noncomputable section

/-! The body's execution at the first point. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

set_option maxHeartbeats 40000000 in
/-- The first point: scratch initialised, the first row taken in. -/
theorem runA (c : Dev nD) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (h1 : Scalar.cmpi .ne (Scalar.extui (Scalar.cmpi .eq (BitVec.ofNat 32 (i 0).val) 0#32) : BitVec 32) 0#32 = 1#1)(h2 : k0_cond2 i = 1#1)(h3 : ¬ k0_cond3 i = 1#1)(h4 : ¬ k0_cond4 i = 1#1)(h5 : ¬ k0_cond5 i = 1#1)
    (X1 : Vec F S1x40x120x256 .i8) (X3 : Vec F S1x256 .f32) (X4 : Vec F S160x1 .f32) (X5 : Vec F S160x1 .f32) (X6 : Vec F S160x1 .f32) (X20 : Vec F S4x42x128x256 .bf16) (X21 : Vec F S160x256 .f32) (X22 : Vec F S160x256 .f32) (X23 : Vec F S160x256 .f32) (X24 : Vec F S160x256 .f32) :
    (iprop(owns (c : Thread nD τ) arg1 fullShare (X1) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg20 fullShare (X20) ∗ owns (c : Thread nD τ) arg21 fullShare (X21) ∗ owns (c : Thread nD τ) arg22 fullShare (X22) ∗ owns (c : Thread nD τ) arg23 fullShare (X23) ∗ owns (c : Thread nD τ) arg24 fullShare (X24)) : sProp 𝕄G)
    ⊢ wp frame (wpE (defs₀ (F := F)) Variants.none (c : Thread nD τ) none) Set.univ (cc0_conv_silu_gate (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(owns (c : Thread nD τ) arg1 fullShare (X1) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg20 fullShare (ringK i h2 X1 (k0_pay8 (F := F)) k0_t1_loop.trips) ∗ owns (c : Thread nD τ) arg21 fullShare (k0_pay9 X3 X4 X5) ∗ owns (c : Thread nD τ) arg22 fullShare (k0_pay10 X6) ∗ owns (c : Thread nD τ) arg23 fullShare (k0_pay11 (F := F)) ∗ owns (c : Thread nD τ) arg24 fullShare (k0_pay12 (F := F)))) := by
  simp only [cc0_conv_silu_gate_eq_skeleton]
  unfold cc0_conv_silu_gate_skel
  simp only [k0_part1_eq_skeleton]; unfold k0_part1_skel
  unfold owns
  iintro ⟨⟨%f1, %hf1, H1⟩, ⟨%f3, %hf3, H3⟩, ⟨%f4, %hf4, H4⟩, ⟨%f5, %hf5, H5⟩, ⟨%f6, %hf6, H6⟩, ⟨%f20, %hf20, H20⟩, ⟨%f21, %hf21, H21⟩, ⟨%f22, %hf22, H22⟩, ⟨%f23, %hf23, H23⟩, ⟨%f24, %hf24, H24⟩⟩
  subst hf1
  subst hf3
  subst hf4
  subst hf5
  subst hf6
  subst hf20
  subst hf21
  subst hf22
  subst hf23
  subst hf24
  sl_exec
  sl_step
  have e3 : ∀ f, arg3.view.readAt (Elt F) (Rect.unit ![0, 0] ![1, 256] inb_S1x256_S1x256_0_0).toLoadRect f = arg3.view.read (Elt F) f :=
    fun f => View.readAt_full arg3.view f inb_S1x256_S1x256_0_0
  have e4 : ∀ f, arg4.view.readAt (Elt F) (Rect.unit ![0, 0] ![160, 1] inb_S160x1_S160x1_0_0).toLoadRect f = arg4.view.read (Elt F) f :=
    fun f => View.readAt_full arg4.view f inb_S160x1_S160x1_0_0
  have e5 : ∀ f, arg5.view.readAt (Elt F) (Rect.unit ![0, 0] ![160, 1] inb_S160x1_S160x1_0_0).toLoadRect f = arg5.view.read (Elt F) f :=
    fun f => View.readAt_full arg5.view f inb_S160x1_S160x1_0_0
  have e6 : ∀ f, arg6.view.readAt (Elt F) (Rect.unit ![0, 0] ![160, 1] inb_S160x1_S160x1_0_0).toLoadRect f = arg6.view.read (Elt F) f :=
    fun f => View.readAt_full arg6.view f inb_S160x1_S160x1_0_0
  isplitl [H1]
  · iexists _; isplitr [H1]
    · ipureintro; rfl
    · iexact H1
  isplitl [H3]
  · iexists _; isplitr [H3]
    · ipureintro; rfl
    · iexact H3
  isplitl [H4]
  · iexists _; isplitr [H4]
    · ipureintro; rfl
    · iexact H4
  isplitl [H5]
  · iexists _; isplitr [H5]
    · ipureintro; rfl
    · iexact H5
  isplitl [H6]
  · iexists _; isplitr [H6]
    · ipureintro; rfl
    · iexact H6
  isplitl [H20]
  · iexists _; isplitr [H20]
    rotate_left
    · iexact H20
    · ipureintro
      rw [hL2]
      sl_unfold_words
      exact congrArg (fun R => ringK i h2 (arg1.view.read (Elt F) f1) R k0_t1_loop.trips) (View.read_writes_full _ _ _ _ _)
  isplitl [H21]
  · iexists _; isplitr [H21]
    rotate_left
    · iexact H21
    · ipureintro
      sl_unfold_words
      simp only [e3, e4, e5, e6]
      exact View.read_writes_full _ _ _ _ _
  isplitl [H22]
  · iexists _; isplitr [H22]
    rotate_left
    · iexact H22
    · ipureintro
      sl_unfold_words
      simp only [e3, e4, e5, e6]
      exact View.read_writes_full _ _ _ _ _
  isplitl [H23]
  · iexists _; isplitr [H23]
    rotate_left
    · iexact H23
    · ipureintro
      sl_unfold_words
      exact View.read_writes_full _ _ _ _ _
  · iexists _; isplitr [H24]
    rotate_left
    · iexact H24
    · ipureintro
      sl_unfold_words
      exact View.read_writes_full _ _ _ _ _

end Cert.KernelIdeal.Run

end
-- ==== Proof.PI.SoundA.lean ====
module

public import proofs.«01_k».proof.Proof.PI.Leaves
public import proofs.«01_k».proof.Proof.PI.RunA

@[expose] public section

set_option maxRecDepth 16384
set_option maxHeartbeats 4000000

noncomputable section

/-! The body's obligation at the first point. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- A triple used where more than its postcondition is wanted. -/
theorem run_with {α : Type} {c : Dev nD} {P K : sProp 𝕄G} {Q : α → sProp 𝕄G} {p : Prog (TpuEff nD τ sig (Elt F) Λ₀ .tc) α}
    (h : P ⊢ wp frame (wpE (defs₀ (F := F)) Variants.none (c : Thread nD τ) none) Set.univ p Q) :
    iprop(P ∗ (∀ a, Q a -∗ K)) ⊢ wp frame (wpE (defs₀ (F := F)) Variants.none (c : Thread nD τ) none) Set.univ p (fun _ => K) := by
  iintro ⟨HP, HK⟩
  iapply (wp_wand_r frame _ Set.univ)
  isplitl [HP]
  · iapply h; iexact HP
  · iexact HK

/-- The first point. -/
theorem sound_A (c : Dev nD) (t : Fin cfg0.N) (ht : t.val = 0) :
    bodyPre m c t ⊢ wp frame (wpE (defs₀ (F := F)) Variants.none c none) Set.univ (bodyAt0 t) (fun _ => bodyPost m c t) := by
  have hN : t.val < 33 := t.isLt
  have h1 := (cond1_iff t).2 ht
  have h2 := (cond2_iff t).2 (by omega)
  have h3 : ¬ _ := fun h => absurd ((cond3_iff t).1 h) (by omega)
  have h4 : ¬ _ := fun h => absurd ((cond4_iff t).1 h) (by omega)
  have h5 : ¬ _ := fun h => absurd ((cond5_iff t).1 h) (by omega)
  unfold bodyPre bodyPost bodyAt0
  rw [show (dats m 0 c).Φ t.succ = PhiAt c (st m c t.val t.isLt) from rfl, PhiS_castSucc m c t,
    show (dats m 0 c).owesAt () t.succ = (dats m 0 c).owesAt () t.castSucc from rfl]
  simp only [before_0, before_1, before_2, before_3, before_4, before_5, before_6, before_7, before_8, before_9, before_10, before_11, after_0, after_1, after_2, after_3, after_4, after_5, after_6, after_7, after_8, after_9, after_10, after_11]
  rw [PhiS_zero m c _ _ ht, PhiA_eq, leaves_off12 m c t (by omega), leaves_off13 m c t (by omega), leaves_off14 m c t (by omega), leaves_off15 m c t (by omega), leaves_off16 m c t (by omega), leaves_off17 m c t (by omega), leaves_off18 m c t (by omega), st_A m c t ht h2]
  iintro ⟨⟨⟨⟨%d20_0, S0⟩, ⟨%d20_1, S1⟩, ⟨%d20_2, S2⟩, ⟨%d20_3, S3⟩, ⟨%d20_4, S4⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_with (runA c (grid0.coords t) _ _ _ _ _ _ _ _ _ _ _ _ _ _ _ _ _ _ _ _ _ _ _ _ _ _ _ _ _ _ _ _ _ _ _ _ _ _ _ _ _ _ _ _ _ _ _ _ h1 h2 h3 h4 h5 (iblk m c 0 t) (iblk m c 2 t) (iblk m c 3 t) (iblk m c 4 t) (iblk m c 5 t) d20_0 d20_1 d20_2 d20_3 d20_4))
  isplitl [H0 H2 H3 H4 H5 S0 S1 S2 S3 S4]
  · isplitl [H0]; · iexact H0
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  iintro %_ ⟨H0, H2, H3, H4, H5, S0, S1, S2, S3, S4⟩
  isplitl [S0 S1 S2 S3 S4 Hr]
  · unfold PhiAt
    isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.KernelIdeal.Run

end
-- ==== Proof.PI.RunB.lean ====
module

public import proofs.«01_k».proof.Proof.PI.Loop1
public import proofs.«01_k».proof.Proof.PI.Loop2

@[expose] public section

set_option maxRecDepth 16384
set_option maxHeartbeats 4000000

noncomputable section

/-! The body's execution at a point in between. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

set_option maxHeartbeats 40000000 in
/-- A middle point: the next row taken in, one output row computed and accumulated. -/
theorem runB (c : Dev nD) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (h1 : ¬ Scalar.cmpi .ne (Scalar.extui (Scalar.cmpi .eq (BitVec.ofNat 32 (i 0).val) 0#32) : BitVec 32) 0#32 = 1#1)(h2 : k0_cond2 i = 1#1)(h3 : ¬ k0_cond3 i = 1#1)(h4 : k0_cond4 i = 1#1)(h5 : ¬ k0_cond5 i = 1#1)
    (X1 : Vec F S1x40x120x256 .i8) (X2 : Vec F S3x160x384 .i8) (X13 : Vec F S1x40x160x256 .f32) (X20 : Vec F S4x42x128x256 .bf16) (X21 : Vec F S160x256 .f32) (X22 : Vec F S160x256 .f32) (X23 : Vec F S160x256 .f32) (X24 : Vec F S160x256 .f32) :
    (iprop(owns (c : Thread nD τ) arg1 fullShare (X1) ∗ owns (c : Thread nD τ) arg2 fullShare (X2) ∗ owns (c : Thread nD τ) arg13 fullShare (X13) ∗ owns (c : Thread nD τ) arg20 fullShare (X20) ∗ owns (c : Thread nD τ) arg21 fullShare (X21) ∗ owns (c : Thread nD τ) arg22 fullShare (X22) ∗ owns (c : Thread nD τ) arg23 fullShare (X23) ∗ owns (c : Thread nD τ) arg24 fullShare (X24)) : sProp 𝕄G)
    ⊢ wp frame (wpE (defs₀ (F := F)) Variants.none (c : Thread nD τ) none) Set.univ (cc0_conv_silu_gate (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(owns (c : Thread nD τ) arg1 fullShare (X1) ∗ owns (c : Thread nD τ) arg2 fullShare (X2) ∗ owns (c : Thread nD τ) arg13 fullShare (blkK i h4 X2 (ringK i h2 X1 X20 k0_t1_loop.trips) X21 X22 X13 k0_t2_loop.trips) ∗ owns (c : Thread nD τ) arg20 fullShare (ringK i h2 X1 X20 k0_t1_loop.trips) ∗ owns (c : Thread nD τ) arg21 fullShare (X21) ∗ owns (c : Thread nD τ) arg22 fullShare (X22) ∗ owns (c : Thread nD τ) arg23 fullShare (sumK i h4 X2 (ringK i h2 X1 X20 k0_t1_loop.trips) X21 X22 X23 k0_t2_loop.trips) ∗ owns (c : Thread nD τ) arg24 fullShare (maxK i h4 X2 (ringK i h2 X1 X20 k0_t1_loop.trips) X21 X22 X24 k0_t2_loop.trips))) := by
  simp only [cc0_conv_silu_gate_eq_skeleton]
  unfold cc0_conv_silu_gate_skel

  unfold owns
  iintro ⟨⟨%f1, %hf1, H1⟩, ⟨%f2, %hf2, H2⟩, ⟨%f13, %hf13, H13⟩, ⟨%f20, %hf20, H20⟩, ⟨%f21, %hf21, H21⟩, ⟨%f22, %hf22, H22⟩, ⟨%f23, %hf23, H23⟩, ⟨%f24, %hf24, H24⟩⟩
  subst hf1
  subst hf2
  subst hf13
  subst hf20
  subst hf21
  subst hf22
  subst hf23
  subst hf24
  sl_exec
  sl_step
  isplitl [H1]
  · iexists _; isplitr [H1]
    · ipureintro; rfl
    · iexact H1
  isplitl [H2]
  · iexists _; isplitr [H2]
    · ipureintro; rfl
    · iexact H2
  isplitl [H13]
  · iexists _; isplitr [H13]
    rotate_left
    · iexact H13
    · ipureintro
      rw [hL8, hL2]
  isplitl [H20]
  · iexists _; isplitr [H20]
    rotate_left
    · iexact H20
    · ipureintro
      exact hL2
  isplitl [H21]
  · iexists _; isplitr [H21]
    · ipureintro; rfl
    · iexact H21
  isplitl [H22]
  · iexists _; isplitr [H22]
    · ipureintro; rfl
    · iexact H22
  isplitl [H23]
  · iexists _; isplitr [H23]
    rotate_left
    · iexact H23
    · ipureintro
      rw [hL10, hL2]
  · iexists _; isplitr [H24]
    rotate_left
    · iexact H24
    · ipureintro
      rw [hL12, hL2]

end Cert.KernelIdeal.Run

end
-- ==== Proof.PI.SoundB.lean ====
module

public import proofs.«01_k».proof.Proof.PI.SoundA
public import proofs.«01_k».proof.Proof.PI.RunB

@[expose] public section

set_option maxRecDepth 16384
set_option maxHeartbeats 4000000

noncomputable section

/-! The body's obligation at a point in between. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- A middle point. -/
theorem sound_B (c : Dev nD) (t : Fin cfg0.N) (h0 : t.val ≠ 0) (ht : t.val < 32) :
    bodyPre m c t ⊢ wp frame (wpE (defs₀ (F := F)) Variants.none c none) Set.univ (bodyAt0 t) (fun _ => bodyPost m c t) := by
  have hN : t.val < 33 := t.isLt
  have h1 : ¬ _ := fun h => absurd ((cond1_iff t).1 h) h0
  have h2 := (cond2_iff t).2 ht
  have h3 : ¬ _ := fun h => absurd ((cond3_iff t).1 h) (by omega)
  have h4 := (cond4_iff t).2 h0
  have h5 : ¬ _ := fun h => absurd ((cond5_iff t).1 h) (by omega)
  unfold bodyPre bodyPost bodyAt0
  rw [show (dats m 0 c).Φ t.succ = PhiAt c (st m c t.val t.isLt) from rfl, PhiS_castSucc m c t,
    show (dats m 0 c).owesAt () t.succ = (dats m 0 c).owesAt () t.castSucc from rfl]
  simp only [before_0, before_1, before_2, before_3, before_4, before_5, before_6, before_7, before_8, before_9, before_10, before_11, after_0, after_1, after_2, after_3, after_4, after_5, after_6, after_7, after_8, after_9, after_10, after_11]
  rw [PhiS_pos m c _ _ h0, leaves_on12 m c t h0, leaves_off13 m c t (by omega), leaves_off14 m c t (by omega), leaves_off15 m c t (by omega), leaves_off16 m c t (by omega), leaves_off17 m c t (by omega), leaves_off18 m c t (by omega), after_12 m c t h4, st_B m c t h0 ht h2 h4]
  unfold PhiAt
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_with (runB c (grid0.coords t) _ _ _ _ _ _ _ _ _ _ _ _ _ _ _ _ _ _ _ _ _ _ _ _ _ _ _ _ _ _ _ _ _ _ _ _ _ _ _ _ _ _ _ _ _ _ _ _ h1 h2 h3 h4 h5 (iblk m c 0 t) (iblk m c 1 t) ((dats m 0 c).before 12 t d12) (st m c (t.val - 1) (by omega)).ring (st m c (t.val - 1) (by omega)).sc (st m c (t.val - 1) (by omega)).bi (st m c (t.val - 1) (by omega)).sum (st m c (t.val - 1) (by omega)).mx))
  isplitl [H0 H1 H12 S0 S1 S2 S3 S4]
  · isplitl [H0]; · iexact H0
    isplitl [H1]; · iexact H1
    isplitl [H12]; · iexact H12
    isplitl [S0]; · iexact S0
    isplitl [S1]; · iexact S1
    isplitl [S2]; · iexact S2
    isplitl [S3]; · iexact S3
    iexact S4
  rw [blkK_all]
  iintro %_ ⟨H0, H1, H12, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.KernelIdeal.Run

end
-- ==== Proof.PI.RunC.lean ====
module

public import proofs.«01_k».proof.Proof.PI.Loop1
public import proofs.«01_k».proof.Proof.PI.Loop2
public import proofs.«01_k».proof.Proof.PI.Tail

@[expose] public section

set_option maxRecDepth 16384
set_option maxHeartbeats 4000000

noncomputable section

/-! The body's execution at the last point. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

set_option maxHeartbeats 40000000 in
/-- The last point: a zero row, the last output row, and the gate. -/
theorem runC (c : Dev nD) (i : grid0.Coords) (arg1 : Memref sig .tc .vmem S1x40x120x256 .i8) (harg1 : arg1.IsWhole) (arg2 : Memref sig .tc .vmem S3x160x384 .i8) (harg2 : arg2.IsWhole) (arg3 : Memref sig .tc .vmem S1x256 .f32) (harg3 : arg3.IsWhole) (arg4 : Memref sig .tc .vmem S160x1 .f32) (harg4 : arg4.IsWhole) (arg5 : Memref sig .tc .vmem S160x1 .f32) (harg5 : arg5.IsWhole) (arg6 : Memref sig .tc .vmem S160x1 .f32) (harg6 : arg6.IsWhole) (arg7 : Memref sig .tc .vmem S30x160 .fp8e4m3) (harg7 : arg7.IsWhole) (arg8 : Memref sig .tc .vmem S30x1 .f32) (harg8 : arg8.IsWhole) (arg9 : Memref sig .tc .vmem S30x1 .f32) (harg9 : arg9.IsWhole) (arg10 : Memref sig .tc .vmem S160x30 .fp8e4m3) (harg10 : arg10.IsWhole) (arg11 : Memref sig .tc .vmem S160x1 .f32) (harg11 : arg11.IsWhole) (arg12 : Memref sig .tc .vmem S160x1 .f32) (harg12 : arg12.IsWhole) (arg13 : Memref sig .tc .vmem S1x40x160x256 .f32) (harg13 : arg13.IsWhole) (arg14 : Memref sig .tc .vmem S160x256 .f32) (harg14 : arg14.IsWhole) (arg15 : Memref sig .tc .vmem S160x256 .fp8e4m3) (harg15 : arg15.IsWhole) (arg16 : Memref sig .tc .vmem S1x256 .f32) (harg16 : arg16.IsWhole) (arg17 : Memref sig .tc .vmem S30x256 .fp8e4m3) (harg17 : arg17.IsWhole) (arg18 : Memref sig .tc .vmem S1x256 .f32) (harg18 : arg18.IsWhole) (arg19 : Memref sig .tc .smem S1x1 .f32) (harg19 : arg19.IsWhole) (arg20 : Memref sig .tc .vmem S4x42x128x256 .bf16) (harg20 : arg20.IsWhole) (arg21 : Memref sig .tc .vmem S160x256 .f32) (harg21 : arg21.IsWhole) (arg22 : Memref sig .tc .vmem S160x256 .f32) (harg22 : arg22.IsWhole) (arg23 : Memref sig .tc .vmem S160x256 .f32) (harg23 : arg23.IsWhole) (arg24 : Memref sig .tc .vmem S160x256 .f32) (harg24 : arg24.IsWhole) (h1 : ¬ Scalar.cmpi .ne (Scalar.extui (Scalar.cmpi .eq (BitVec.ofNat 32 (i 0).val) 0#32) : BitVec 32) 0#32 = 1#1)(h2 : ¬ k0_cond2 i = 1#1)(h3 : k0_cond3 i = 1#1)(h4 : k0_cond4 i = 1#1)(h5 : k0_cond5 i = 1#1)
    (X2 : Vec F S3x160x384 .i8) (X7 : Vec F S30x160 .fp8e4m3) (X8 : Vec F S30x1 .f32) (X9 : Vec F S30x1 .f32) (X10 : Vec F S160x30 .fp8e4m3) (X11 : Vec F S160x1 .f32) (X12 : Vec F S160x1 .f32) (X13 : Vec F S1x40x160x256 .f32) (X14 : Vec F S160x256 .f32) (X15 : Vec F S160x256 .fp8e4m3) (X16 : Vec F S1x256 .f32) (X17 : Vec F S30x256 .fp8e4m3) (X18 : Vec F S1x256 .f32) (X19 : Vec F S1x1 .f32) (X20 : Vec F S4x42x128x256 .bf16) (X21 : Vec F S160x256 .f32) (X22 : Vec F S160x256 .f32) (X23 : Vec F S160x256 .f32) (X24 : Vec F S160x256 .f32) :
    (iprop(owns (c : Thread nD τ) arg2 fullShare (X2) ∗ owns (c : Thread nD τ) arg7 fullShare (X7) ∗ owns (c : Thread nD τ) arg8 fullShare (X8) ∗ owns (c : Thread nD τ) arg9 fullShare (X9) ∗ owns (c : Thread nD τ) arg10 fullShare (X10) ∗ owns (c : Thread nD τ) arg11 fullShare (X11) ∗ owns (c : Thread nD τ) arg12 fullShare (X12) ∗ owns (c : Thread nD τ) arg13 fullShare (X13) ∗ owns (c : Thread nD τ) arg14 fullShare (X14) ∗ owns (c : Thread nD τ) arg15 fullShare (X15) ∗ owns (c : Thread nD τ) arg16 fullShare (X16) ∗ owns (c : Thread nD τ) arg17 fullShare (X17) ∗ owns (c : Thread nD τ) arg18 fullShare (X18) ∗ owns (c : Thread nD τ) arg19 fullShare (X19) ∗ owns (c : Thread nD τ) arg20 fullShare (X20) ∗ owns (c : Thread nD τ) arg21 fullShare (X21) ∗ owns (c : Thread nD τ) arg22 fullShare (X22) ∗ owns (c : Thread nD τ) arg23 fullShare (X23) ∗ owns (c : Thread nD τ) arg24 fullShare (X24)) : sProp 𝕄G)
    ⊢ wp frame (wpE (defs₀ (F := F)) Variants.none (c : Thread nD τ) none) Set.univ (cc0_conv_silu_gate (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(owns (c : Thread nD τ) arg2 fullShare (X2) ∗ owns (c : Thread nD τ) arg7 fullShare (X7) ∗ owns (c : Thread nD τ) arg8 fullShare (X8) ∗ owns (c : Thread nD τ) arg9 fullShare (X9) ∗ owns (c : Thread nD τ) arg10 fullShare (X10) ∗ owns (c : Thread nD τ) arg11 fullShare (X11) ∗ owns (c : Thread nD τ) arg12 fullShare (X12) ∗ owns (c : Thread nD τ) arg13 fullShare (blkK i h4 X2 (VecWindow.put X20 (k0_off3 i) S1x42x128x256.size (k0_pay2 (F := F))) X21 X22 X13 k0_t2_loop.trips) ∗ owns (c : Thread nD τ) arg14 fullShare (gate (sumK i h4 X2 (VecWindow.put X20 (k0_off3 i) S1x42x128x256.size (k0_pay2 (F := F))) X21 X22 X23 k0_t2_loop.trips) X7 X8 X9 X10 X11 X12) ∗ owns (c : Thread nD τ) arg15 fullShare (pCodes (sumK i h4 X2 (VecWindow.put X20 (k0_off3 i) S1x42x128x256.size (k0_pay2 (F := F))) X21 X22 X23 k0_t2_loop.trips)) ∗ owns (c : Thread nD τ) arg16 fullShare (pScale (sumK i h4 X2 (VecWindow.put X20 (k0_off3 i) S1x42x128x256.size (k0_pay2 (F := F))) X21 X22 X23 k0_t2_loop.trips)) ∗ owns (c : Thread nD τ) arg17 fullShare (hCodes (sumK i h4 X2 (VecWindow.put X20 (k0_off3 i) S1x42x128x256.size (k0_pay2 (F := F))) X21 X22 X23 k0_t2_loop.trips) X7 X8 X9) ∗ owns (c : Thread nD τ) arg18 fullShare (hScale (sumK i h4 X2 (VecWindow.put X20 (k0_off3 i) S1x42x128x256.size (k0_pay2 (F := F))) X21 X22 X23 k0_t2_loop.trips) X7 X8 X9) ∗ owns (c : Thread nD τ) arg19 fullShare (fun _ => yScale (sumK i h4 X2 (VecWindow.put X20 (k0_off3 i) S1x42x128x256.size (k0_pay2 (F := F))) X21 X22 X23 k0_t2_loop.trips) X7 X8 X9 X10 X11 X12 (maxK i h4 X2 (VecWindow.put X20 (k0_off3 i) S1x42x128x256.size (k0_pay2 (F := F))) X21 X22 X24 k0_t2_loop.trips)) ∗ owns (c : Thread nD τ) arg20 fullShare (VecWindow.put X20 (k0_off3 i) S1x42x128x256.size (k0_pay2 (F := F))) ∗ owns (c : Thread nD τ) arg21 fullShare (X21) ∗ owns (c : Thread nD τ) arg22 fullShare (X22) ∗ owns (c : Thread nD τ) arg23 fullShare (sumK i h4 X2 (VecWindow.put X20 (k0_off3 i) S1x42x128x256.size (k0_pay2 (F := F))) X21 X22 X23 k0_t2_loop.trips) ∗ owns (c : Thread nD τ) arg24 fullShare (maxK i h4 X2 (VecWindow.put X20 (k0_off3 i) S1x42x128x256.size (k0_pay2 (F := F))) X21 X22 X24 k0_t2_loop.trips))) := by
  simp only [cc0_conv_silu_gate_eq_skeleton]
  unfold cc0_conv_silu_gate_skel
  simp only [k0_part3_eq_skeleton, k0_part4_eq_skeleton, k0_part5_eq_skeleton]; unfold k0_part3_skel k0_part4_skel k0_part5_skel
  unfold owns
  iintro ⟨⟨%f2, %hf2, H2⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩⟩
  subst hf2
  subst hf7
  subst hf8
  subst hf9
  subst hf10
  subst hf11
  subst hf12
  subst hf13
  subst hf14
  subst hf15
  subst hf16
  subst hf17
  subst hf18
  subst hf19
  subst hf20
  subst hf21
  subst hf22
  subst hf23
  subst hf24
  sl_exec
  sl_step
  have eR : ∀ inb, arg20.view.read (Elt F) (arg20.view.writes (Elt F) f20 [⟨Rect.unit (k0_off3 i) ![1, 42, 128, 256] inb, k0_pay2 (F := F)⟩])
      = VecWindow.put (arg20.view.read (Elt F) f20) (k0_off3 i) S1x42x128x256.size (k0_pay2 (F := F)) :=
    fun inb => View.read_writes_cons_put arg20.view f20 inb (k0_pay2 (F := F)) [] rfl
  have e7 : ∀ f, arg7.view.readAt (Elt F) (Rect.unit ![0, 0] ![30, 160] inb_S30x160_S30x160_0_0).toLoadRect f = arg7.view.read (Elt F) f :=
    fun f => View.readAt_full arg7.view f inb_S30x160_S30x160_0_0
  have e8 : ∀ f, arg8.view.readAt (Elt F) (Rect.unit ![0, 0] ![30, 1] inb_S30x1_S30x1_0_0).toLoadRect f = arg8.view.read (Elt F) f :=
    fun f => View.readAt_full arg8.view f inb_S30x1_S30x1_0_0
  have e9 : ∀ f, arg9.view.readAt (Elt F) (Rect.unit ![0, 0] ![30, 1] inb_S30x1_S30x1_0_0).toLoadRect f = arg9.view.read (Elt F) f :=
    fun f => View.readAt_full arg9.view f inb_S30x1_S30x1_0_0
  have e10 : ∀ f, arg10.view.readAt (Elt F) (Rect.unit ![0, 0] ![160, 30] inb_S160x30_S160x30_0_0).toLoadRect f = arg10.view.read (Elt F) f :=
    fun f => View.readAt_full arg10.view f inb_S160x30_S160x30_0_0
  have e11 : ∀ f, arg11.view.readAt (Elt F) (Rect.unit ![0, 0] ![160, 1] inb_S160x1_S160x1_0_0).toLoadRect f = arg11.view.read (Elt F) f :=
    fun f => View.readAt_full arg11.view f inb_S160x1_S160x1_0_0
  have e12 : ∀ f, arg12.view.readAt (Elt F) (Rect.unit ![0, 0] ![160, 1] inb_S160x1_S160x1_0_0).toLoadRect f = arg12.view.read (Elt F) f :=
    fun f => View.readAt_full arg12.view f inb_S160x1_S160x1_0_0
  have e23 : ∀ f, arg23.view.readAt (Elt F) (Rect.unit ![0, 0] ![160, 256] inb_S160x256_S160x256_0_0).toLoadRect f = arg23.view.read (Elt F) f :=
    fun f => View.readAt_full arg23.view f inb_S160x256_S160x256_0_0
  have e24 : ∀ f, arg24.view.readAt (Elt F) (Rect.unit ![0, 0] ![160, 256] inb_S160x256_S160x256_0_0).toLoadRect f = arg24.view.read (Elt F) f :=
    fun f => View.readAt_full arg24.view f inb_S160x256_S160x256_0_0
  isplitl [H2]
  · iexists _; isplitr [H2]
    · ipureintro; rfl
    · iexact H2
  isplitl [H7]
  · iexists _; isplitr [H7]
    · ipureintro; rfl
    · iexact H7
  isplitl [H8]
  · iexists _; isplitr [H8]
    · ipureintro; rfl
    · iexact H8
  isplitl [H9]
  · iexists _; isplitr [H9]
    · ipureintro; rfl
    · iexact H9
  isplitl [H10]
  · iexists _; isplitr [H10]
    · ipureintro; rfl
    · iexact H10
  isplitl [H11]
  · iexists _; isplitr [H11]
    · ipureintro; rfl
    · iexact H11
  isplitl [H12]
  · iexists _; isplitr [H12]
    · ipureintro; rfl
    · iexact H12
  isplitl [H13]
  · iexists _; isplitr [H13]
    rotate_left
    · iexact H13
    · ipureintro
      rw [hL5, eR]
  isplitl [H14]
  · iexists _; isplitr [H14]
    rotate_left
    · iexact H14
    · ipureintro
      sl_unfold_words
      simp only [e7, e8, e9, e10, e11, e12, e23, e24, hL7, hL9, eR]
      exact View.read_writes_full _ _ _ _ _
  isplitl [H15]
  · iexists _; isplitr [H15]
    rotate_left
    · iexact H15
    · ipureintro
      sl_unfold_words
      simp only [e7, e8, e9, e10, e11, e12, e23, e24, hL7, hL9, eR]
      exact View.read_writes_full _ _ _ _ _
  isplitl [H16]
  · iexists _; isplitr [H16]
    rotate_left
    · iexact H16
    · ipureintro
      sl_unfold_words
      simp only [e7, e8, e9, e10, e11, e12, e23, e24, hL7, hL9, eR]
      exact View.read_writes_full _ _ _ _ _
  isplitl [H17]
  · iexists _; isplitr [H17]
    rotate_left
    · iexact H17
    · ipureintro
      sl_unfold_words
      simp only [e7, e8, e9, e10, e11, e12, e23, e24, hL7, hL9, eR]
      exact View.read_writes_full _ _ _ _ _
  isplitl [H18]
  · iexists _; isplitr [H18]
    rotate_left
    · iexact H18
    · ipureintro
      sl_unfold_words
      simp only [e7, e8, e9, e10, e11, e12, e23, e24, hL7, hL9, eR]
      exact View.read_writes_full _ _ _ _ _
  isplitl [H19]
  · iexists _; isplitr [H19]
    rotate_left
    · iexact H19
    · ipureintro
      sl_unfold_words
      simp only [e7, e8, e9, e10, e11, e12, e23, e24, hL7, hL9, eR]
      exact View.read_writes_full _ _ _ _ _
  isplitl [H20]
  · iexists _; isplitr [H20]
    rotate_left
    · iexact H20
    · ipureintro
      exact eR _
  isplitl [H21]
  · iexists _; isplitr [H21]
    · ipureintro; rfl
    · iexact H21
  isplitl [H22]
  · iexists _; isplitr [H22]
    · ipureintro; rfl
    · iexact H22
  isplitl [H23]
  · iexists _; isplitr [H23]
    rotate_left
    · iexact H23
    · ipureintro
      rw [hL7, eR]
  · iexists _; isplitr [H24]
    rotate_left
    · iexact H24
    · ipureintro
      rw [hL9, eR]

end Cert.KernelIdeal.Run

end
-- ==== Proof.PI.SoundC.lean ====
module

public import proofs.«01_k».proof.Proof.PI.SoundB
public import proofs.«01_k».proof.Proof.PI.RunC

@[expose] public section

set_option maxRecDepth 16384
set_option maxHeartbeats 4000000

noncomputable section

/-! The body's obligation at the last point. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The last point. -/
theorem sound_C (c : Dev nD) (t : Fin cfg0.N) (ht : t.val = 32) :
    bodyPre m c t ⊢ wp frame (wpE (defs₀ (F := F)) Variants.none c none) Set.univ (bodyAt0 t) (fun _ => bodyPost m c t) := by
  have hN : t.val < 33 := t.isLt
  have h0 : t.val ≠ 0 := by omega
  have h1 : ¬ _ := fun h => absurd ((cond1_iff t).1 h) h0
  have h2 : ¬ _ := fun h => absurd ((cond2_iff t).1 h) (by omega)
  have h3 := (cond3_iff t).2 ht
  have h4 := (cond4_iff t).2 h0
  have h5 := (cond5_iff t).2 ht
  unfold bodyPre bodyPost bodyAt0
  rw [show (dats m 0 c).Φ t.succ = PhiAt c (st m c t.val t.isLt) from rfl, PhiS_castSucc m c t,
    show (dats m 0 c).owesAt () t.succ = (dats m 0 c).owesAt () t.castSucc from rfl]
  simp only [before_0, before_1, before_2, before_3, before_4, before_5, before_6, before_7, before_8, before_9, before_10, before_11, after_0, after_1, after_2, after_3, after_4, after_5, after_6, after_7, after_8, after_9, after_10, after_11]
  rw [PhiS_pos m c _ _ h0, leaves_on12 m c t h0, leaves_on13 m c t ht, leaves_on14 m c t ht, leaves_on15 m c t ht, leaves_on16 m c t ht, leaves_on17 m c t ht, leaves_on18 m c t ht, after_12 m c t h4, after_13 m c t, after_14 m c t, after_15 m c t, after_16 m c t, after_17 m c t, after_18 m c t, st_C m c t ht h4]
  unfold PhiAt
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_with (runC c (grid0.coords t) _ _ _ _ _ _ _ _ _ _ _ _ _ _ _ _ _ _ _ _ _ _ _ _ _ _ _ _ _ _ _ _ _ _ _ _ _ _ _ _ _ _ _ _ _ _ _ _ h1 h2 h3 h4 h5 (iblk m c 1 t) (iblk m c 6 t) (iblk m c 7 t) (iblk m c 8 t) (iblk m c 9 t) (iblk m c 10 t) (iblk m c 11 t) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18) (st m c (t.val - 1) (by omega)).ring (st m c (t.val - 1) (by omega)).sc (st m c (t.val - 1) (by omega)).bi (st m c (t.val - 1) (by omega)).sum (st m c (t.val - 1) (by omega)).mx))
  isplitl [H1 H6 H7 H8 H9 H10 H11 H12 H13 H14 H15 H16 H17 H18 S0 S1 S2 S3 S4]
  · isplitl [H1]; · iexact H1
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    iexact S4
  rw [blkK_all]
  iintro %_ ⟨H1, H6, H7, H8, H9, H10, H11, H12, H13, H14, H15, H16, H17, H18, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Run

end
-- ==== Proof.PI.Run.lean ====
module

public import proofs.«01_k».proof.Proof.PI.SoundC
public import Idealize.ShloMosaic.Lib.Claim

@[expose] public section

set_option maxRecDepth 16384
set_option maxHeartbeats 4000000

noncomputable section

/-! The body at any point, and from it the whole run and the frame. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := t.isLt
  by_cases h0 : t.val = 0
  · exact sound_A m c t h0
  · by_cases h1 : t.val < 32
    · exact sound_B m c t h0 h1
    · exact sound_C m c t (by omega)

/-- The pipeline's body at a point. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every final state has every array of the pipeline at what the proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the pipeline's arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.RQ.Kernel.lean ====
module

public import proofs.«01_k».proof.Proof.Gen.RequantIdeal.Value
public import Idealize.ShloMosaic.Lib.Pipeline.ValueKit.Geometry
public import Idealize.ShloMosaic.Lib.Pointwise
public import Idealize.ShloMosaic.Lib.VecWindow

@[expose] public section

set_option maxRecDepth 16384

noncomputable section

/-! What the requantisation computes. -/

namespace Cert.RequantIdeal.Run

open Idealize.ShloMosaic Idealize.ShloMosaic.TcCoe Idealize.SL.Sem
open Cert.RequantIdeal Cert.RequantIdeal.Gen
open Idealize.ShloMosaic.Pipeline (Dat)

variable {F : FTy → Type} [FloatOps F]

/-- The one piece a trip of the column loop writes: column `k`, the payload of column `k` of the activation and the gate. -/
theorem trip_pieces (𝒱 : Variants) (c : Dev nD) (bd : Option 𝒱.V) (i : grid0.Coords) (arg1 : Memref sig .tc .smem S1x1 .f32) (harg1 : arg1.IsWhole) (arg2 : Memref sig .tc .vmem S1x40x160x256 .f32) (harg2 : arg2.IsWhole) (arg3 : Memref sig .tc .vmem S160x256 .f32) (harg3 : arg3.IsWhole) (arg4 : Memref sig .tc .vmem S1x40x160x256 .i8) (harg4 : arg4.IsWhole) (v0 : Elt F .f32)
    (X2 : BufTy.Contents (Elt F) arg2.view.ty) (X3 : BufTy.Contents (Elt F) arg3.view.ty) (k : Fin k0_t1_loop.trips) :
    tripL_k0_t1 (F := F) 𝒱 c bd i arg1 harg1 arg2 harg2 arg3 harg3 arg4 harg4 v0 X2 X3 k
      = [⟨Rect.unit (s := S1x40x160x256) (k0_off1 k) S1x1x160x256.size (k0_off1_inb k),
          k0_pay1 v0 (arg2.view.readAt (Elt F) (Rect.unit (s := S1x40x160x256) (k0_off1 k) S1x1x160x256.size (k0_off1_inb k)).toLoadRect X2)
            (arg3.view.readAt (Elt F) (Rect.unit (s := S160x256) ![0, 0] S160x256.size inb_S160x256_S160x256_0_0).toLoadRect X3)⟩] := by
  unfold tripL_k0_t1 trip_k0_t1
  rfl

/-- One int8 code: the activation times the gate, times the reciprocal of the scale, rounded and clipped. -/
def code (ys a g : Ideal .f32) : BitVec 8 :=
  FloatOps.fptosi (F := Ideal) (φ := .f32) 8 (min (Ideal.ofBits .f32 0x42FE0000#32) (max (Ideal.ofBits .f32 0xC2FE0000#32) (Ideal.liftRound Ideal.roundHalfEven (a * g * Ideal.div 1 ys))))

/-- The payload of a column, entry by entry. -/
theorem pay_apply (v0 : Ideal .f32) (v4 : Vec Ideal S1x1x160x256 .f32) (v6 : Vec Ideal S160x256 .f32) (y : S1x1x160x256.Idx) :
    k0_pay1 (F := Ideal) v0 v4 v6 y = code v0 (v4 y) (v6 (ix2 (y 2) (y 3))) := by
  unfold k0_pay1 code
  pointwise

/-- The pieces of the trips below `n`: each is some column's. -/
theorem pieces (𝒱 : Variants) (c : Dev nD) (bd : Option 𝒱.V) (i : grid0.Coords) (arg1 : Memref sig .tc .smem S1x1 .f32) (harg1 : arg1.IsWhole) (arg2 : Memref sig .tc .vmem S1x40x160x256 .f32) (harg2 : arg2.IsWhole) (arg3 : Memref sig .tc .vmem S160x256 .f32) (harg3 : arg3.IsWhole) (arg4 : Memref sig .tc .vmem S1x40x160x256 .i8) (harg4 : arg4.IsWhole) (v0 : Elt F .f32)
    (X2 : BufTy.Contents (Elt F) arg2.view.ty) (X3 : BufTy.Contents (Elt F) arg3.view.ty) :
    ∀ n : ℕ, ∀ p ∈ pb_k0_t1 (F := F) 𝒱 c bd i arg1 harg1 arg2 harg2 arg3 harg3 arg4 harg4 v0 X2 X3 n, ∃ k : Fin k0_t1_loop.trips,
      p = ⟨Rect.unit (s := S1x40x160x256) (k0_off1 k) S1x1x160x256.size (k0_off1_inb k),
          k0_pay1 v0 (arg2.view.readAt (Elt F) (Rect.unit (s := S1x40x160x256) (k0_off1 k) S1x1x160x256.size (k0_off1_inb k)).toLoadRect X2)
            (arg3.view.readAt (Elt F) (Rect.unit (s := S160x256) ![0, 0] S160x256.size inb_S160x256_S160x256_0_0).toLoadRect X3)⟩
  | 0, p, hp => by simp [pb_k0_t1] at hp
  | n + 1, p, hp => by
    rw [pb_k0_t1.eq_2] at hp
    unfold pb_k0_t1Step at hp
    split at hp
    · rename_i h
      rw [trip_pieces] at hp
      rcases List.mem_append.mp hp with hp | hp
      · exact ⟨⟨n, h⟩, List.mem_singleton.mp hp⟩
      · exact pieces 𝒱 c bd i arg1 harg1 arg2 harg2 arg3 harg3 arg4 harg4 v0 X2 X3 n p hp
    · exact pieces 𝒱 c bd i arg1 harg1 arg2 harg2 arg3 harg3 arg4 harg4 v0 X2 X3 n p hp

/-- What the body leaves in the result's block: every entry's code. -/
theorem out_eq (c : Dev nD) (i : grid0.Coords) (arg1 : Memref sig .tc .smem S1x1 .f32) (harg1 : arg1.IsWhole) (arg2 : Memref sig .tc .vmem S1x40x160x256 .f32) (harg2 : arg2.IsWhole) (arg3 : Memref sig .tc .vmem S160x256 .f32) (harg3 : arg3.IsWhole) (arg4 : Memref sig .tc .vmem S1x40x160x256 .i8) (harg4 : arg4.IsWhole)
    (x0 : Vec Ideal S1x1 .f32) (x1 : Vec Ideal S1x40x160x256 .f32) (x2 : Vec Ideal S160x256 .f32) (y : S1x40x160x256.Idx) :
    out0_A_3 (F := Ideal) c i arg1 harg1 arg2 harg2 arg3 harg3 arg4 harg4 x0 x1 x2 y = code (x0 (ix2 0 0)) (x1 y) (x2 (ix2 (y 2) (y 3))) := by
  unfold out0_A_3
  refine View.read_writes_apply_of_pieces _ _ (fun y => code (x0 (ix2 0 0)) (x1 y) (x2 (ix2 (y 2) (y 3)))) _ ?_ y (cover0_A_3 c i arg1 harg1 arg2 harg2 arg3 harg3 arg4 harg4 x0 x1 x2 y)
  intro p hp x
  obtain ⟨k, rfl⟩ : ∃ k : Fin k0_t1_loop.trips, p = _ := pieces Variants.none c none i arg1 harg1 arg2 harg2 arg3 harg3 arg4 harg4 _ (harg2.unread x1) (harg3.unread x2) k0_t1_loop.trips p hp
  dsimp only
  rw [pay_apply]
  have e2 : ∀ z, arg2.view.readAt (Elt Ideal) (Rect.unit (s := S1x40x160x256) (k0_off1 k) S1x1x160x256.size (k0_off1_inb k)).toLoadRect (harg2.unread x1) z
      = x1 ((Rect.unit (s := S1x40x160x256) (k0_off1 k) S1x1x160x256.size (k0_off1_inb k)).emb z) := by
    intro z
    exact congrFun (harg2.read_unread x1) _
  have e3 : ∀ z, arg3.view.readAt (Elt Ideal) (Rect.unit (s := S160x256) ![0, 0] S160x256.size inb_S160x256_S160x256_0_0).toLoadRect (harg3.unread x2) z = x2 z := by
    intro z
    exact congrFun ((View.readAt_full arg3.view (harg3.unread x2) inb_S160x256_S160x256_0_0).trans (harg3.read_unread x2)) z
  have e1 : kernelRun0_A.sl.r c arg1 harg1 x0 = x0 (ix2 0 0) := by
    unfold kernelRun0_A.sl.r
    refine (congrFun ((View.readAt_full arg1.view (harg1.unread x0) inb_S1x1_S1x1_0_0).trans (harg1.read_unread x0)) _).trans (congrArg x0 ?_)
    exact funext fun a => by match a with | ⟨0, _⟩ => rfl | ⟨1, _⟩ => rfl
  rw [e2, e3, e1]
  have ev : ∀ a : Fin 4, (((Rect.unit (s := S1x40x160x256) (k0_off1 k) S1x1x160x256.size (k0_off1_inb k)).emb x a : Fin _) : ℕ) = (![0, k.val, 0, 0] : Fin 4 → ℕ) a + (x a).val := fun a => by
    rw [ValueKit.rect_emb_unit_val, congrFun (k0_off1_eq k) a]
  have h2 := ev 2
  have h3 := ev 3
  congr 2
  refine funext fun a => Fin.ext ?_
  match a with
  | ⟨0, _⟩ => exact (h2.trans (Nat.zero_add _)).symm
  | ⟨1, _⟩ => exact (h3.trans (Nat.zero_add _)).symm

variable (m : (ℓ : Loc nD τ sig) → Buf (Elt Ideal) ℓ)

/-- The block of window 1 at each point. -/
theorem index1 : ∀ t : Fin cfg0.N, win0_1.index t = ![t.val, 0, 0, 0] := (by decide +kernel : ∀ t : Fin grid0.N, _)
/-- The block of window 3 at each point. -/
theorem index3 : ∀ t : Fin cfg0.N, win0_3.index t = ![t.val, 0, 0, 0] := (by decide +kernel : ∀ t : Fin grid0.N, _)
/-- The block of window 0 at each point. -/
theorem index0 : ∀ t : Fin cfg0.N, win0_0.index t = ![0, 0] := (by decide +kernel : ∀ t : Fin grid0.N, _)
/-- The block of window 2 at each point. -/
theorem index2 : ∀ t : Fin cfg0.N, win0_2.index t = ![0, 0] := (by decide +kernel : ∀ t : Fin grid0.N, _)

/-- The result array: the code of every entry. -/
def result (ys : Vec Ideal S1x1 .f32) (a : Vec Ideal S32x40x160x256 .f32) (g : Vec Ideal S160x256 .f32) : IVec S32x40x160x256 8 :=
  fun i => code (ys (ix2 0 0)) (a i) (g (ix2 (i 2) (i 3)))

/-- After the run the result array holds the code of every entry. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [out_eq]
  unfold result
  blk_simp [iblk]
  have e0 : (win0_0.blk t).view.emb (ix2 0 0) = ix2 0 0 := by blk_ext [index0]
  have e1 : (win0_1.blk t).view.emb y = (win0_3.blk t).view.emb y := by blk_ext [index1, index3]
  have e2 : (win0_2.blk t).view.emb (ix2 (y 2) (y 3)) = ix2 ((win0_3.blk t).view.emb y 2) ((win0_3.blk t).view.emb y 3) := by
    blk_ext [index2, index3]
  rw [e0, e1, e2]
  rfl

end Cert.RequantIdeal.Run

end
-- ==== Proof.RQ.Reference.lean ====
module

public import proofs.«01_k».proof.Proof.Gen.ReferenceRequantIdeal.Value
public import Idealize.ShloMosaic.Lib.Pipeline.ValueKit.Geometry
public import Idealize.ShloMosaic.Lib.Pipeline.ValueKit.Acc
public import Idealize.ShloMosaic.Lib.Pointwise
public import Idealize.ShloMosaic.Lib.VecWindow

@[expose] public section

set_option maxRecDepth 16384

noncomputable section

/-! What the requantisation's reference computes. -/

namespace Cert.ReferenceRequantIdeal.Run

open Idealize.ShloMosaic Idealize.ShloMosaic.TcCoe Idealize.SL.Sem
open Cert.ReferenceRequantIdeal Cert.ReferenceRequantIdeal.Gen
open Idealize.ShloMosaic.Pipeline (Dat)

/-- One int8 code: the activation times the gate, divided by the scale, rounded and clipped. -/
def code (ys a g : Ideal .f32) : BitVec 8 :=
  FloatOps.fptosi (F := Ideal) (φ := .f32) 8 (min (Ideal.ofBits .f32 0x42FE0000#32) (max (Ideal.ofBits .f32 0xC2FE0000#32) (Ideal.liftRound Ideal.roundHalfEven (Ideal.div (a * g) ys))))

/-- The payload, entry by entry. -/
theorem pay_apply (v0 : Vec Ideal S32x40x160x256 .f32) (v1 : Vec Ideal S160x256 .f32) (v5 : Ideal .f32) (y : S32x40x160x256.Idx) :
    k0_pay1 (F := Ideal) v0 v1 v5 y = code v5 (v0 y) (v1 (ix2 (y 2) (y 3))) := by
  unfold k0_pay1 code
  pointwise

/-- What the body leaves in the result's block: every entry's code. -/
theorem out_eq (c : Dev nD) (arg1 : Memref sig .tc .smem S1x1 .f32) (harg1 : arg1.IsWhole) (arg2 : Memref sig .tc .vmem S32x40x160x256 .f32) (harg2 : arg2.IsWhole) (arg3 : Memref sig .tc .vmem S160x256 .f32) (harg3 : arg3.IsWhole) (arg4 : Memref sig .tc .vmem S32x40x160x256 .i8) (harg4 : arg4.IsWhole)
    (x0 : Vec Ideal S1x1 .f32) (x1 : Vec Ideal S32x40x160x256 .f32) (x2 : Vec Ideal S160x256 .f32) (y : S32x40x160x256.Idx) :
    out0_A_3 (F := Ideal) c arg1 harg1 arg2 harg2 arg3 harg3 arg4 harg4 x0 x1 x2 y = code (x0 (ix2 0 0)) (x1 y) (x2 (ix2 (y 2) (y 3))) := by
  frame_out
  rw [pay_apply]
  have e : View.ld x0 (Rect.unit ![0, 0] ![1, 1] inb_S1x1_S1x1_0_0) (Shape.Idx.first (by decide)) = x0 (ix2 0 0) :=
    congrArg x0 (funext fun a => by match a with | ⟨0, _⟩ => rfl | ⟨1, _⟩ => rfl)
  exact congrArg (code · _ _) e

variable (m : (ℓ : Loc nD τ sig) → Buf (Elt Ideal) ℓ)

/-- The block of window 1 at each point. -/
theorem index1 : ∀ t : Fin cfg0.N, win0_1.index t = ![0, 0, 0, 0] := (by decide +kernel : ∀ t : Fin grid0.N, _)
/-- The block of window 3 at each point. -/
theorem index3 : ∀ t : Fin cfg0.N, win0_3.index t = ![0, 0, 0, 0] := (by decide +kernel : ∀ t : Fin grid0.N, _)
/-- The block of window 0 at each point. -/
theorem index0 : ∀ t : Fin cfg0.N, win0_0.index t = ![0, 0] := (by decide +kernel : ∀ t : Fin grid0.N, _)
/-- The block of window 2 at each point. -/
theorem index2 : ∀ t : Fin cfg0.N, win0_2.index t = ![0, 0] := (by decide +kernel : ∀ t : Fin grid0.N, _)

/-- The result array: the code of every entry. -/
def result (ys : Vec Ideal S1x1 .f32) (a : Vec Ideal S32x40x160x256 .f32) (g : Vec Ideal S160x256 .f32) : IVec S32x40x160x256 8 :=
  fun i => code (ys (ix2 0 0)) (a i) (g (ix2 (i 2) (i 3)))

/-- After the run the result array holds the code of every entry. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [out_eq]
  unfold result
  blk_simp [iblk]
  have e0 : (win0_0.blk t).view.emb (ix2 0 0) = ix2 0 0 := by blk_ext [index0]
  have e1 : (win0_1.blk t).view.emb y = (win0_3.blk t).view.emb y := by blk_ext [index1, index3]
  have e2 : (win0_2.blk t).view.emb (ix2 (y 2) (y 3)) = ix2 ((win0_3.blk t).view.emb y 2) ((win0_3.blk t).view.emb y 3) := by
    blk_ext [index2, index3]
  rw [e0, e1, e2]
  rfl

end Cert.ReferenceRequantIdeal.Run

end
-- ==== Proof.RQ.Algebraic.lean ====
module

public import proofs.«01_k».proof.Proof.RQ.Kernel
public import proofs.«01_k».proof.Proof.RQ.Reference
public import proofs.«01_k».proof.Proof.Gen.Pre_nonzero_scale
public import proofs.«01_k».proof.Defs
public import Idealize.ShloMosaic.Lib.IdealHost

@[expose] public section

set_option maxRecDepth 16384

noncomputable section

/-! The requantisation and its reference compute the same codes. -/

namespace Cert.RQ

open Idealize.ShloMosaic Idealize.ShloMosaic.TcCoe Idealize.SL.Sem

/-- Multiplying by the reciprocal of a nonzero scale is dividing by it: the two codes agree. -/
theorem code_eq (ys a g : Ideal .f32) (h : (ys : EReal) ≠ 0) :
    Cert.RequantIdeal.Run.code ys a g = Cert.ReferenceRequantIdeal.Run.code ys a g := by
  unfold Cert.RequantIdeal.Run.code Cert.ReferenceRequantIdeal.Run.code
  rw [Ideal.mul_one_div h]

/-- The precondition says that the scale is not zero. -/
theorem scale_ne (ys : FVec Ideal Cert.Pre_nonzero_scale.S1x1 .f32) (a) (g)
    (h : Cert.Pre_nonzero_scale.fn (F := Ideal) ys a g = fun _ => 1#1) : (ys (ix2 0 0) : EReal) ≠ 0 := by
  have h0 := congrFun h (ix2 0 0)
  unfold Cert.Pre_nonzero_scale.fn at h0
  pointwise at h0
  intro hz
  rw [hz] at h0
  simp at h0

/-- The requantisation and its reference agree, where the scale is not zero. -/
theorem algebraic : Cert.algebraic_RequantIdeal_ReferenceRequantIdeal_pre_nonzero_scale := by
  intro m g m' g' hpre hargs
  refine ⟨fun c => Cert.RequantIdeal.Run.result (m (c.tc.loc Cert.RequantIdeal.main_arg0)) (m (c.tc.loc Cert.RequantIdeal.main_arg1)) (m (c.tc.loc Cert.RequantIdeal.main_arg2)), ?_, ?_⟩
  · exact (θ_run _ _ _).mono (fun r h c => ⟨(h c).1.trans (Cert.RequantIdeal.Run.final m c), (h c).2⟩) (Cert.RequantIdeal.Value.run_blocks m g)
  · refine (θ_run _ _ _).mono (fun r h c => ⟨(h c).1.trans ((Cert.ReferenceRequantIdeal.Run.final m' c).trans ?_), (h c).2⟩) (Cert.ReferenceRequantIdeal.Value.run_blocks m' g')
    rw [(hargs c).1, (hargs c).2.1, (hargs c).2.2]
    funext i
    exact (code_eq _ _ _ (scale_ne _ _ _ (hpre c))).symm

end Cert.RQ

end
-- ==== Proof.Val.Math.lean ====
module

public import Idealize.ShloMosaic.Lib.Pointwise
public import Idealize.ShloMosaic.Lib.IdealHost

@[expose] public section

set_option maxRecDepth 16384

noncomputable section

/-! The scalar mathematics the two programs are compared by, over the extended reals: the logistic function by a hyperbolic
tangent, `silu` in its two forms, and the power-of-two scale of the fp8 quantiser found in two ways. -/

namespace Cert.Math

open Idealize.ShloMosaic

/-- The pattern of one half. -/
theorem half_eq : Ideal.ofBits .f32 1056964608#32 = ((1 / 2 : ℝ) : EReal) := by
  simp [Ideal.ofBits, Ideal.ieee, -EReal.coe_mul]; norm_num

/-- A half and half a hyperbolic tangent of half the argument is the logistic function, on the reals. -/
theorem real_logistic (r : ℝ) : 1 / 2 + 1 / 2 * Real.tanh (1 / 2 * r) = (1 + Real.exp (-r))⁻¹ := by
  rw [Real.tanh_eq_sinh_div_cosh, Real.sinh_eq, Real.cosh_eq]
  have e : Real.exp (-r) = Real.exp (-(1 / 2 * r)) * Real.exp (-(1 / 2 * r)) := by
    rw [← Real.exp_add]; congr 1; ring
  have i : Real.exp (1 / 2 * r) * Real.exp (-(1 / 2 * r)) = 1 := by
    rw [← Real.exp_add]; simp
  rw [e]
  have p := Real.exp_pos (1 / 2 * r)
  have q := Real.exp_pos (-(1 / 2 * r))
  set A := Real.exp (1 / 2 * r)
  set B := Real.exp (-(1 / 2 * r))
  have hA : A = 1 / B := by field_simp; linarith
  rw [hA]
  field_simp
  ring

/-- The logistic function as the kernel computes it, on every extended real. -/
theorem sigmoid_eq (z : EReal) :
    Ideal.ofBits .f32 1056964608#32 + Ideal.ofBits .f32 1056964608#32 * Ideal.tanh (Ideal.ofBits .f32 1056964608#32 * z)
      = Ideal.logistic z := by
  rw [half_eq]
  induction z using EReal.rec with
  | bot =>
    rw [EReal.coe_mul_bot_of_pos (by norm_num)]
    rw [Ideal.tanh_bot, Ideal.logistic_bot, show (-1 : EReal) = ((-1 : ℝ) : EReal) by norm_num, ← EReal.coe_mul, ← EReal.coe_add]
    norm_num
  | top =>
    rw [EReal.coe_mul_top_of_pos (by norm_num)]
    simp only [Ideal.tanh_top, Ideal.logistic_top]
    norm_cast; norm_num
  | coe r =>
    rw [← EReal.coe_mul, Ideal.tanh_coe, Ideal.logistic_coe, ← EReal.coe_mul, ← EReal.coe_add, real_logistic]

/-- `silu` of a real: half the argument times one plus its half's hyperbolic tangent is the argument times its logistic. -/
theorem silu_eq (r : ℝ) :
    Ideal.ofBits .f32 1056964608#32 * (r : EReal)
        + Ideal.ofBits .f32 1056964608#32 * (r : EReal) * Ideal.tanh (Ideal.ofBits .f32 1056964608#32 * (r : EReal))
      = (r : EReal) * Ideal.logistic (r : EReal) := by
  rw [← sigmoid_eq, half_eq]
  simp only [← EReal.coe_mul, Ideal.tanh_coe, ← EReal.coe_add]
  congr 1; ring

/-- A word whose sign and significand fields are zero and whose exponent field is `E` reads as the power of two `E - 127`. -/
theorem ieee_pow (b : BitVec 32) (E : Nat) (h : (b.extractLsb' 31 1 == 1#1) = false ∧ (b.extractLsb' 23 8).toNat = E
    ∧ (b.extractLsb' 0 23).toNat = 0 ∧ 0 < E ∧ E < 255) : Ideal.ofBits .f32 b = (((2 : ℝ) ^ ((E : ℤ) - 127) : ℝ) : EReal) := by
  obtain ⟨h1, h2, h3, h4, h5⟩ := h
  show Ideal.ieee 8 23 b = _
  unfold Ideal.ieee
  simp only [Nat.reduceAdd, h1, h2, h3]
  rw [if_neg (by omega), if_neg (by omega)]
  congr 1
  have : (2 : ℝ) ^ ((E : ℤ) - 127) = 2 ^ (23 : ℤ) * 2 ^ ((E : ℤ) - 127 - 23) := by
    rw [← zpow_add₀ (by norm_num)]; congr 1; ring
  rw [this]
  norm_num

/-- The word of the `x`-th power the kernel compares with. -/
theorem kernel_pow (x : Fin 246) : Ideal.ofBits .f32 (IntOp.shli ArithUnit.vector (IntOp.addi (BitVec.ofNat 32 ↑x) 1#32) 23#32)
    = (((2 : ℝ) ^ ((x : ℤ) - 126) : ℝ) : EReal) := by
  rw [ieee_pow _ (x.val + 1) (by revert x; decide +kernel)]
  congr 2; push_cast; ring

/-- The word of the scale at count `N`. -/
theorem kernel_scale (N : Fin 247) : Ideal.ofBits .f32 (IntOp.shli ArithUnit.vector
      (IntOp.addi (IntOp.subi (BitVec.ofNat 32 ↑N) 126#32) 127#32) 23#32)
    = (((2 : ℝ) ^ ((N : ℤ) - 126) : ℝ) : EReal) := by
  rw [ieee_pow _ (N.val + 1) (by revert N; decide +kernel)]
  congr 2; push_cast; ring

/-- The word of the scale's reciprocal at count `N`. -/
theorem kernel_inv (N : Fin 247) : Ideal.ofBits .f32 (IntOp.shli ArithUnit.vector
      (IntOp.addi (IntOp.subi 0#32 (IntOp.subi (BitVec.ofNat 32 ↑N) 126#32)) 127#32) 23#32)
    = (((2 : ℝ) ^ (126 - (N : ℤ)) : ℝ) : EReal) := by
  rw [ieee_pow _ (253 - N.val) (by revert N; decide +kernel)]
  have := N.isLt
  congr 2; omega

/-- The reference's `j`-th power of two. -/
theorem reference_pow (j : Fin 247) : FloatOps.exp2 (F := Ideal) (φ := .f32) (FloatOps.sitofp FTy.f32 (IntOp.subi (BitVec.ofNat 32 ↑j) 126#32))
    = (((2 : ℝ) ^ ((j : ℤ) - 126) : ℝ) : EReal) := by
  have h : (IntOp.subi (BitVec.ofNat 32 ↑j) 126#32).toInt = (j : ℤ) - 126 := by revert j; decide +kernel
  show Ideal.exp2 (((IntOp.subi (BitVec.ofNat 32 ↑j) 126#32).toInt : ℝ) : EReal) = _
  rw [h, Ideal.exp2_coe]
  congr 1
  exact Real.rpow_intCast 2 _

/-- The largest power, as a pattern. -/
theorem top_pow : Ideal.ofBits .f32 2071986176#32 = (((2 : ℝ) ^ (120 : ℤ) : ℝ) : EReal) := by
  rw [ieee_pow _ 247 (by decide +kernel)]; norm_num

end Cert.Math

end
-- ==== Proof.Val.Count.lean ====
module

public import proofs.«01_k».proof.Proof.Val.Math

@[expose] public section

set_option maxRecDepth 16384

noncomputable section

/-! Counting positions in 32-bit words. -/

namespace Cert.Math

open Idealize.ShloMosaic

/-- The count of the positions below `N`. -/
theorem count_eq (N : Fin 247) : Finset.fold IntOp.addi (0#32)
    (fun x : Fin 246 => BitVec.setWidth 32 (BitVec.ofBool (decide (x.val < N.val)))) Finset.univ = BitVec.ofNat 32 N := by
  revert N
  decide +kernel

end Cert.Math

end
-- ==== Proof.Val.Quant.lean ====
module

public import proofs.«01_k».proof.Proof.Val.Count

@[expose] public section

set_option maxRecDepth 16384

noncomputable section

/-! The scale of the fp8 quantiser: the kernel counts the powers of two at or below a column's bound and puts the count in an
exponent field; the reference takes the least power of two above the bound. They are one power of two. -/

namespace Cert.Math

open Idealize.ShloMosaic

/-- The kernel's exponent for a column of greatest magnitude `A`. -/
def kExp (A : EReal) : BitVec 32 :=
  if A * Ideal.ofBits FTy.f32 991054117#32 = 0 then 0#32
  else IntOp.subi (Finset.fold IntOp.addi (0#32) (fun x : Fin 246 => BitVec.setWidth 32 (BitVec.ofBool (decide
    (Ideal.ofBits FTy.f32 (IntOp.shli ArithUnit.vector (IntOp.addi (BitVec.ofNat 32 ↑x) 1#32) 23#32)
      ≤ A * Ideal.ofBits FTy.f32 991054117#32)))) Finset.univ) 126#32

/-- The reference's scale for a row of greatest magnitude `A`. -/
def rScale (A : EReal) : EReal :=
  if A = 0 then 1
  else Finset.fold min (Ideal.ofBits FTy.f32 2139095040#32) (fun x : Fin 247 =>
    if A * Ideal.ofBits FTy.f32 991054117#32
        < FloatOps.exp2 (F := Ideal) (φ := .f32) (FloatOps.sitofp FTy.f32 (IntOp.subi (BitVec.ofNat 32 ↑x) 126#32))
    then FloatOps.exp2 (F := Ideal) (φ := .f32) (FloatOps.sitofp FTy.f32 (IntOp.subi (BitVec.ofNat 32 ↑x) 126#32))
    else Ideal.ofBits FTy.f32 2071986176#32) Finset.univ

/-- The reciprocal of the largest fp8 code is a positive real. -/
theorem bound_pos : ∃ c : ℝ, 0 < c ∧ Ideal.ofBits FTy.f32 991054117#32 = (c : EReal) := by
  refine ⟨_, ?_, by simp [Ideal.ofBits, Ideal.ieee, -EReal.coe_mul]; rfl⟩
  positivity

/-- Powers of two as extended reals, in order. -/
theorem pow_le {a b : ℤ} (h : a ≤ b) : (((2 : ℝ) ^ a : ℝ) : EReal) ≤ (((2 : ℝ) ^ b : ℝ) : EReal) :=
  EReal.coe_le_coe_iff.mpr (zpow_le_zpow_right₀ (by norm_num) h)

/-- How many of the powers lie at or below a bound: those below a position. -/
theorem cut (u : EReal) : ∃ N : Fin 247, ∀ x : ℕ, x < 246 → ((((2 : ℝ) ^ ((x : ℤ) - 126) : ℝ) : EReal) ≤ u ↔ x < N.val) := by
  classical
  have ex : ∃ n : ℕ, n = 246 ∨ ¬ (((2 : ℝ) ^ ((n : ℤ) - 126) : ℝ) : EReal) ≤ u := ⟨246, .inl rfl⟩
  have le : Nat.find ex ≤ 246 := Nat.find_min' ex (.inl rfl)
  refine ⟨⟨Nat.find ex, by omega⟩, fun x hx => ⟨fun h => ?_, fun h => ?_⟩⟩
  · by_contra hn
    have hn' : Nat.find ex ≤ x := not_lt.mp hn
    rcases Nat.find_spec ex with e | e
    · omega
    · exact e ((pow_le (by omega)).trans h)
  · have := Nat.find_min ex h
    push Not at this
    exact this.2

/-- The two scales are one power of two. -/
theorem quant (A : EReal) : ∃ N : Fin 247, kExp A = IntOp.subi (BitVec.ofNat 32 ↑N) 126#32
    ∧ rScale A = (((2 : ℝ) ^ ((N : ℤ) - 126) : ℝ) : EReal) := by
  obtain ⟨c, hc, e⟩ := bound_pos
  by_cases hA : A = 0
  · refine ⟨126, ?_, ?_⟩
    · unfold kExp; rw [if_pos (by rw [hA, zero_mul])]; decide
    · unfold rScale; rw [if_pos hA]; norm_num
  have hu : ¬ A * Ideal.ofBits FTy.f32 991054117#32 = 0 := by
    rw [e, mul_eq_zero]; push Not; exact ⟨hA, by exact_mod_cast hc.ne'⟩
  unfold kExp rScale
  rw [if_neg hu, if_neg hA]
  set u := A * Ideal.ofBits FTy.f32 991054117#32
  obtain ⟨N, hN⟩ := cut u
  refine ⟨N, ?_, ?_⟩
  · rw [← count_eq N]
    congr 3
    funext x
    rw [kernel_pow]
    congr 3
    exact propext (hN x.val x.isLt)
  · simp only [reference_pow, top_pow]
    have hb (x : Fin 247) : (u < (((2 : ℝ) ^ ((x : ℤ) - 126) : ℝ) : EReal)) → N.val ≤ x.val := by
      intro h
      by_contra hn
      exact absurd h (not_lt.mpr ((hN x.val (by omega)).mpr (by omega)))
    apply le_antisymm
    · rw [Finset.fold_min_le]
      refine .inr ⟨N, Finset.mem_univ _, ?_⟩
      split
      · exact le_rfl
      · rename_i h
        have : N.val = 246 := by
          by_contra hn
          exact absurd ((hN N.val (by omega)).mp (not_lt.mp h)) (lt_irrefl _)
        apply pow_le; omega
    · rw [Finset.le_fold_min]
      refine ⟨?_, fun x _ => ?_⟩
      · have : Ideal.ofBits FTy.f32 2139095040#32 = ⊤ := by simp [Ideal.ofBits, Ideal.ieee]
        rw [this]; exact le_top
      · split
        · rename_i h
          have := hb x h
          apply pow_le; omega
        · apply pow_le; omega

/-- The kernel's scale is the reference's. -/
theorem scale_eq (A : EReal) : Ideal.ofBits .f32 (IntOp.shli ArithUnit.vector (IntOp.addi (kExp A) 127#32) 23#32) = rScale A := by
  obtain ⟨N, h1, h2⟩ := quant A
  rw [h1, h2, kernel_scale]

/-- The kernel's reciprocal of the scale is the reference's. -/
theorem inv_eq (A : EReal) : Ideal.ofBits .f32 (IntOp.shli ArithUnit.vector (IntOp.addi (IntOp.subi 0#32 (kExp A)) 127#32) 23#32)
    = Ideal.div 1 (rScale A) := by
  obtain ⟨N, h1, h2⟩ := quant A
  rw [h1, h2, kernel_inv, Ideal.div_coe (by positivity), one_mul]
  congr 1
  rw [one_div, ← zpow_neg]; congr 1; ring

end Cert.Math

end
-- ==== Proof.Val.Spec.lean ====
module

public import proofs.«01_k».proof.Proof.Val.Quant

@[expose] public section

noncomputable section

/-! The layer both programs compute, as plain mathematics over the extended reals: a 3 by 3 convolution of an 8-bit image, an
affine map, `silu`, the mean over the pixels and the two small fully connected layers behind quantised inputs. -/

namespace Cert.Spec

open Idealize.ShloMosaic

/-- The image padded by one pixel of zeros on each side, at row `i` and column `j` of the padded image. -/
def px (X : Fin 256 → Fin 32 → Fin 40 → Fin 120 → BitVec 8) (b : Fin 256) (i j : ℕ) (k : Fin 120) : EReal :=
  if h : (1 ≤ i ∧ i < 33) ∧ (1 ≤ j ∧ j < 41) then
    (((X b ⟨i - 1, by omega⟩ ⟨j - 1, by omega⟩ k).toInt : ℝ) : EReal)
  else 0

/-- Inside the image. -/
theorem px_in (X : Fin 256 → Fin 32 → Fin 40 → Fin 120 → BitVec 8) {b : Fin 256} {k : Fin 120} (i : Fin 32) (j : Fin 40) (i' j' : ℕ)
    (hi : i' = i.val + 1) (hj : j' = j.val + 1) : (((X b i j k).toInt : ℝ) : EReal) = px X b i' j' k := by
  subst hi hj
  have := i.isLt
  have := j.isLt
  unfold px
  rw [dif_pos (by omega)]
  rfl

/-- In the padding. -/
theorem px_out (X : Fin 256 → Fin 32 → Fin 40 → Fin 120 → BitVec 8) {b : Fin 256} {k : Fin 120} (i j : ℕ)
    (h : ¬ ((1 ≤ i ∧ i < 33) ∧ (1 ≤ j ∧ j < 41))) : (0 : EReal) = px X b i j k := by
  unfold px
  rw [dif_neg h]

/-- The 3 by 3 convolution at image `b`, row `r`, column `w` and output channel `c`. -/
def conv (X : Fin 256 → Fin 32 → Fin 40 → Fin 120 → BitVec 8) (W : Fin 3 → Fin 3 → Fin 120 → Fin 160 → BitVec 8)
    (b : Fin 256) (r : Fin 32) (w : Fin 40) (c : Fin 160) : EReal :=
  ∑ dh : Fin 3, ∑ dw : Fin 3, ∑ k : Fin 120, px X b (dh.val + r.val) (dw.val + w.val) k * (((W dh dw k c).toInt : ℝ) : EReal)

/-- `silu`. -/
def silu (z : EReal) : EReal := z * Ideal.logistic z

/-- The convolution after its affine map. -/
def aff (X : Fin 256 → Fin 32 → Fin 40 → Fin 120 → BitVec 8) (W : Fin 3 → Fin 3 → Fin 120 → Fin 160 → BitVec 8)
    (xs : Fin 256 → EReal) (ws bs bb : Fin 160 → EReal) (b : Fin 256) (r : Fin 32) (w : Fin 40) (c : Fin 160) : EReal :=
  conv X W b r w c * (xs b * ws c * bs c) + bb c

/-- The activation. -/
def act (X : Fin 256 → Fin 32 → Fin 40 → Fin 120 → BitVec 8) (W : Fin 3 → Fin 3 → Fin 120 → Fin 160 → BitVec 8)
    (xs : Fin 256 → EReal) (ws bs bb : Fin 160 → EReal) (b : Fin 256) (r : Fin 32) (w : Fin 40) (c : Fin 160) : EReal :=
  silu (aff X W xs ws bs bb b r w c)

/-- The mean activation of a channel over the pixels. -/
def mean (X : Fin 256 → Fin 32 → Fin 40 → Fin 120 → BitVec 8) (W : Fin 3 → Fin 3 → Fin 120 → Fin 160 → BitVec 8)
    (xs : Fin 256 → EReal) (ws bs bb : Fin 160 → EReal) (b : Fin 256) (c : Fin 160) : EReal :=
  (∑ r : Fin 32, ∑ w : Fin 40, act X W xs ws bs bb b r w c) * ((1 / 1280 : ℝ) : EReal)

/-- The greatest magnitude of a finite family. -/
def amax {n : ℕ} (v : Fin n → EReal) : EReal :=
  Finset.fold max (Ideal.ofBits FTy.f32 4286578688#32) (fun k => max (v k) (-v k)) Finset.univ

/-- The quantiser's scale of a family: a power of two. -/
def scale {n : ℕ} (v : Fin n → EReal) : EReal := Math.rScale (amax v)

/-- The quantiser's codes of a family. -/
def code {n : ℕ} (v : Fin n → EReal) (k : Fin n) : EReal :=
  min (Ideal.ofBits FTy.f32 1138753536#32) (max (Ideal.ofBits FTy.f32 3286237184#32) (v k * Ideal.div 1 (scale v)))

/-- A fully connected layer of the quantised family `v`, with weights `w`, their scale `s` and bias `t`. -/
def dense {n : ℕ} (v : Fin n → EReal) (w : Fin n → EReal) (s t : EReal) : EReal :=
  (∑ k, code v k * w k) * scale v * s + t

/-- The hidden layer of one image: `silu` of a fully connected layer of its channel means. -/
def hid (p : Fin 160 → EReal) (w1 : Fin 160 → Fin 30 → EReal) (s1 t1 : Fin 30 → EReal) (j : Fin 30) : EReal :=
  silu (dense p (fun k => w1 k j) (s1 j) (t1 j))

/-- The gate of one image: the logistic function of a fully connected layer of its hidden layer. -/
def gate (p : Fin 160 → EReal) (w1 : Fin 160 → Fin 30 → EReal) (s1 t1 : Fin 30 → EReal) (w2 : Fin 30 → Fin 160 → EReal)
    (s2 t2 : Fin 160 → EReal) (o : Fin 160) : EReal :=
  Ideal.logistic (dense (hid p w1 s1 t1) (fun k => w2 k o) (s2 o) (t2 o))

/-- The greatest magnitude of the gated activation, over everything. -/
def top (a : Fin 256 → Fin 32 → Fin 40 → Fin 160 → EReal) (g : Fin 256 → Fin 160 → EReal) : EReal :=
  Finset.univ.sup fun x : Fin 256 × Fin 32 × Fin 40 × Fin 160 =>
    max (a x.1 x.2.1 x.2.2.1 x.2.2.2 * g x.1 x.2.2.2) (-(a x.1 x.2.1 x.2.2.1 x.2.2.2 * g x.1 x.2.2.2))

/-- The scale of the 8-bit result. -/
def yscale (M : EReal) : EReal := if M = 0 then 1 else Ideal.div M (Ideal.ofBits FTy.f32 1123942400#32)

/-- A maximum from minus infinity over all of a finite type is its supremum. -/
theorem fold_max_eq {ι : Type} [Fintype ι] (f : ι → EReal) :
    Finset.fold max (Ideal.ofBits FTy.f32 4286578688#32) f Finset.univ = Finset.univ.sup f := by
  have : Ideal.ofBits FTy.f32 4286578688#32 = ⊥ := by simp [Ideal.ofBits, Ideal.ieee]
  rw [this]
  rfl

end Cert.Spec

end
-- ==== Proof.Val.KRing.lean ====
module

public import proofs.«01_k».proof.Proof.PI.Dats
public import Idealize.ShloMosaic.Lib.Pointwise
public import Idealize.ShloMosaic.Lib.Pipeline.ValueKit.Geometry
public import proofs.«01_k».proof.Proof.Val.Spec

@[expose] public section

set_option maxRecDepth 16384

noncomputable section

/-! The ring of input rows, entry by entry. -/

namespace Cert.KernelIdeal.Val

open Idealize.ShloMosaic Idealize.ShloMosaic.TcCoe
open Cert.KernelIdeal Cert.KernelIdeal.Gen Cert.KernelIdeal.Run

/-- The trips of the first loop are the 40 columns. -/
theorem trips1 : k0_t1_loop.trips = 40 := by decide +kernel

/-- The payload of the first loop is the bytes' integers. -/
theorem rp1 (v : Vec Ideal S1x1x120x256 .i8) (q : Fin 120) (b : Fin 256) :
    @Eq EReal (k0_pay1 v (ix4 0 0 q b)) (((v (ix4 0 0 q b)).toInt : ℝ) : EReal) := by
  unfold k0_pay1
  pointwise
  rfl

/-- The zero row. -/
theorem rp2 (y : S1x42x128x256.Idx) : @Eq EReal (k0_pay2 (F := Ideal) y) 0 := by
  unfold k0_pay2
  pointwise
  try simp [Ideal.ofBits, Ideal.ieee]

/-- The empty ring. -/
theorem rp8 (y : S4x42x128x256.Idx) : @Eq EReal (k0_pay8 (F := Ideal) y) 0 := by
  unfold k0_pay8
  pointwise
  try simp [Ideal.ofBits, Ideal.ieee]

/-- A put over part of a ring's slot, at an index inside. -/
theorem put_in (R : Ring Ideal) (off : Fin 4 → ℕ) (size : Fin 4 → ℕ) (w : ((a : Fin 4) → Fin (size a)) → EReal) (y : S4x42x128x256.Idx)
    (h : ∀ a, off a ≤ (y a).val ∧ (y a).val < off a + size a) :
    VecWindow.put (s := S4x42x128x256) R off size w y = w (Rect.unitLocal (s := S4x42x128x256) (off := off) (size := size) y h) := dif_pos h

/-- A put over part of a ring's slot, at an index outside. -/
theorem put_out (R : Ring Ideal) (off : Fin 4 → ℕ) (size : Fin 4 → ℕ) (w : ((a : Fin 4) → Fin (size a)) → EReal) (y : S4x42x128x256.Idx)
    (h : ¬ ∀ a, off a ≤ (y a).val ∧ (y a).val < off a + size a) :
    VecWindow.put (s := S4x42x128x256) R off size w y = R y := dif_neg h

variable (i : grid0.Coords) (h2 : k0_cond2 i = 1#1) (X : Vec Ideal S1x40x120x256 .i8) (R : Ring Ideal)

/-- Outside the row's slot, the columns put in, and the input channels, the first loop leaves the ring as it was. -/
theorem ringK_out (n : ℕ) (σ : Fin 4) (j : Fin 42) (q : Fin 128) (b : Fin 256)
    (h : ¬ (σ.val = (i 0).val % 4 ∧ 1 ≤ j.val ∧ j.val ≤ n ∧ q.val < 120)) : ringK i h2 X R n (ix4 σ j q b) = R (ix4 σ j q b) := by
  induction n with
  | zero => rfl
  | succ n ih =>
    by_cases hn : n < k0_t1_loop.trips
    · rw [ringK, dif_pos hn]
      refine (put_out _ _ _ _ _ ?_).trans (ih fun hh => h ⟨hh.1, hh.2.1, by omega, hh.2.2.2⟩)
      intro hall
      rw [k0_off2_eq i ⟨n, hn⟩] at hall
      have a0 := hall 0
      have a1 := hall 1
      have a2 := hall 2
      refine h ⟨?_, ?_, ?_, ?_⟩
      · have e1 : (i 0).val % 4 ≤ σ.val := a0.1
        have e2 : σ.val < (i 0).val % 4 + 1 := a0.2
        omega
      · have e1 : n + 1 ≤ j.val := a1.1
        omega
      · have e2 : j.val < n + 1 + 1 := a1.2
        omega
      · have e2 : q.val < 0 + 120 := a2.2
        omega
    · rw [ringK, dif_neg hn]
      exact ih fun hh => h ⟨hh.1, hh.2.1, by omega, hh.2.2.2⟩

/-- The row's slot at a column put in: the row's bytes. -/
theorem ringK_in (n : ℕ) (σ : Fin 4) (j : Fin 40) (q : Fin 120) (b : Fin 256) (hσ : σ.val = (i 0).val % 4) (hj : j.val < n) :
    @Eq EReal (ringK i h2 X R n (ix4 σ ⟨j.val + 1, by omega⟩ ⟨q.val, by omega⟩ b)) (((X (ix4 0 j q b)).toInt : ℝ) : EReal) := by
  induction n with
  | zero => exact absurd hj (Nat.not_lt_zero _)
  | succ n ih =>
    by_cases hn : n < k0_t1_loop.trips
    · rw [ringK, dif_pos hn]
      by_cases hc : j.val = n
      · have hq := q.isLt
        have hb := b.isLt
        have hall : ∀ a, k0_off2 i ⟨n, hn⟩ a ≤ ((ix4 (n0 := 4) (n1 := 42) (n2 := 128) (n3 := 256) σ ⟨j.val + 1, by omega⟩ ⟨q.val, by omega⟩ b : S4x42x128x256.Idx) a).val
            ∧ ((ix4 (n0 := 4) (n1 := 42) (n2 := 128) (n3 := 256) σ ⟨j.val + 1, by omega⟩ ⟨q.val, by omega⟩ b : S4x42x128x256.Idx) a).val < k0_off2 i ⟨n, hn⟩ a + S1x1x120x256.size a := by
          rw [k0_off2_eq i ⟨n, hn⟩]
          intro a
          match a with
          | ⟨0, _⟩ => exact ⟨show (i 0).val % 4 ≤ σ.val by omega, show σ.val < (i 0).val % 4 + 1 by omega⟩
          | ⟨1, _⟩ => exact ⟨show n + 1 ≤ j.val + 1 by omega, show j.val + 1 < n + 1 + 1 by omega⟩
          | ⟨2, _⟩ => exact ⟨show 0 ≤ q.val by omega, show q.val < 0 + 120 by omega⟩
          | ⟨3, _⟩ => exact ⟨show 0 ≤ b.val by omega, show b.val < 0 + 256 by omega⟩
        refine (put_in _ _ _ _ _ hall).trans ?_
        have el : Rect.unitLocal (s := S4x42x128x256) (off := k0_off2 i ⟨n, hn⟩) (size := S1x1x120x256.size) _ hall = ix4 (n0 := 1) (n1 := 1) (n2 := 120) (n3 := 256) 0 0 q b := by
          funext a
          refine Fin.ext ?_
          rw [Rect.unitLocal_val, congrFun (k0_off2_eq i ⟨n, hn⟩) a]
          match a with
          | ⟨0, _⟩ => show σ.val - (i 0).val % 4 = 0; omega
          | ⟨1, _⟩ => show j.val + 1 - (n + 1) = 0; omega
          | ⟨2, _⟩ => show q.val - 0 = q.val; omega
          | ⟨3, _⟩ => show b.val - 0 = b.val; omega
        refine (congrArg (k0_pay1 (F := Ideal) _) el).trans ?_
        refine (rp1 _ q b).trans ?_
        refine congrArg (fun v : BitVec 8 => ((v.toInt : ℝ) : EReal)) (congrArg X ?_)
        funext a
        refine Fin.ext ?_
        rw [ValueKit.rect_emb_unit_val, congrFun (k0_off1_eq ⟨n, hn⟩) a]
        match a with
        | ⟨0, _⟩ => rfl
        | ⟨1, _⟩ => show n + 0 = j.val; omega
        | ⟨2, _⟩ => show 0 + q.val = q.val; omega
        | ⟨3, _⟩ => show 0 + b.val = b.val; omega
      · refine (put_out _ _ _ _ _ ?_).trans (ih (by omega))
        intro hall
        rw [k0_off2_eq i ⟨n, hn⟩] at hall
        have e1 : n + 1 ≤ j.val + 1 := (hall 1).1
        omega
    · rw [ringK, dif_neg hn]
      have ht : 40 ≤ n := by rw [trips1] at hn; omega
      exact ih (by have := j.isLt; omega)

/-- The zero row's put, outside its slot. -/
theorem zero_out (σ : Fin 4) (j : Fin 42) (q : Fin 128) (b : Fin 256) (h : σ.val ≠ (i 0).val % 4) :
    VecWindow.put R (k0_off3 i) S1x42x128x256.size (k0_pay2 (F := Ideal)) (ix4 σ j q b) = R (ix4 σ j q b) := by
  refine put_out _ _ _ _ _ ?_
  intro hall
  rw [k0_off3_eq i] at hall
  have e1 : (i 0).val % 4 ≤ σ.val := (hall 0).1
  have e2 : σ.val < (i 0).val % 4 + 1 := (hall 0).2
  omega

/-- The zero row's put, in its slot. -/
theorem zero_in (σ : Fin 4) (j : Fin 42) (q : Fin 128) (b : Fin 256) (h : σ.val = (i 0).val % 4) :
    @Eq EReal (VecWindow.put R (k0_off3 i) S1x42x128x256.size (k0_pay2 (F := Ideal)) (ix4 σ j q b)) 0 := by
  have hj := j.isLt
  have hq := q.isLt
  have hb := b.isLt
  have hall : ∀ a, k0_off3 i a ≤ ((ix4 (n0 := 4) (n1 := 42) (n2 := 128) (n3 := 256) σ j q b : S4x42x128x256.Idx) a).val
      ∧ ((ix4 (n0 := 4) (n1 := 42) (n2 := 128) (n3 := 256) σ j q b : S4x42x128x256.Idx) a).val < k0_off3 i a + S1x42x128x256.size a := by
    rw [k0_off3_eq i]
    intro a
    match a with
    | ⟨0, _⟩ => exact ⟨show (i 0).val % 4 ≤ σ.val by omega, show σ.val < (i 0).val % 4 + 1 by omega⟩
    | ⟨1, _⟩ => exact ⟨show 0 ≤ j.val by omega, show j.val < 0 + 42 by omega⟩
    | ⟨2, _⟩ => exact ⟨show 0 ≤ q.val by omega, show q.val < 0 + 128 by omega⟩
    | ⟨3, _⟩ => exact ⟨show 0 ≤ b.val by omega, show b.val < 0 + 256 by omega⟩
  exact (put_in _ _ _ _ _ hall).trans (rp2 _)

end Cert.KernelIdeal.Val

end
-- ==== Proof.Val.KInv.lean ====
module

public import proofs.«01_k».proof.Proof.Val.KRing

@[expose] public section

set_option maxRecDepth 16384

noncomputable section

/-! Which input rows the ring holds when an output row is computed. -/

namespace Cert.KernelIdeal.Val

open Idealize.ShloMosaic Idealize.ShloMosaic.TcCoe
open Cert.KernelIdeal Cert.KernelIdeal.Gen Cert.KernelIdeal.Run

variable (Xf : Fin 256 → Fin 32 → Fin 40 → Fin 120 → BitVec 8)

/-- The first and last columns of every slot are zero. -/
def Edge (R : Ring Ideal) : Prop := ∀ (σ : Fin 4) (j : Fin 42) (q : Fin 128) (b : Fin 256), j.val = 0 ∨ j.val = 41 → @Eq EReal (R (ix4 σ j q b)) 0

/-- The ring after point `s`: its edge columns are zero, and the three rows of the padded image around output row `s - 1` are in their slots. -/
def RInv (s : ℕ) (R : Ring Ideal) : Prop :=
  Edge R ∧ ∀ p : ℕ, p ≤ s + 1 → s ≤ p + 1 → ∀ (σ : Fin 4) (j : Fin 42) (q : Fin 120) (b : Fin 256), σ.val = (p + 3) % 4 →
    @Eq EReal (R (ix4 σ j ⟨q.val, by omega⟩ b)) (Spec.px Xf b p j.val q)

/-- The first loop keeps the edge columns. -/
theorem edge_load (i : grid0.Coords) (h2 : k0_cond2 i = 1#1) (X : Vec Ideal S1x40x120x256 .i8) (R : Ring Ideal) (hR : Edge R) :
    Edge (ringK i h2 X R k0_t1_loop.trips) := by
  intro σ j q b hj
  rw [ringK_out i h2 X R _ σ j q b (by rw [trips1]; omega)]
  exact hR σ j q b hj

/-- The first loop puts the row into its slot. -/
theorem row_load (i : grid0.Coords) (h2 : k0_cond2 i = 1#1) (X : Vec Ideal S1x40x120x256 .i8) (R : Ring Ideal) (hR : Edge R) (r : Fin 32)
    (hi : (i 0).val = r.val) (hX : ∀ (j : Fin 40) (q : Fin 120) (b : Fin 256), X (ix4 0 j q b) = Xf b r j q)
    (σ : Fin 4) (j : Fin 42) (q : Fin 120) (b : Fin 256) (hσ : σ.val = (i 0).val % 4) :
    @Eq EReal (ringK i h2 X R k0_t1_loop.trips (ix4 σ j ⟨q.val, by omega⟩ b)) (Spec.px Xf b (r.val + 1) j.val q) := by
  by_cases hj : j.val = 0 ∨ j.val = 41
  · exact (edge_load i h2 X R hR σ j _ b hj).trans (Spec.px_out Xf _ _ (by omega))
  · have hjl := j.isLt
    have e : j = ⟨(⟨j.val - 1, by omega⟩ : Fin 40).val + 1, by dsimp only; omega⟩ := Fin.ext (by show j.val = j.val - 1 + 1; omega)
    have h1 := ringK_in i h2 X R k0_t1_loop.trips σ ⟨j.val - 1, by omega⟩ q b hσ (by rw [trips1]; dsimp only; omega)
    rw [← e] at h1
    refine h1.trans ?_
    rw [hX]
    exact Spec.px_in Xf r ⟨j.val - 1, by omega⟩ _ _ rfl (by dsimp only; omega)

/-- After the first point. -/
theorem inv_first (i : grid0.Coords) (h2 : k0_cond2 i = 1#1) (X : Vec Ideal S1x40x120x256 .i8) (hi : (i 0).val = 0)
    (hX : ∀ (j : Fin 40) (q : Fin 120) (b : Fin 256), X (ix4 0 j q b) = Xf b 0 j q) :
    RInv Xf 0 (ringK i h2 X (k0_pay8 (F := Ideal)) k0_t1_loop.trips) := by
  have h0 : Edge (k0_pay8 (F := Ideal)) := fun σ j q b _ => rp8 _
  refine ⟨edge_load i h2 X _ h0, fun p hp _ σ j q b hσ => ?_⟩
  by_cases hp1 : p = 1
  · subst hp1
    exact row_load Xf i h2 X _ h0 0 hi hX σ j q b (by omega)
  · have hp0 : p = 0 := by omega
    subst hp0
    rw [ringK_out i h2 X _ _ σ j _ b (by omega)]
    exact (rp8 _).trans (Spec.px_out Xf _ _ (by omega))

/-- A point that loads a row. -/
theorem inv_load (s : ℕ) (hs : s + 1 < 32) (i : grid0.Coords) (h2 : k0_cond2 i = 1#1) (X : Vec Ideal S1x40x120x256 .i8) (R : Ring Ideal) (hR : RInv Xf s R)
    (hi : (i 0).val = s + 1) (hX : ∀ (j : Fin 40) (q : Fin 120) (b : Fin 256), X (ix4 0 j q b) = Xf b ⟨s + 1, hs⟩ j q) :
    RInv Xf (s + 1) (ringK i h2 X R k0_t1_loop.trips) := by
  refine ⟨edge_load i h2 X _ hR.1, fun p hp hp' σ j q b hσ => ?_⟩
  by_cases hp1 : p = s + 2
  · subst hp1
    exact row_load Xf i h2 X _ hR.1 ⟨s + 1, hs⟩ hi hX σ j q b (by omega)
  · rw [ringK_out i h2 X _ _ σ j _ b (by omega)]
    exact hR.2 p (by omega) (by omega) σ j q b hσ

/-- The last point puts a zero row in. -/
theorem inv_last (i : grid0.Coords) (R : Ring Ideal) (hR : RInv Xf 31 R) (hi : (i 0).val = 32) :
    RInv Xf 32 (VecWindow.put R (k0_off3 i) S1x42x128x256.size (k0_pay2 (F := Ideal))) := by
  refine ⟨fun σ j q b hj => ?_, fun p hp hp' σ j q b hσ => ?_⟩
  · by_cases h : σ.val = (i 0).val % 4
    · exact zero_in i R σ j q b h
    · exact (zero_out i R σ j q b h).trans (hR.1 σ j q b hj)
  · by_cases h : σ.val = (i 0).val % 4
    · exact (zero_in i R σ j _ b h).trans (Spec.px_out Xf _ _ (by omega))
    · exact (zero_out i R σ j _ b h).trans (hR.2 p (by omega) (by omega) σ j q b hσ)

/-- A trip of the second loop is one of 40. -/
theorem trip_lt (k : Fin k0_t2_loop.trips) : k.val < 40 := lt_of_lt_of_eq k.isLt trips2

/-- The patch of a kernel row, entry by entry. -/
theorem patch_apply (i : grid0.Coords) (h4 : k0_cond4 i = 1#1) (R : Ring Ideal) (k : Fin k0_t2_loop.trips) (r dw : Fin 3) (q : Fin 128) (b : Fin 256) :
    patch i h4 R k r (ix4 0 dw q b) = R (ix4 ⟨((i 0).val + r.val + 2) % 4, Nat.mod_lt _ (by omega)⟩ ⟨k.val + dw.val, by have := trip_lt k; have := dw.isLt; omega⟩ q b) := by
  show R ((Rect.unit (s := S4x42x128x256) (k0_off4 i k (BitVec.ofNat 32 r.val)) S1x3x128x256.size (k0_off4_inb i k h4 r)).emb (ix4 (n0 := 1) (n1 := 3) (n2 := 128) (n3 := 256) 0 dw q b)) = _
  refine congrArg R ?_
  funext a
  refine Fin.ext ?_
  rw [ValueKit.rect_emb_unit_val, congrFun (k0_off4_eq i k r) a]
  match a with
  | ⟨0, _⟩ => rfl
  | ⟨1, _⟩ => rfl
  | ⟨2, _⟩ => show 0 + q.val = q.val; omega
  | ⟨3, _⟩ => show 0 + b.val = b.val; omega

/-- So it reads the padded image. -/
theorem patch_px (s : ℕ) (hs : s ≠ 0) (i : grid0.Coords) (h4 : k0_cond4 i = 1#1) (R : Ring Ideal) (hR : RInv Xf s R) (hi : (i 0).val = s)
    (k : Fin k0_t2_loop.trips) (r dw : Fin 3) (q : Fin 120) (b : Fin 256) :
    @Eq EReal (patch i h4 R k r (ix4 0 dw ⟨q.val, by omega⟩ b)) (Spec.px Xf b (r.val + (s - 1)) (dw.val + k.val) q) := by
  have hr := r.isLt
  rw [patch_apply, hR.2 (r.val + (s - 1)) (by omega) (by omega) _ _ q b (by dsimp only; omega)]
  exact congrArg (fun j : ℕ => Spec.px Xf b (r.val + (s - 1)) j q) (Nat.add_comm k.val dw.val)

end Cert.KernelIdeal.Val

end
-- ==== Proof.Val.KTile.lean ====
module

public import proofs.«01_k».proof.Proof.Val.KInv
public import Idealize.ShloMosaic.Lib.Pipeline.ValueKit.Acc

@[expose] public section

set_option maxRecDepth 16384

noncomputable section

/-! A tile of the kernel's activation is the activation at its row and column. -/

namespace Cert.KernelIdeal.Val

open Idealize.ShloMosaic Idealize.ShloMosaic.TcCoe
open Cert.KernelIdeal Cert.KernelIdeal.Gen Cert.KernelIdeal.Run

/-- One kernel row's product: packed weights by the row's three neighbouring pixels. -/
def prow (w : Vec Ideal S1x160x384 .i8) (p : Vec Ideal S1x3x128x256 .bf16) (o : Fin 160) (b : Fin 256) : EReal :=
  ∑ x : Fin 384, (((w (ix3 0 o x)).toInt : ℝ) : EReal) * p (ix4 0 ⟨x.val / 128, by omega⟩ ⟨x.val % 128, by omega⟩ b)

/-- The padding lanes of the packed weights are zero, so only the 120 input channels of each tap contribute. -/
theorem prow_eq (w : Vec Ideal S1x160x384 .i8) (p : Vec Ideal S1x3x128x256 .bf16) (Wf : Fin 3 → Fin 120 → BitVec 8) (f : Fin 3 → Fin 120 → EReal)
    (o : Fin 160) (b : Fin 256)
    (hw : ∀ x : Fin 384, w (ix3 0 o x) = if h : x.val % 128 < 120 then Wf ⟨x.val / 128, by omega⟩ ⟨x.val % 128, h⟩ else 0#8)
    (hp : ∀ (dw : Fin 3) (q : Fin 120), @Eq EReal (p (ix4 0 dw ⟨q.val, by omega⟩ b)) (f dw q)) :
    prow w p o b = ∑ dw : Fin 3, ∑ k : Fin 120, f dw k * (((Wf dw k).toInt : ℝ) : EReal) := by
  unfold prow
  let g : Fin 3 → Fin 128 → EReal := fun dw q =>
    (((if h : q.val < 120 then Wf dw ⟨q.val, h⟩ else 0#8 : BitVec 8).toInt : ℝ) : EReal) * p (ix4 0 dw q b)
  have h1 : ∀ x : Fin 384, (((w (ix3 0 o x)).toInt : ℝ) : EReal) * p (ix4 0 ⟨x.val / 128, by omega⟩ ⟨x.val % 128, by omega⟩ b)
      = g ⟨x.val / 128, by omega⟩ ⟨x.val % 128, by omega⟩ := by
    intro x
    rw [hw x]
  rw [Finset.sum_congr rfl fun x _ => h1 x]
  rw [Fin.sum_divmod_fin (N := 384) (A := 3) 128 g]
  refine Finset.sum_congr rfl fun dw _ => ?_
  have h2 := Fin.sum_univ_add (M := EReal) (a := 120) (b := 8) (fun q : Fin 128 => g dw q)
  refine h2.trans ?_
  have h3 : ∑ q : Fin 8, g dw (Fin.natAdd 120 q) = 0 := by
    refine Finset.sum_eq_zero fun q _ => ?_
    show (((if h : (Fin.natAdd 120 q : Fin 128).val < 120 then Wf dw ⟨(Fin.natAdd 120 q : Fin 128).val, h⟩ else 0#8 : BitVec 8).toInt : ℝ) : EReal) * _ = 0
    rw [dif_neg (by simp)]
    simp
  rw [h3, add_zero]
  refine Finset.sum_congr rfl fun q _ => ?_
  show (((if h : (Fin.castAdd 8 q : Fin 128).val < 120 then Wf dw ⟨(Fin.castAdd 8 q : Fin 128).val, h⟩ else 0#8 : BitVec 8).toInt : ℝ) : EReal) * p (ix4 0 dw ⟨q.val, by omega⟩ b) = _
  rw [dif_pos (show (Fin.castAdd 8 q : Fin 128).val < 120 from q.isLt), hp, mul_comm]
  rfl

/-- The tile of the first, second and third kernel rows' products, scaled, biased and put through `silu`. -/
theorem pay3_apply (p0 p1 p2 : Vec Ideal S1x3x128x256 .bf16) (w0 w1 w2 : Vec Ideal S1x160x384 .i8) (S B : Vec Ideal S160x256 .f32) (o : Fin 160) (b : Fin 256) :
    @Eq EReal (k0_pay3 (k0_pay13 p0 w0 p1 w1) p2 w2 S B (ix2 o b))
      (Ideal.ofBits .f32 1056964608#32 * ((prow w0 p0 o b + prow w1 p1 o b + prow w2 p2 o b) * S (ix2 o b) + B (ix2 o b))
        + Ideal.ofBits .f32 1056964608#32 * ((prow w0 p0 o b + prow w1 p1 o b + prow w2 p2 o b) * S (ix2 o b) + B (ix2 o b))
          * Ideal.tanh (Ideal.ofBits .f32 1056964608#32 * ((prow w0 p0 o b + prow w1 p1 o b + prow w2 p2 o b) * S (ix2 o b) + B (ix2 o b)))) := by
  unfold k0_pay3 k0_pay13
  pointwise
  rfl

/-- A real. -/
def IsReal (z : EReal) : Prop := ∃ r : ℝ, z = (r : EReal)

/-- A product of reals is a real. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A sum of two reals is a real. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- A finite sum of reals is a real. -/
theorem IsReal.sum {ι : Type} (s : Finset ι) (f : ι → EReal) (h : ∀ i ∈ s, IsReal (f i)) : IsReal (∑ i ∈ s, f i) :=
  Finset.sum_induction f IsReal (fun _ _ => IsReal.add) ⟨0, rfl⟩ h

/-- A convolution of bytes is a real. -/
theorem conv_fin (X : Fin 256 → Fin 32 → Fin 40 → Fin 120 → BitVec 8) (W : Fin 3 → Fin 3 → Fin 120 → Fin 160 → BitVec 8)
    (b : Fin 256) (r : Fin 32) (w : Fin 40) (c : Fin 160) : IsReal (Spec.conv X W b r w c) := by
  unfold Spec.conv
  refine IsReal.sum _ _ fun dh _ => IsReal.sum _ _ fun dw _ => IsReal.sum _ _ fun k _ => IsReal.mul ?_ ⟨_, rfl⟩
  unfold Spec.px
  split
  · exact ⟨_, rfl⟩
  · exact ⟨0, rfl⟩

/-- The kernel's form of `silu` on a real. -/
theorem silu_fin {z : EReal} (hz : IsReal z) : Ideal.ofBits .f32 1056964608#32 * z + Ideal.ofBits .f32 1056964608#32 * z * Ideal.tanh (Ideal.ofBits .f32 1056964608#32 * z)
    = Spec.silu z := by
  obtain ⟨r, rfl⟩ := hz
  exact Math.silu_eq r

/-- One kernel row of the packed weights. -/
theorem wrow_apply (Wv : Vec Ideal S3x160x384 .i8) (dh : Fin 3) (o : Fin 160) (x : Fin 384) : wrow Wv dh (ix3 0 o x) = Wv (ix3 dh o x) := by
  match dh with
  | 0 =>
    show Wv ((Rect.unit (s := S3x160x384) ![0, 0, 0] S1x160x384.size inb_S3x160x384_S1x160x384_0_0_0).emb (ix3 (n0 := 1) (n1 := 160) (n2 := 384) 0 o x)) = _
    refine congrArg Wv ?_
    funext a
    refine Fin.ext ?_
    rw [ValueKit.rect_emb_unit_val]
    match a with
    | ⟨0, _⟩ => rfl
    | ⟨1, _⟩ => show 0 + o.val = o.val; omega
    | ⟨2, _⟩ => show 0 + x.val = x.val; omega
  | 1 =>
    show Wv ((Rect.unit (s := S3x160x384) ![1, 0, 0] S1x160x384.size inb_S3x160x384_S1x160x384_1_0_0).emb (ix3 (n0 := 1) (n1 := 160) (n2 := 384) 0 o x)) = _
    refine congrArg Wv ?_
    funext a
    refine Fin.ext ?_
    rw [ValueKit.rect_emb_unit_val]
    match a with
    | ⟨0, _⟩ => rfl
    | ⟨1, _⟩ => show 0 + o.val = o.val; omega
    | ⟨2, _⟩ => show 0 + x.val = x.val; omega
  | 2 =>
    show Wv ((Rect.unit (s := S3x160x384) ![2, 0, 0] S1x160x384.size inb_S3x160x384_S1x160x384_2_0_0).emb (ix3 (n0 := 1) (n1 := 160) (n2 := 384) 0 o x)) = _
    refine congrArg Wv ?_
    funext a
    refine Fin.ext ?_
    rw [ValueKit.rect_emb_unit_val]
    match a with
    | ⟨0, _⟩ => rfl
    | ⟨1, _⟩ => show 0 + o.val = o.val; omega
    | ⟨2, _⟩ => show 0 + x.val = x.val; omega

variable (Xf : Fin 256 → Fin 32 → Fin 40 → Fin 120 → BitVec 8) (Wf : Fin 3 → Fin 3 → Fin 120 → Fin 160 → BitVec 8)
  (xs : Fin 256 → EReal) (ws bs bb : Fin 160 → EReal)

/-- The three rows' products are the convolution. -/
theorem rows_conv (r : Fin 32) (i : grid0.Coords) (h4 : k0_cond4 i = 1#1) (R : Ring Ideal) (hR : RInv Xf (r.val + 1) R) (hi : (i 0).val = r.val + 1)
    (Wv : Vec Ideal S3x160x384 .i8)
    (hW : ∀ (dh : Fin 3) (o : Fin 160) (x : Fin 384), Wv (ix3 dh o x) = if h : x.val % 128 < 120 then Wf dh ⟨x.val / 128, by omega⟩ ⟨x.val % 128, h⟩ o else 0#8)
    (k : Fin k0_t2_loop.trips) (o : Fin 160) (b : Fin 256) :
    prow (wrow Wv 0) (patch i h4 R k 0) o b + prow (wrow Wv 1) (patch i h4 R k 1) o b + prow (wrow Wv 2) (patch i h4 R k 2) o b
      = Spec.conv Xf Wf b r ⟨k.val, trip_lt k⟩ o := by
  have hp : ∀ dh : Fin 3, prow (wrow Wv dh) (patch i h4 R k dh) o b
      = ∑ dw : Fin 3, ∑ q : Fin 120, Spec.px Xf b (dh.val + r.val) (dw.val + k.val) q * (((Wf dh dw q o).toInt : ℝ) : EReal) := fun dh =>
    prow_eq _ _ (fun dw q => Wf dh dw q o) (fun dw q => Spec.px Xf b (dh.val + r.val) (dw.val + k.val) q) o b
      (fun x => by rw [wrow_apply, hW]) (fun dw q => patch_px Xf (r.val + 1) (by omega) i h4 R hR hi k dh dw q b)
  rw [hp 0, hp 1, hp 2]
  unfold Spec.conv
  exact (Fin.sum_univ_three (M := EReal) fun dh : Fin 3 => ∑ dw : Fin 3, ∑ q : Fin 120,
    Spec.px Xf b (dh.val + r.val) (dw.val + k.val) q * (((Wf dh dw q o).toInt : ℝ) : EReal)).symm

/-- A tile of the kernel's activation. -/
theorem tile_eq (hxs : ∀ b, IsReal (xs b)) (hws : ∀ o, IsReal (ws o)) (hbs : ∀ o, IsReal (bs o)) (hbb : ∀ o, IsReal (bb o))
    (r : Fin 32) (i : grid0.Coords) (h4 : k0_cond4 i = 1#1) (R : Ring Ideal) (hR : RInv Xf (r.val + 1) R) (hi : (i 0).val = r.val + 1)
    (Wv : Vec Ideal S3x160x384 .i8)
    (hW : ∀ (dh : Fin 3) (o : Fin 160) (x : Fin 384), Wv (ix3 dh o x) = if h : x.val % 128 < 120 then Wf dh ⟨x.val / 128, by omega⟩ ⟨x.val % 128, h⟩ o else 0#8)
    (S B : Tile Ideal) (hS : ∀ (o : Fin 160) (b : Fin 256), @Eq EReal (S (ix2 o b)) (xs b * ws o * bs o)) (hB : ∀ (o : Fin 160) (b : Fin 256), @Eq EReal (B (ix2 o b)) (bb o))
    (k : Fin k0_t2_loop.trips) (o : Fin 160) (b : Fin 256) :
    @Eq EReal (k0_pay3 (acc2 i h4 Wv R k) (patch i h4 R k 2) (wrow Wv 2) S B (ix2 o b)) (Spec.act Xf Wf xs ws bs bb b r ⟨k.val, trip_lt k⟩ o) := by
  unfold acc2
  rw [pay3_apply, rows_conv Xf Wf r i h4 R hR hi Wv hW k o b, hS, hB]
  refine (silu_fin ?_).trans rfl
  exact ((conv_fin _ _ _ _ _ _).mul (((hxs b).mul (hws o)).mul (hbs o))).add (hbb o)

end Cert.KernelIdeal.Val

end
-- ==== Proof.Val.KBlk.lean ====
module

public import proofs.«01_k».proof.Proof.PI.Dats
public import Idealize.ShloMosaic.Lib.Pointwise
public import Idealize.ShloMosaic.Lib.Claim
public import Idealize.ShloMosaic.Lib.Pipeline.ValueKit.Geometry
public import proofs.«01_k».proof.Proof.Val.Spec

@[expose] public section

set_option maxRecDepth 16384

noncomputable section

/-! The blocks the kernel's body is given, from the program's arguments. -/

namespace Cert.KernelIdeal.Val

open Idealize.ShloMosaic Idealize.ShloMosaic.TcCoe
open Cert.KernelIdeal Cert.KernelIdeal.Gen

variable (m : (ℓ : Loc nD τ sig) → Buf (Elt Ideal) ℓ) (c : Dev nD)

/-- The image, by its coordinates. -/
abbrev X (b : Fin 256) (i : Fin 32) (j : Fin 40) (k : Fin 120) : BitVec 8 := m ((c : Thread nD τ).loc main_arg0) (ix4 b i j k)
/-- The convolution's weights. -/
abbrev W (i : Fin 3) (j : Fin 3) (k : Fin 120) (o : Fin 160) : BitVec 8 := m ((c : Thread nD τ).loc main_arg2) (ix4 i j k o)
/-- The images' scales. -/
abbrev xs (b : Fin 256) : EReal := m ((c : Thread nD τ).loc main_arg1) (ix1 b)
/-- The weights' scales. -/
abbrev ws (o : Fin 160) : EReal := m ((c : Thread nD τ).loc main_arg3) (ix1 o)
/-- The normalisation's scale. -/
abbrev bs (o : Fin 160) : EReal := m ((c : Thread nD τ).loc main_arg4) (ix1 o)
/-- The normalisation's bias. -/
abbrev bb (o : Fin 160) : EReal := m ((c : Thread nD τ).loc main_arg5) (ix1 o)
/-- The first layer's weights. -/
abbrev w1 (k : Fin 160) (j : Fin 30) : EReal := m ((c : Thread nD τ).loc main_arg6) (ix2 k j)
/-- Their scales. -/
abbrev s1 (j : Fin 30) : EReal := m ((c : Thread nD τ).loc main_arg7) (ix1 j)
/-- The first layer's bias. -/
abbrev t1 (j : Fin 30) : EReal := m ((c : Thread nD τ).loc main_arg8) (ix1 j)
/-- The second layer's weights. -/
abbrev w2 (k : Fin 30) (j : Fin 160) : EReal := m ((c : Thread nD τ).loc main_arg9) (ix2 k j)
/-- Their scales. -/
abbrev s2 (j : Fin 160) : EReal := m ((c : Thread nD τ).loc main_arg10) (ix1 j)
/-- The second layer's bias. -/
abbrev t2 (j : Fin 160) : EReal := m ((c : Thread nD τ).loc main_arg11) (ix1 j)

/-- The image's block is the row of the point, the last row again at the last point. -/
theorem index0 : ∀ t : Fin cfg0.N, win0_0.index t = ![min t.val 31, 0, 0, 0] := (by decide +kernel : ∀ t : Fin grid0.N, _)
/-- The block of window 1 at each point. -/
theorem index1 : ∀ t : Fin cfg0.N, win0_1.index t = ![0, 0, 0] := (by decide +kernel : ∀ t : Fin grid0.N, _)
/-- The block of window 2 at each point. -/
theorem index2 : ∀ t : Fin cfg0.N, win0_2.index t = ![0, 0] := (by decide +kernel : ∀ t : Fin grid0.N, _)
/-- The block of window 3 at each point. -/
theorem index3 : ∀ t : Fin cfg0.N, win0_3.index t = ![0, 0] := (by decide +kernel : ∀ t : Fin grid0.N, _)
/-- The block of window 4 at each point. -/
theorem index4 : ∀ t : Fin cfg0.N, win0_4.index t = ![0, 0] := (by decide +kernel : ∀ t : Fin grid0.N, _)
/-- The block of window 5 at each point. -/
theorem index5 : ∀ t : Fin cfg0.N, win0_5.index t = ![0, 0] := (by decide +kernel : ∀ t : Fin grid0.N, _)
/-- The block of window 6 at each point. -/
theorem index6 : ∀ t : Fin cfg0.N, win0_6.index t = ![0, 0] := (by decide +kernel : ∀ t : Fin grid0.N, _)
/-- The block of window 7 at each point. -/
theorem index7 : ∀ t : Fin cfg0.N, win0_7.index t = ![0, 0] := (by decide +kernel : ∀ t : Fin grid0.N, _)
/-- The block of window 8 at each point. -/
theorem index8 : ∀ t : Fin cfg0.N, win0_8.index t = ![0, 0] := (by decide +kernel : ∀ t : Fin grid0.N, _)
/-- The block of window 9 at each point. -/
theorem index9 : ∀ t : Fin cfg0.N, win0_9.index t = ![0, 0] := (by decide +kernel : ∀ t : Fin grid0.N, _)
/-- The block of window 10 at each point. -/
theorem index10 : ∀ t : Fin cfg0.N, win0_10.index t = ![0, 0] := (by decide +kernel : ∀ t : Fin grid0.N, _)
/-- The block of window 11 at each point. -/
theorem index11 : ∀ t : Fin cfg0.N, win0_11.index t = ![0, 0] := (by decide +kernel : ∀ t : Fin grid0.N, _)

/-- The image with the batch last. -/
theorem v0_apply (r : Fin 32) (j : Fin 40) (k : Fin 120) (b : Fin 256) : V m c main_v0 (ix4 r j k b) = X m c b r j k := by
  simp only [V, hostOps0, hostOps0_1, hostOps0_2, List.flatten_cons, List.flatten_nil, List.append_nil, List.cons_append, List.nil_append]
  entry_read
  pointwise

/-- A row of the image. -/
theorem blk0 (t : Fin cfg0.N) (j : Fin 40) (k : Fin 120) (b : Fin 256) : iblk m c 0 t (ix4 0 j k b) = X m c b ⟨min t.val 31, by omega⟩ j k := by
  rw [← v0_apply]
  blk_simp [iblk]
  refine congrArg (V m c main_v0) ?_
  blk_ext [index0]

/-- A choice on a conjunction whose first half holds. -/
theorem dite_and {α : Type} {A B : Prop} [Decidable (A ∧ B)] [Decidable B] (ha : A) (f : A ∧ B → α) (g : B → α) (z z' : α) (hf : ∀ h, f h = g h.2) (hz : z = z') :
    (if h : A ∧ B then f h else z) = if h : B then g h else z' := by
  by_cases h : B
  · rw [dif_pos h, dif_pos ⟨ha, h⟩]; exact hf _
  · rw [dif_neg h, dif_neg fun hh => h hh.2]; exact hz

/-- The packed weights: the nine taps' input channels padded by zeros. -/
theorem v3_apply (dh : Fin 3) (o : Fin 160) (x : Fin 384) : V m c main_v3 (ix3 dh o x)
    = if h : x.val % 128 < 120 then W m c dh ⟨x.val / 128, by omega⟩ ⟨x.val % 128, h⟩ o else 0#8 := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  exact dite_and (by have := x.isLt; omega) _ _ _ _ (fun h => rfl) rfl

/-- The packed weights' block. -/
theorem blk1 (t : Fin cfg0.N) (dh : Fin 3) (o : Fin 160) (x : Fin 384) : iblk m c 1 t (ix3 dh o x)
    = if h : x.val % 128 < 120 then W m c dh ⟨x.val / 128, by omega⟩ ⟨x.val % 128, h⟩ o else 0#8 := by
  rw [← v3_apply]
  blk_simp [iblk]
  refine congrArg (V m c main_v3) ?_
  blk_ext [index1]

/-- A vector the host makes of an argument. -/
theorem v4_apply (b : Fin 256) : @Eq EReal (V m c main_v4 (ix2 0 b)) (xs m c b) := by
  simp only [V, hostOps0, hostOps0_1, hostOps0_2, List.flatten_cons, List.flatten_nil, List.append_nil, List.cons_append, List.nil_append]
  entry_read
  pointwise

/-- Its block. -/
theorem blk2 (t : Fin cfg0.N) (b : Fin 256) : @Eq EReal (iblk m c 2 t (ix2 0 b)) (xs m c b) := by
  rw [← v4_apply]
  blk_simp [iblk]
  refine congrArg (V m c main_v4) ?_
  blk_ext [index2]

/-- A vector the host makes of an argument. -/
theorem v5_apply (o : Fin 160) : @Eq EReal (V m c main_v5 (ix2 o 0)) (ws m c o) := by
  simp only [V, hostOps0, hostOps0_1, hostOps0_2, List.flatten_cons, List.flatten_nil, List.append_nil, List.cons_append, List.nil_append]
  entry_read
  pointwise

/-- Its block. -/
theorem blk3 (t : Fin cfg0.N) (o : Fin 160) : @Eq EReal (iblk m c 3 t (ix2 o 0)) (ws m c o) := by
  rw [← v5_apply]
  blk_simp [iblk]
  refine congrArg (V m c main_v5) ?_
  blk_ext [index3]

/-- A vector the host makes of an argument. -/
theorem v6_apply (o : Fin 160) : @Eq EReal (V m c main_v6 (ix2 o 0)) (bs m c o) := by
  simp only [V, hostOps0, hostOps0_1, hostOps0_2, List.flatten_cons, List.flatten_nil, List.append_nil, List.cons_append, List.nil_append]
  entry_read
  pointwise

/-- Its block. -/
theorem blk4 (t : Fin cfg0.N) (o : Fin 160) : @Eq EReal (iblk m c 4 t (ix2 o 0)) (bs m c o) := by
  rw [← v6_apply]
  blk_simp [iblk]
  refine congrArg (V m c main_v6) ?_
  blk_ext [index4]

/-- A vector the host makes of an argument. -/
theorem v7_apply (o : Fin 160) : @Eq EReal (V m c main_v7 (ix2 o 0)) (bb m c o) := by
  simp only [V, hostOps0, hostOps0_1, hostOps0_2, List.flatten_cons, List.flatten_nil, List.append_nil, List.cons_append, List.nil_append]
  entry_read
  pointwise

/-- Its block. -/
theorem blk5 (t : Fin cfg0.N) (o : Fin 160) : @Eq EReal (iblk m c 5 t (ix2 o 0)) (bb m c o) := by
  rw [← v7_apply]
  blk_simp [iblk]
  refine congrArg (V m c main_v7) ?_
  blk_ext [index5]

/-- A vector the host makes of an argument. -/
theorem v9_apply (j : Fin 30) : @Eq EReal (V m c main_v9 (ix2 j 0)) (s1 m c j) := by
  simp only [V, hostOps0, hostOps0_1, hostOps0_2, List.flatten_cons, List.flatten_nil, List.append_nil, List.cons_append, List.nil_append]
  entry_read
  pointwise

/-- Its block. -/
theorem blk7 (t : Fin cfg0.N) (j : Fin 30) : @Eq EReal (iblk m c 7 t (ix2 j 0)) (s1 m c j) := by
  rw [← v9_apply]
  blk_simp [iblk]
  refine congrArg (V m c main_v9) ?_
  blk_ext [index7]

/-- A vector the host makes of an argument. -/
theorem v10_apply (j : Fin 30) : @Eq EReal (V m c main_v10 (ix2 j 0)) (t1 m c j) := by
  simp only [V, hostOps0, hostOps0_1, hostOps0_2, List.flatten_cons, List.flatten_nil, List.append_nil, List.cons_append, List.nil_append]
  entry_read
  pointwise

/-- Its block. -/
theorem blk8 (t : Fin cfg0.N) (j : Fin 30) : @Eq EReal (iblk m c 8 t (ix2 j 0)) (t1 m c j) := by
  rw [← v10_apply]
  blk_simp [iblk]
  refine congrArg (V m c main_v10) ?_
  blk_ext [index8]

/-- A vector the host makes of an argument. -/
theorem v12_apply (o : Fin 160) : @Eq EReal (V m c main_v12 (ix2 o 0)) (s2 m c o) := by
  simp only [V, hostOps0, hostOps0_1, hostOps0_2, List.flatten_cons, List.flatten_nil, List.append_nil, List.cons_append, List.nil_append]
  entry_read
  pointwise

/-- Its block. -/
theorem blk10 (t : Fin cfg0.N) (o : Fin 160) : @Eq EReal (iblk m c 10 t (ix2 o 0)) (s2 m c o) := by
  rw [← v12_apply]
  blk_simp [iblk]
  refine congrArg (V m c main_v12) ?_
  blk_ext [index10]

/-- A vector the host makes of an argument. -/
theorem v13_apply (o : Fin 160) : @Eq EReal (V m c main_v13 (ix2 o 0)) (t2 m c o) := by
  simp only [V, hostOps0, hostOps0_1, hostOps0_2, List.flatten_cons, List.flatten_nil, List.append_nil, List.cons_append, List.nil_append]
  entry_read
  pointwise

/-- Its block. -/
theorem blk11 (t : Fin cfg0.N) (o : Fin 160) : @Eq EReal (iblk m c 11 t (ix2 o 0)) (t2 m c o) := by
  rw [← v13_apply]
  blk_simp [iblk]
  refine congrArg (V m c main_v13) ?_
  blk_ext [index11]

/-- A layer's weights, transposed. -/
theorem v8_apply (j : Fin 30) (k : Fin 160) : @Eq EReal (V m c main_v8 (ix2 j k)) (w1 m c k j) := by
  simp only [V, hostOps0, hostOps0_1, hostOps0_2, List.flatten_cons, List.flatten_nil, List.append_nil, List.cons_append, List.nil_append]
  entry_read
  pointwise

/-- Their block. -/
theorem blk6 (t : Fin cfg0.N) (j : Fin 30) (k : Fin 160) : @Eq EReal (iblk m c 6 t (ix2 j k)) (w1 m c k j) := by
  rw [← v8_apply]
  blk_simp [iblk]
  refine congrArg (V m c main_v8) ?_
  blk_ext [index6]

/-- A layer's weights, transposed. -/
theorem v11_apply (o : Fin 160) (k : Fin 30) : @Eq EReal (V m c main_v11 (ix2 o k)) (w2 m c k o) := by
  simp only [V, hostOps0, hostOps0_1, hostOps0_2, List.flatten_cons, List.flatten_nil, List.append_nil, List.cons_append, List.nil_append]
  entry_read
  pointwise

/-- Their block. -/
theorem blk9 (t : Fin cfg0.N) (o : Fin 160) (k : Fin 30) : @Eq EReal (iblk m c 9 t (ix2 o k)) (w2 m c k o) := by
  rw [← v11_apply]
  blk_simp [iblk]
  refine congrArg (V m c main_v11) ?_
  blk_ext [index9]

end Cert.KernelIdeal.Val

end
-- ==== Proof.Val.KState.lean ====
module

public import proofs.«01_k».proof.Proof.Val.KTile
public import proofs.«01_k».proof.Proof.Val.KBlk

@[expose] public section

set_option maxRecDepth 16384

noncomputable section

/-! What the scratch buffers hold after each grid point: the ring, the scale and bias, the sum of the activation over the rows
computed so far, and its greatest magnitude over them. -/

namespace Cert.KernelIdeal.Val

open Idealize.ShloMosaic Idealize.ShloMosaic.TcCoe
open Cert.KernelIdeal Cert.KernelIdeal.Gen Cert.KernelIdeal.Run

/-- The accumulating sum. -/
theorem pay5_apply (a : FVec Ideal S160x256 .f32) (p2 : Vec Ideal S1x3x128x256 .bf16) (w2 : Vec Ideal S1x160x384 .i8) (S B P : Vec Ideal S160x256 .f32) (o : Fin 160) (b : Fin 256) :
    @Eq EReal (k0_pay5 a p2 w2 S B P (ix2 o b)) (P (ix2 o b) + k0_pay3 a p2 w2 S B (ix2 o b)) := by
  unfold k0_pay5
  pointwise

/-- The accumulating maximum. -/
theorem pay6_apply (a : FVec Ideal S160x256 .f32) (p2 : Vec Ideal S1x3x128x256 .bf16) (w2 : Vec Ideal S1x160x384 .i8) (S B P : Vec Ideal S160x256 .f32) (o : Fin 160) (b : Fin 256) :
    @Eq EReal (k0_pay6 a p2 w2 S B P (ix2 o b)) (max (P (ix2 o b)) (max (k0_pay3 a p2 w2 S B (ix2 o b)) (-(k0_pay3 a p2 w2 S B (ix2 o b) : EReal)))) := by
  unfold k0_pay6
  pointwise
  rfl

/-- The scale, broadcast. -/
theorem pay9_apply (X3 : Vec Ideal S1x256 .f32) (X4 X5 : Vec Ideal S160x1 .f32) (o : Fin 160) (b : Fin 256) :
    @Eq EReal (k0_pay9 X3 X4 X5 (ix2 o b)) (X3 (ix2 0 b) * X4 (ix2 o 0) * X5 (ix2 o 0)) := by
  unfold k0_pay9
  pointwise

/-- The bias, broadcast. -/
theorem pay10_apply (X6 : Vec Ideal S160x1 .f32) (o : Fin 160) (b : Fin 256) :
    @Eq EReal (k0_pay10 X6 (ix2 o b)) (X6 (ix2 o 0)) := by
  unfold k0_pay10
  pointwise

/-- The sum starts at zero. -/
theorem pay11_apply (y : S160x256.Idx) : @Eq EReal (k0_pay11 (F := Ideal) y) 0 := by
  unfold k0_pay11
  pointwise
  try simp [Ideal.ofBits, Ideal.ieee]

/-- The maximum starts at zero. -/
theorem pay12_apply (y : S160x256.Idx) : @Eq EReal (k0_pay12 (F := Ideal) y) 0 := by
  unfold k0_pay12
  pointwise
  try simp [Ideal.ofBits, Ideal.ieee]

/-- `M` is the greatest magnitude of `f` over the rows before `r` and the columns of row `r` before `n`, or zero if there is none. -/
def MaxOf (M : EReal) (f : ℕ → ℕ → EReal) (r n : ℕ) : Prop :=
  (∀ p q, (p < r ∧ q < 40) ∨ (p = r ∧ q < n) → max (f p q) (-(f p q)) ≤ M)
    ∧ (M = 0 ∨ ∃ p q, ((p < r ∧ q < 40) ∨ (p = r ∧ q < n)) ∧ M = max (f p q) (-(f p q)))

/-- One more column. -/
theorem MaxOf.step {M : EReal} {f : ℕ → ℕ → EReal} {r n : ℕ} (h : MaxOf M f r n) : MaxOf (max M (max (f r n) (-(f r n)))) f r (n + 1) := by
  refine ⟨fun p q hpq => ?_, ?_⟩
  · by_cases e : p = r ∧ q = n
    · obtain ⟨rfl, rfl⟩ := e
      exact le_max_right _ _
    · exact (h.1 p q (by omega)).trans (le_max_left _ _)
  · rcases max_choice M (max (f r n) (-(f r n))) with e | e
    · rw [e]
      rcases h.2 with h2 | ⟨p, q, hpq, h2⟩
      · exact .inl h2
      · exact .inr ⟨p, q, by omega, h2⟩
    · rw [e]
      exact .inr ⟨r, n, .inr ⟨rfl, Nat.lt_succ_self n⟩, rfl⟩

/-- A whole row. -/
theorem MaxOf.row {M : EReal} {f : ℕ → ℕ → EReal} {r : ℕ} (h : MaxOf M f r 40) : MaxOf M f (r + 1) 0 := by
  refine ⟨fun p q hpq => h.1 p q (by omega), ?_⟩
  rcases h.2 with h2 | ⟨p, q, hpq, h2⟩
  · exact .inl h2
  · exact .inr ⟨p, q, by omega, h2⟩

section
variable (i : grid0.Coords) (h4 : k0_cond4 i = 1#1) (Wv : Vec Ideal S3x160x384 .i8) (R : Ring Ideal) (S B : Tile Ideal)
  (f : ℕ → ℕ → EReal) (r : ℕ) (o : Fin 160) (b : Fin 256)
  (ht : ∀ k : Fin k0_t2_loop.trips, @Eq EReal (k0_pay3 (acc2 i h4 Wv R k) (patch i h4 R k 2) (wrow Wv 2) S B (ix2 o b)) (f r k.val))
include ht

/-- The running sum over the columns of a row. -/
theorem sumK_eq (P : Tile Ideal) (n : ℕ) (hn : n ≤ 40) : @Eq EReal (sumK i h4 Wv R S B P n (ix2 o b)) (P (ix2 o b) + ∑ q ∈ Finset.range n, f r q) := by
  induction n with
  | zero => exact (add_zero _).symm
  | succ n ih =>
    rw [sumK, dif_pos (show n < k0_t2_loop.trips by rw [trips2]; omega), pay5_apply, ih (by omega), ht, Finset.sum_range_succ, ← add_assoc]

/-- The running maximum over the columns of a row. -/
theorem maxK_eq (M : Tile Ideal) (hM : MaxOf (M (ix2 o b)) f r 0) (n : ℕ) (hn : n ≤ 40) : MaxOf (maxK i h4 Wv R S B M n (ix2 o b)) f r n := by
  induction n with
  | zero => exact hM
  | succ n ih =>
    rw [maxK, dif_pos (show n < k0_t2_loop.trips by rw [trips2]; omega)]
    have h := (ih (by omega)).step
    have e := pay6_apply (acc2 i h4 Wv R ⟨n, by rw [trips2]; omega⟩) (patch i h4 R ⟨n, by rw [trips2]; omega⟩ 2) (wrow Wv 2) S B (maxK i h4 Wv R S B M n) o b
    rw [ht] at e
    exact e.symm ▸ h
end

/-- The grid has one axis. -/
theorem coord : ∀ t : Fin cfg0.N, ((grid0.coords t) 0).val = t.val := (by decide +kernel : ∀ t : Fin grid0.N, _)

variable (m : (ℓ : Loc nD τ sig) → Buf (Elt Ideal) ℓ) (c : Dev nD)

/-- The activation at a row and a column, zero outside the image. -/
def actN (o : Fin 160) (b : Fin 256) (p q : ℕ) : EReal :=
  if h : p < 32 ∧ q < 40 then Spec.act (X m c) (W m c) (xs m c) (ws m c) (bs m c) (bb m c) b ⟨p, h.1⟩ ⟨q, h.2⟩ o else 0

/-- The scratch buffers after point `n`. -/
structure SInv (n : ℕ) (s : St Ideal) : Prop where
  /-- the ring -/
  ring : RInv (X m c) n s.ring
  /-- the scale -/
  sc : ∀ (o : Fin 160) (b : Fin 256), @Eq EReal (s.sc (ix2 o b)) (xs m c b * ws m c o * bs m c o)
  /-- the bias -/
  bi : ∀ (o : Fin 160) (b : Fin 256), @Eq EReal (s.bi (ix2 o b)) (bb m c o)
  /-- the sum of the rows computed -/
  sum : ∀ (o : Fin 160) (b : Fin 256), @Eq EReal (s.sum (ix2 o b)) (∑ p ∈ Finset.range n, ∑ q ∈ Finset.range 40, actN m c o b p q)
  /-- their greatest magnitude -/
  mx : ∀ (o : Fin 160) (b : Fin 256), MaxOf (s.mx (ix2 o b)) (actN m c o b) n 0

/-- The affine map's factors are reals. -/
structure Fine : Prop where
  /-- the images' scales -/
  xs : ∀ b, IsReal (xs m c b)
  /-- the weights' scales -/
  ws : ∀ o, IsReal (ws m c o)
  /-- the normalisation's scale -/
  bs : ∀ o, IsReal (bs m c o)
  /-- the normalisation's bias -/
  bb : ∀ o, IsReal (bb m c o)

variable (hf : Fine m c)
include hf

/-- A tile of row `r`, from the scratch buffers. -/
theorem tile_st (r : ℕ) (hr : r < 32) (i : grid0.Coords) (h4 : k0_cond4 i = 1#1) (hi : (i 0).val = r + 1) (R : Ring Ideal) (hR : RInv (X m c) (r + 1) R)
    (S B : Tile Ideal) (hS : ∀ (o : Fin 160) (b : Fin 256), @Eq EReal (S (ix2 o b)) (xs m c b * ws m c o * bs m c o))
    (hB : ∀ (o : Fin 160) (b : Fin 256), @Eq EReal (B (ix2 o b)) (bb m c o)) (t : Fin cfg0.N)
    (o : Fin 160) (b : Fin 256) (k : Fin k0_t2_loop.trips) :
    @Eq EReal (k0_pay3 (acc2 i h4 (iblk m c 1 t) R k) (patch i h4 R k 2) (wrow (iblk m c 1 t) 2) S B (ix2 o b)) (actN m c o b r k.val) := by
  unfold actN
  rw [dif_pos ⟨hr, trip_lt k⟩]
  exact tile_eq (X m c) (W m c) (xs m c) (ws m c) (bs m c) (bb m c) hf.xs hf.ws hf.bs hf.bb ⟨r, hr⟩ i h4 R hR hi (iblk m c 1 t) (blk1 m c t) S B hS hB k o b

/-- Computing a row from a ring that holds its neighbours. -/
theorem inv_accum (r : ℕ) (hr : r < 32) (i : grid0.Coords) (h4 : k0_cond4 i = 1#1) (hi : (i 0).val = r + 1) (R : Ring Ideal) (hR : RInv (X m c) (r + 1) R)
    (t : Fin cfg0.N) (s : St Ideal) (hs : SInv m c r s) : SInv m c (r + 1) (accum i h4 (iblk m c 1 t) R s) where
  ring := hR
  sc := hs.sc
  bi := hs.bi
  sum o b := by
    show @Eq EReal (sumK i h4 (iblk m c 1 t) R s.sc s.bi s.sum k0_t2_loop.trips (ix2 o b)) _
    rw [trips2, sumK_eq i h4 (iblk m c 1 t) R s.sc s.bi (actN m c o b) r o b (tile_st m c hf r hr i h4 hi R hR s.sc s.bi hs.sc hs.bi t o b) s.sum 40 le_rfl,
      hs.sum]
    exact (Finset.sum_range_succ (fun p => ∑ q ∈ Finset.range 40, actN m c o b p q) r).symm
  mx o b := by
    show MaxOf (maxK i h4 (iblk m c 1 t) R s.sc s.bi s.mx k0_t2_loop.trips (ix2 o b)) _ _ _
    rw [trips2]
    exact (maxK_eq i h4 (iblk m c 1 t) R s.sc s.bi (actN m c o b) r o b (tile_st m c hf r hr i h4 hi R hR s.sc s.bi hs.sc hs.bi t o b) s.mx (hs.mx o b) 40 le_rfl).row

/-- The scratch buffers after every point. -/
theorem inv_all (n : ℕ) (hn : n < cfg0.N) : SInv m c n (st m c n hn) := by
  have hN : cfg0.N = 33 := N_0
  induction n with
  | zero =>
    rw [show st m c 0 hn = _ from rfl, st]
    refine ⟨inv_first (X m c) _ _ _ (coord ⟨0, hn⟩) (fun j q b => blk0 m c ⟨0, hn⟩ j q b), fun o b => ?_, fun o b => ?_, fun o b => ?_, fun o b => ?_⟩
    · refine (pay9_apply _ _ _ o b).trans ?_
      rw [blk2, blk3, blk4]
    · exact (pay10_apply (iblk m c 5 ⟨0, hn⟩) o b).trans (blk5 m c ⟨0, hn⟩ o)
    · exact (pay11_apply (ix2 o b)).trans (Finset.sum_range_zero _).symm
    · exact ⟨fun p q h => absurd h (by omega), .inl (pay12_apply (ix2 o b))⟩
  | succ n ih =>
    have hs := ih (Nat.lt_of_succ_lt hn)
    by_cases h : n + 1 < 32
    · rw [st, dif_pos h]
      exact inv_accum m c hf n (by omega) _ _ (coord ⟨n + 1, hn⟩) _
        (inv_load (X m c) n h _ _ _ _ hs.ring (coord ⟨n + 1, hn⟩) (fun j q b => (blk0 m c ⟨n + 1, hn⟩ j q b).trans
          (congrArg (fun z : Fin 32 => X m c b z j q) (Fin.ext (by show min (n + 1) 31 = n + 1; omega))))) _ _ hs
    · have e : n = 31 := by omega
      subst e
      rw [st, dif_neg h]
      exact inv_accum m c hf 31 (by omega) _ _ (coord ⟨32, hn⟩) _ (inv_last (X m c) _ _ hs.ring (coord ⟨32, hn⟩)) _ _ hs

end Cert.KernelIdeal.Val

end
-- ==== Proof.Val.KPay.lean ====
module

public import proofs.«01_k».proof.Proof.PI.Tail
public import Idealize.ShloMosaic.Lib.Pointwise
public import Idealize.ShloMosaic.Lib.VecWindow
public import proofs.«01_k».proof.Proof.Val.Spec

@[expose] public section

set_option maxRecDepth 16384

noncomputable section

/-! What the last grid point computes from the running sum and the running maximum, as the mathematics of `Spec`. -/

namespace Cert.KernelIdeal.Val

open Idealize.ShloMosaic Idealize.ShloMosaic.TcCoe
open Cert.KernelIdeal Cert.KernelIdeal.Gen Cert.KernelIdeal.Run

variable (P : Vec Ideal S160x256 .f32) (X7 : Vec Ideal S30x160 .fp8e4m3) (X8 X9 : Vec Ideal S30x1 .f32) (X10 : Vec Ideal S160x30 .fp8e4m3)
  (X11 X12 : Vec Ideal S160x1 .f32)

/-- The means of an image, from the running sum. -/
def mn (b : Fin 256) (k : Fin 160) : EReal := P (ix2 k b) * ((1 / 1280 : ℝ) : EReal)

/-- The sum times the reciprocal of the number of pixels. -/
theorem kp14 (y : S160x256.Idx) : @Eq EReal (k0_pay14 P y) (mn P (y 1) (y 0)) := by
  unfold k0_pay14
  pointwise
  unfold mn
  refine congrArg₂ (fun u v : EReal => u * v) (congrArg P (ix2_eta (n0 := 160) (n1 := 256) y)).symm ?_
  exact IdealRules.named_const.ideal_named_scalar κ "inv_pixels" _ _ rfl

/-- The exponent of the means' scale. -/
theorem kp15 (y : S1x256.Idx) : k0_pay15 P y = Math.kExp (Spec.amax (mn P (y 1))) := by
  unfold k0_pay15
  pointwise
  simp only [kp14]
  rfl

/-- The means' scales. -/
theorem pScale_eq (y : S1x256.Idx) : @Eq EReal (pScale P y) (Spec.scale (mn P (y 1))) := by
  unfold pScale k0_pay19 k0_pay17 k0_pay18
  pointwise
  rw [kp15]
  exact Math.scale_eq _

/-- The means' codes. -/
theorem pCodes_eq (y : S160x256.Idx) : @Eq EReal (pCodes P y) (Spec.code (mn P (y 1)) (y 0)) := by
  unfold pCodes k0_pay16
  pointwise
  rw [kp15, kp14]
  unfold Spec.code Spec.scale
  rw [← Math.inv_eq]
  rfl

/-- The hidden layer of an image. -/
def hd (b : Fin 256) : Fin 30 → EReal :=
  Spec.hid (mn P b) (fun k j => X7 (ix2 j k)) (fun j => X8 (ix2 j 0)) (fun j => X9 (ix2 j 0))

/-- The hidden layer. -/
theorem hid_at (j : Fin 30) (b : Fin 256) : @Eq EReal (hid P X7 X8 X9 (ix2 j b)) (hd P X7 X8 X9 b j) := by
  have hs : ∀ b : Fin 256, @Eq EReal (k0_pay19 (F := Ideal) (k0_pay17 P) k0_pay18 (ix2 0 b)) (Spec.scale (mn P b)) := fun b => pScale_eq P (ix2 0 b)
  have hc : ∀ (k : Fin 160) (b : Fin 256), @Eq EReal (k0_pay16 P (ix2 k b)) (Spec.code (mn P b) k) := fun k b => pCodes_eq P (ix2 k b)
  unfold hid k0_pay20
  pointwise
  simp only [hs, hc]
  rw [Math.sigmoid_eq]
  unfold hd Spec.hid Spec.silu Spec.dense
  simp only [mul_comm (Spec.code _ _)]

/-- The hidden layer, at any index. -/
theorem hid_eq (y : S30x256.Idx) : @Eq EReal (hid P X7 X8 X9 y) (hd P X7 X8 X9 (y 1) (y 0)) :=
  (congrArg (hid P X7 X8 X9) (ix2_eta (n0 := 30) (n1 := 256) y).symm).trans (hid_at P X7 X8 X9 (y 0) (y 1))

/-- The greatest magnitude of the hidden layer times the reciprocal of the largest code. -/
theorem kp21 (b : Fin 256) : @Eq EReal (k0_pay21 (k0_pay16 P) (k0_pay17 P) k0_pay18 X7 X8 X9 (ix2 0 b))
    (Spec.amax (hd P X7 X8 X9 b) * Ideal.ofBits FTy.f32 991054117#32) := by
  have hh : ∀ (k : Fin 30) (b : Fin 256), @Eq EReal (k0_pay20 (k0_pay16 P) (k0_pay17 P) k0_pay18 X7 X8 X9 (ix2 k b)) (hd P X7 X8 X9 b k) :=
    fun k b => hid_at P X7 X8 X9 k b
  unfold k0_pay21
  pointwise
  simp only [hh]
  rfl

/-- The exponent of the hidden layer's scale. -/
theorem kp24_at (b : Fin 256) : k0_pay24 (hZero P X7 X8 X9) (hExp P X7 X8 X9) (ix2 0 b) = Math.kExp (Spec.amax (hd P X7 X8 X9 b)) := by
  unfold k0_pay24 hZero hExp k0_pay22 k0_pay23
  pointwise
  simp only [kp21]
  rfl

/-- The exponent of the hidden layer's scale, at any index. -/
theorem kp24 (y : S1x256.Idx) : k0_pay24 (hZero P X7 X8 X9) (hExp P X7 X8 X9) y = Math.kExp (Spec.amax (hd P X7 X8 X9 (y 1))) := by
  have e : y = ix2 (n0 := 1) (n1 := 256) 0 (y 1) := by
    refine (ix2_eta (n0 := 1) (n1 := 256) y).symm.trans ?_
    exact congrArg (fun z : Fin 1 => ix2 (n0 := 1) (n1 := 256) z (y 1)) (Subsingleton.elim (α := Fin 1) _ _)
  exact (congrArg (k0_pay24 (hZero P X7 X8 X9) (hExp P X7 X8 X9)) e).trans (kp24_at P X7 X8 X9 (y 1))

/-- The hidden layer's scales. -/
theorem hScale_eq (y : S1x256.Idx) : @Eq EReal (hScale P X7 X8 X9 y) (Spec.scale (hd P X7 X8 X9 (y 1))) := by
  unfold hScale k0_pay26
  pointwise
  rw [kp24]
  exact Math.scale_eq _

/-- The hidden layer's codes. -/
theorem hCodes_eq (y : S30x256.Idx) : @Eq EReal (hCodes P X7 X8 X9 y) (Spec.code (hd P X7 X8 X9 (y 1)) (y 0)) := by
  unfold hCodes k0_pay25
  pointwise
  rw [kp24, hid_eq]
  unfold Spec.code Spec.scale
  rw [← Math.inv_eq]
  rfl

/-- The gate of an image. -/
def gt (b : Fin 256) : Fin 160 → EReal :=
  Spec.gate (mn P b) (fun k j => X7 (ix2 j k)) (fun j => X8 (ix2 j 0)) (fun j => X9 (ix2 j 0)) (fun k o => X10 (ix2 o k))
    (fun o => X11 (ix2 o 0)) (fun o => X12 (ix2 o 0))

/-- The gate. -/
theorem gate_at (o : Fin 160) (b : Fin 256) : @Eq EReal (gate P X7 X8 X9 X10 X11 X12 (ix2 o b)) (gt P X7 X8 X9 X10 X11 X12 b o) := by
  have hs : ∀ b : Fin 256, @Eq EReal (k0_pay26 (F := Ideal) (hZero P X7 X8 X9) (hExp P X7 X8 X9) (ix2 0 b)) (Spec.scale (hd P X7 X8 X9 b)) :=
    fun b => hScale_eq P X7 X8 X9 (ix2 0 b)
  have hc : ∀ (k : Fin 30) (b : Fin 256), @Eq EReal (k0_pay25 (hid P X7 X8 X9) (hZero P X7 X8 X9) (hExp P X7 X8 X9) (ix2 k b)) (Spec.code (hd P X7 X8 X9 b) k) :=
    fun k b => hCodes_eq P X7 X8 X9 (ix2 k b)
  unfold gate k0_pay27
  pointwise
  simp only [hs, hc]
  rw [Math.sigmoid_eq]
  unfold gt Spec.gate Spec.dense
  simp only [mul_comm (Spec.code _ _)]
  rfl

/-- The gate, at any index. -/
theorem gate_eq (y : S160x256.Idx) : @Eq EReal (gate P X7 X8 X9 X10 X11 X12 y) (gt P X7 X8 X9 X10 X11 X12 (y 1) (y 0)) :=
  (congrArg (gate P X7 X8 X9 X10 X11 X12) (ix2_eta (n0 := 160) (n1 := 256) y).symm).trans (gate_at P X7 X8 X9 X10 X11 X12 (y 0) (y 1))

/-- The 8-bit result's scale, from the greatest product of gate and running maximum. -/
theorem yScale_eq (M : Vec Ideal S160x256 .f32) : @Eq EReal (yScale P X7 X8 X9 X10 X11 X12 M)
    (Spec.yscale (Finset.univ.sup fun x : Fin 160 × Fin 256 => gt P X7 X8 X9 X10 X11 X12 x.2 x.1 * M (ix2 x.1 x.2))) := by
  unfold yScale k0_pay7
  pointwise
  simp only [gate_eq]
  rw [Spec.fold_max_eq]
  rfl

end Cert.KernelIdeal.Val

end
-- ==== Proof.Val.KTop.lean ====
module

public import proofs.«01_k».proof.Proof.Val.Spec

@[expose] public section

noncomputable section

/-! The greatest magnitude of the gated activation is the greatest product of a gate and its channel's greatest magnitude. -/

namespace Cert.Spec

open Idealize.ShloMosaic

/-- A logistic value is nonnegative. -/
theorem logistic_nonneg (z : EReal) : 0 ≤ Ideal.logistic z := by
  induction z using EReal.rec with
  | bot => rw [Ideal.logistic_bot]
  | coe r =>
    rw [Ideal.logistic_coe]
    exact EReal.coe_nonneg.mpr (inv_nonneg.mpr (add_pos one_pos (Real.exp_pos _)).le)
  | top => rw [Ideal.logistic_top]; exact zero_le_one

/-- The magnitude of a product with a nonnegative factor. -/
theorem mag_mul (a g : EReal) (hg : 0 ≤ g) : max (a * g) (-(a * g)) = g * max a (-a) := by
  have h : Monotone fun x : EReal => g * x := fun x y hxy => mul_le_mul_of_nonneg_left hxy hg
  have e := h.map_max (a := a) (b := -a)
  rw [show g * max a (-a) = max (g * a) (g * -a) from e, mul_comm a g, mul_neg]

/-- The greatest magnitude, gathered by channel and image. -/
theorem top_eq (a : Fin 256 → Fin 32 → Fin 40 → Fin 160 → EReal) (g : Fin 256 → Fin 160 → EReal) (hg : ∀ b o, 0 ≤ g b o) (M : Fin 160 → Fin 256 → EReal)
    (h1 : ∀ o b r w, max (a b r w o) (-(a b r w o)) ≤ M o b) (h2 : ∀ o b, M o b = 0 ∨ ∃ r w, M o b = max (a b r w o) (-(a b r w o))) :
    (Finset.univ.sup fun x : Fin 160 × Fin 256 => g x.2 x.1 * M x.1 x.2) = top a g := by
  unfold top
  refine le_antisymm (Finset.sup_le fun x _ => ?_) (Finset.sup_le fun x _ => ?_)
  · obtain ⟨o, b⟩ := x
    rcases h2 o b with e | ⟨r, w, e⟩
    · refine le_trans ?_ (Finset.le_sup (f := fun x : Fin 256 × Fin 32 × Fin 40 × Fin 160 =>
        max (a x.1 x.2.1 x.2.2.1 x.2.2.2 * g x.1 x.2.2.2) (-(a x.1 x.2.1 x.2.2.1 x.2.2.2 * g x.1 x.2.2.2))) (Finset.mem_univ (b, 0, 0, o)))
      show g b o * M o b ≤ _
      rw [e, mul_zero]
      show 0 ≤ max (a b 0 0 o * g b o) (-(a b 0 0 o * g b o))
      rcases le_total 0 (a b 0 0 o * g b o) with h | h
      · exact h.trans (le_max_left _ _)
      · exact (EReal.neg_nonneg.mpr h).trans (le_max_right _ _)
    · refine le_trans ?_ (Finset.le_sup (f := fun x : Fin 256 × Fin 32 × Fin 40 × Fin 160 =>
        max (a x.1 x.2.1 x.2.2.1 x.2.2.2 * g x.1 x.2.2.2) (-(a x.1 x.2.1 x.2.2.1 x.2.2.2 * g x.1 x.2.2.2))) (Finset.mem_univ (b, r, w, o)))
      show g b o * M o b ≤ max (a b r w o * g b o) (-(a b r w o * g b o))
      rw [e, mag_mul _ _ (hg b o)]
  · obtain ⟨b, r, w, o⟩ := x
    refine le_trans ?_ (Finset.le_sup (f := fun x : Fin 160 × Fin 256 => g x.2 x.1 * M x.1 x.2) (Finset.mem_univ (o, b)))
    show max (a b r w o * g b o) (-(a b r w o * g b o)) ≤ g b o * M o b
    rw [mag_mul _ _ (hg b o)]
    exact mul_le_mul_of_nonneg_left (h1 o b r w) (hg b o)

end Cert.Spec

end
-- ==== Proof.Val.KFinal.lean ====
module

public import proofs.«01_k».proof.Proof.Val.KState
public import proofs.«01_k».proof.Proof.Val.KPay
public import proofs.«01_k».proof.Proof.Val.KTop
public import proofs.«01_k».proof.Proof.PI.Leaves
public import Idealize.ShloMosaic.Lib.Pipeline.ValueKit.Geometry

@[expose] public section

set_option maxRecDepth 16384

noncomputable section

/-! The kernel's results, as the mathematics of `Spec` over the arguments. -/

namespace Cert.KernelIdeal.Val

open Idealize.ShloMosaic Idealize.ShloMosaic.TcCoe
open Cert.KernelIdeal Cert.KernelIdeal.Gen Cert.KernelIdeal.Run

/-- Equal inputs, equal hidden layers. -/
theorem hid_congr {p p' : Fin 160 → EReal} {w w' : Fin 160 → Fin 30 → EReal} {s s' t t' : Fin 30 → EReal} (hp : p = p') (hw : w = w') (hs : s = s') (ht : t = t') :
    Spec.hid p w s t = Spec.hid p' w' s' t' := by
  subst hp hw hs ht; rfl

/-- Equal inputs, equal gates. -/
theorem gate_congr {p p' : Fin 160 → EReal} {w w' : Fin 160 → Fin 30 → EReal} {s s' t t' : Fin 30 → EReal} {v v' : Fin 30 → Fin 160 → EReal} {a a' b b' : Fin 160 → EReal}
    (hp : p = p') (hw : w = w') (hs : s = s') (ht : t = t') (hv : v = v') (ha : a = a') (hb : b = b') :
    Spec.gate p w s t v a b = Spec.gate p' w' s' t' v' a' b' := by
  subst hp hw hs ht hv ha hb; rfl

/-- The block of window 12 at each point. -/
theorem index12 : ∀ t : Fin cfg0.N, win0_12.index t = ![t.val - 1, 0, 0, 0] := (by decide +kernel : ∀ t : Fin grid0.N, _)
/-- The block of window 13 at each point. -/
theorem index13 : ∀ t : Fin cfg0.N, win0_13.index t = ![0, 0] := (by decide +kernel : ∀ t : Fin grid0.N, _)
/-- The block of window 14 at each point. -/
theorem index14 : ∀ t : Fin cfg0.N, win0_14.index t = ![0, 0] := (by decide +kernel : ∀ t : Fin grid0.N, _)
/-- The block of window 15 at each point. -/
theorem index15 : ∀ t : Fin cfg0.N, win0_15.index t = ![0, 0] := (by decide +kernel : ∀ t : Fin grid0.N, _)
/-- The block of window 16 at each point. -/
theorem index16 : ∀ t : Fin cfg0.N, win0_16.index t = ![0, 0] := (by decide +kernel : ∀ t : Fin grid0.N, _)
/-- The block of window 17 at each point. -/
theorem index17 : ∀ t : Fin cfg0.N, win0_17.index t = ![0, 0] := (by decide +kernel : ∀ t : Fin grid0.N, _)
/-- The block of window 18 at each point. -/
theorem index18 : ∀ t : Fin cfg0.N, win0_18.index t = ![0, 0] := (by decide +kernel : ∀ t : Fin grid0.N, _)

variable (m : (ℓ : Loc nD τ sig) → Buf (Elt Ideal) ℓ) (c : Dev nD)

/-- The mean activations of an image. -/
@[irreducible] def p (b : Fin 256) : Fin 160 → EReal := fun k => Spec.mean (X m c) (W m c) (xs m c) (ws m c) (bs m c) (bb m c) b k

/-- The gate of an image. -/
@[irreducible] def gg (b : Fin 256) : Fin 160 → EReal := Spec.gate (p m c b) (w1 m c) (s1 m c) (t1 m c) (w2 m c) (s2 m c) (t2 m c)

/-- The hidden layer of an image. -/
@[irreducible] def hh (b : Fin 256) : Fin 30 → EReal := Spec.hid (p m c b) (w1 m c) (s1 m c) (t1 m c)

/-- The sum over rows and columns by number is the sum over the image. -/
theorem sum_act (o : Fin 160) (b : Fin 256) : (∑ i ∈ Finset.range 32, ∑ j ∈ Finset.range 40, actN m c o b i j)
    = ∑ r : Fin 32, ∑ w : Fin 40, Spec.act (X m c) (W m c) (xs m c) (ws m c) (bs m c) (bb m c) b r w o := by
  rw [Finset.sum_range]
  refine Finset.sum_congr rfl fun r _ => ?_
  rw [Finset.sum_range]
  refine Finset.sum_congr rfl fun w _ => ?_
  unfold actN
  rw [dif_pos ⟨r.isLt, w.isLt⟩]

/-- The activation, row by row. -/
@[irreducible] def res12 (y : S32x40x160x256.Idx) : EReal := Spec.act (X m c) (W m c) (xs m c) (ws m c) (bs m c) (bb m c) (y 3) (y 0) (y 1) (y 2)
/-- The gate, channel by image. -/
@[irreducible] def res13 (y : S160x256.Idx) : EReal := gg m c (y 1) (y 0)
/-- The means' codes. -/
@[irreducible] def res14 (y : S160x256.Idx) : EReal := Spec.code (p m c (y 1)) (y 0)
/-- The means' scales. -/
@[irreducible] def res15 (y : S1x256.Idx) : EReal := Spec.scale (p m c (y 1))
/-- The hidden layer's codes. -/
@[irreducible] def res16 (y : S30x256.Idx) : EReal := Spec.code (hh m c (y 1)) (y 0)
/-- The hidden layer's scales. -/
@[irreducible] def res17 (y : S1x256.Idx) : EReal := Spec.scale (hh m c (y 1))
/-- The 8-bit result's scale. -/
@[irreducible] def res18 (y : S1x1.Idx) : EReal := Spec.yscale (Spec.top (Spec.act (X m c) (W m c) (xs m c) (ws m c) (bs m c) (bb m c)) (gg m c))

variable (hf : Fine m c)
include hf

section
variable (t : Fin cfg0.N) (ht : t.val = 32)
include ht

/-- The mean, from the sum left by the last point. -/
theorem mn_eq (b : Fin 256) : mn (st m c t.val t.isLt).sum b = p m c b := by
  funext k
  unfold mn p Spec.mean
  have h := (inv_all m c hf t.val t.isLt).sum k b
  rw [show Finset.range t.val = Finset.range 32 from congrArg _ ht, sum_act] at h
  exact congrArg (fun u : EReal => u * ((1 / 1280 : ℝ) : EReal)) h

/-- The hidden layer after the last point. -/
theorem hd_eq (b : Fin 256) : hd (st m c t.val t.isLt).sum (iblk m c 6 t) (iblk m c 7 t) (iblk m c 8 t) b = hh m c b := by
  unfold hd hh
  exact hid_congr (mn_eq m c hf t ht b) (funext fun k => funext fun j => blk6 m c t j k) (funext fun j => blk7 m c t j) (funext fun j => blk8 m c t j)

/-- The gate after the last point. -/
theorem gt_eq (b : Fin 256) : gt (st m c t.val t.isLt).sum (iblk m c 6 t) (iblk m c 7 t) (iblk m c 8 t) (iblk m c 9 t) (iblk m c 10 t) (iblk m c 11 t) b = gg m c b := by
  unfold gt gg
  exact gate_congr (mn_eq m c hf t ht b) (funext fun k => funext fun j => blk6 m c t j k) (funext fun j => blk7 m c t j) (funext fun j => blk8 m c t j)
    (funext fun k => funext fun o => blk9 m c t o k) (funext fun j => blk10 m c t j) (funext fun j => blk11 m c t j)

/-- The greatest magnitude after the last point. -/
theorem topK_eq : (Finset.univ.sup fun x : Fin 160 × Fin 256 => gg m c x.2 x.1 * ((st m c t.val t.isLt).mx (ix2 x.1 x.2) : EReal))
    = Spec.top (Spec.act (X m c) (W m c) (xs m c) (ws m c) (bs m c) (bb m c)) (gg m c) := by
  refine Spec.top_eq _ (gg m c) (fun b o => ?_) (fun o b => (st m c t.val t.isLt).mx (ix2 o b)) (fun o b r w => ?_) (fun o b => ?_)
  · unfold gg Spec.gate
    exact Spec.logistic_nonneg _
  · have h := ((inv_all m c hf t.val t.isLt).mx o b).1 r.val w.val (.inl ⟨by have := r.isLt; omega, w.isLt⟩)
    unfold actN at h
    rw [dif_pos ⟨r.isLt, w.isLt⟩] at h
    exact h
  · rcases ((inv_all m c hf t.val t.isLt).mx o b).2 with h | ⟨i, j, hij, h⟩
    · exact .inl h
    · have hb : i < 32 ∧ j < 40 := by omega
      unfold actN at h
      rw [dif_pos hb] at h
      exact .inr ⟨⟨i, hb.1⟩, ⟨j, hb.2⟩, h⟩

/-- The last point leaves result window 13 at its value. -/
theorem left13 (y : S160x256.Idx) : @Eq EReal (gate (st m c t.val t.isLt).sum (iblk m c 6 t) (iblk m c 7 t) (iblk m c 8 t) (iblk m c 9 t) (iblk m c 10 t) (iblk m c 11 t) y) (res13 m c y) := by
  unfold res13
  exact (gate_eq _ _ _ _ _ _ _ y).trans (congrFun (gt_eq m c hf t ht (y 1)) (y 0))

/-- The last point leaves result window 14 at its value. -/
theorem left14 (y : S160x256.Idx) : @Eq EReal (pCodes (st m c t.val t.isLt).sum y) (res14 m c y) := by
  unfold res14
  exact (pCodes_eq _ y).trans (congrArg (fun v => Spec.code v (y 0)) (mn_eq m c hf t ht (y 1)))

/-- The last point leaves result window 15 at its value. -/
theorem left15 (y : S1x256.Idx) : @Eq EReal (pScale (st m c t.val t.isLt).sum y) (res15 m c y) := by
  unfold res15
  exact (pScale_eq _ y).trans (congrArg Spec.scale (mn_eq m c hf t ht (y 1)))

/-- The last point leaves result window 16 at its value. -/
theorem left16 (y : S30x256.Idx) : @Eq EReal (hCodes (st m c t.val t.isLt).sum (iblk m c 6 t) (iblk m c 7 t) (iblk m c 8 t) y) (res16 m c y) := by
  unfold res16
  exact (hCodes_eq _ _ _ _ y).trans (congrArg (fun v => Spec.code v (y 0)) (hd_eq m c hf t ht (y 1)))

/-- The last point leaves result window 17 at its value. -/
theorem left17 (y : S1x256.Idx) : @Eq EReal (hScale (st m c t.val t.isLt).sum (iblk m c 6 t) (iblk m c 7 t) (iblk m c 8 t) y) (res17 m c y) := by
  unfold res17
  exact (hScale_eq _ _ _ _ y).trans (congrArg Spec.scale (hd_eq m c hf t ht (y 1)))

/-- The last point leaves result window 18 at its value. -/
theorem left18 (y : S1x1.Idx) : @Eq EReal (yScale (st m c t.val t.isLt).sum (iblk m c 6 t) (iblk m c 7 t) (iblk m c 8 t) (iblk m c 9 t) (iblk m c 10 t) (iblk m c 11 t) (st m c t.val t.isLt).mx) (res18 m c y) := by
  unfold res18
  rw [yScale_eq, ← topK_eq m c hf t ht]
  simp only [gt_eq m c hf t ht]
end

/-- So the array holds it. -/
theorem final13 : (dats m 0 c).arrAt 13 cfg0.N = (res13 m c : S160x256.Idx → EReal) := by
  refine (dats m 0 c).arrAt_eq_of_covers 13 _ (by decide +kernel) fun t hfl y => ?_
  have ht : t.val = 32 := by
    by_contra h
    rw [noflush13 t h] at hfl
    exact absurd hfl (by decide)
  blk_simp
  rw [after_13]
  refine (left13 m c hf t ht _).trans ?_
  refine congrArg (res13 m c) ?_
  blk_ext [index13]

/-- So the array holds it. -/
theorem final14 : (dats m 0 c).arrAt 14 cfg0.N = (res14 m c : S160x256.Idx → EReal) := by
  refine (dats m 0 c).arrAt_eq_of_covers 14 _ (by decide +kernel) fun t hfl y => ?_
  have ht : t.val = 32 := by
    by_contra h
    rw [noflush14 t h] at hfl
    exact absurd hfl (by decide)
  blk_simp
  rw [after_14]
  refine (left14 m c hf t ht _).trans ?_
  refine congrArg (res14 m c) ?_
  blk_ext [index14]

/-- So the array holds it. -/
theorem final15 : (dats m 0 c).arrAt 15 cfg0.N = (res15 m c : S1x256.Idx → EReal) := by
  refine (dats m 0 c).arrAt_eq_of_covers 15 _ (by decide +kernel) fun t hfl y => ?_
  have ht : t.val = 32 := by
    by_contra h
    rw [noflush15 t h] at hfl
    exact absurd hfl (by decide)
  blk_simp
  rw [after_15]
  refine (left15 m c hf t ht _).trans ?_
  refine congrArg (res15 m c) ?_
  blk_ext [index15]

/-- So the array holds it. -/
theorem final16 : (dats m 0 c).arrAt 16 cfg0.N = (res16 m c : S30x256.Idx → EReal) := by
  refine (dats m 0 c).arrAt_eq_of_covers 16 _ (by decide +kernel) fun t hfl y => ?_
  have ht : t.val = 32 := by
    by_contra h
    rw [noflush16 t h] at hfl
    exact absurd hfl (by decide)
  blk_simp
  rw [after_16]
  refine (left16 m c hf t ht _).trans ?_
  refine congrArg (res16 m c) ?_
  blk_ext [index16]

/-- So the array holds it. -/
theorem final17 : (dats m 0 c).arrAt 17 cfg0.N = (res17 m c : S1x256.Idx → EReal) := by
  refine (dats m 0 c).arrAt_eq_of_covers 17 _ (by decide +kernel) fun t hfl y => ?_
  have ht : t.val = 32 := by
    by_contra h
    rw [noflush17 t h] at hfl
    exact absurd hfl (by decide)
  blk_simp
  rw [after_17]
  refine (left17 m c hf t ht _).trans ?_
  refine congrArg (res17 m c) ?_
  blk_ext [index17]

/-- So the array holds it. -/
theorem final18 : (dats m 0 c).arrAt 18 cfg0.N = (res18 m c : S1x1.Idx → EReal) := by
  refine (dats m 0 c).arrAt_eq_of_covers 18 _ (by decide +kernel) fun t hfl y => ?_
  have ht : t.val = 32 := by
    by_contra h
    rw [noflush18 t h] at hfl
    exact absurd hfl (by decide)
  blk_simp
  rw [after_18]
  exact left18 m c hf t ht ((win0_18.blk t).view.emb y)

end Cert.KernelIdeal.Val

end
-- ==== Proof.Val.KAct.lean ====
module

public import proofs.«01_k».proof.Proof.Val.KFinal

@[expose] public section

set_option maxRecDepth 16384

noncomputable section

/-! The kernel's activation, as the mathematics of `Spec` over the arguments. -/

namespace Cert.KernelIdeal.Val

open Idealize.ShloMosaic Idealize.ShloMosaic.TcCoe
open Cert.KernelIdeal Cert.KernelIdeal.Gen Cert.KernelIdeal.Run

/-- A stored tile is the tile computed, with the two leading axes dropped. -/
theorem pay4_apply (a : FVec Ideal S160x256 .f32) (p2 : Vec Ideal S1x3x128x256 .bf16) (w2 : Vec Ideal S1x160x384 .i8) (S B : Vec Ideal S160x256 .f32)
    (z : S1x1x160x256.Idx) : @Eq EReal (k0_pay4 a p2 w2 S B z) (k0_pay3 a p2 w2 S B (ix2 (z 2) (z 3))) := by
  unfold k0_pay4
  pointwise

variable (m : (ℓ : Loc nD τ sig) → Buf (Elt Ideal) ℓ) (c : Dev nD) (hf : Fine m c)
include hf

/-- A point after the first leaves its row of the activation. -/
theorem left12 (t : Fin cfg0.N) (h0 : t.val ≠ 0) (h4 : k0_cond4 (grid0.coords t) = 1#1) (y : S1x40x160x256.Idx) (z : S32x40x160x256.Idx)
    (z0 : (z 0).val = t.val - 1) (z1 : (z 1).val = (y 1).val) (z2 : (z 2).val = (y 2).val) (z3 : (z 3).val = (y 3).val) :
    @Eq EReal (ablk (grid0.coords t) h4 (iblk m c 1 t) (st m c t.val t.isLt).ring (st m c t.val t.isLt).sc (st m c t.val t.isLt).bi y) (res12 m c z) := by
  have hN : t.val < 33 := lt_of_lt_of_eq t.isLt N_0
  have hs := inv_all m c hf t.val t.isLt
  have e1 : t.val = (t.val - 1) + 1 := by omega
  have hT := tile_eq (X m c) (W m c) (xs m c) (ws m c) (bs m c) (bb m c) hf.xs hf.ws hf.bs hf.bb ⟨t.val - 1, by omega⟩ (grid0.coords t) h4 (st m c t.val t.isLt).ring
    (by have := hs.ring; exact e1 ▸ this) ((coord t).trans e1) (iblk m c 1 t) (blk1 m c t) (st m c t.val t.isLt).sc (st m c t.val t.isLt).bi hs.sc hs.bi (colOf y) (y 2) (y 3)
  unfold ablk res12
  refine Eq.trans ?_ (hT.trans ?_)
  · refine (pay4_apply _ _ _ _ _ _).trans ?_
    have hk := k0_off5_eq (colOf y)
    refine congrArg₂ (fun (u : Fin 160) (v : Fin 256) => k0_pay3 (acc2 (grid0.coords t) h4 (iblk m c 1 t) (st m c t.val t.isLt).ring (colOf y)) (patch (grid0.coords t) h4 (st m c t.val t.isLt).ring (colOf y) 2) (wrow (iblk m c 1 t) 2) (st m c t.val t.isLt).sc (st m c t.val t.isLt).bi (ix2 u v)) (Fin.ext ?_) (Fin.ext ?_)
    · refine (Rect.unitLocal_val y _ 2).trans ?_
      rw [congrFun hk 2]
      exact Nat.sub_zero _
    · refine (Rect.unitLocal_val y _ 3).trans ?_
      rw [congrFun hk 3]
      exact Nat.sub_zero _
  · rw [show z 3 = y 3 from Fin.ext z3, show z 2 = y 2 from Fin.ext z2, show z 0 = (⟨t.val - 1, by omega⟩ : Fin 32) from Fin.ext z0,
      show z 1 = (⟨(colOf y).val, trip_lt (colOf y)⟩ : Fin 40) from Fin.ext z1]

/-- So the array holds it. -/
theorem final12 : (dats m 0 c).arrAt 12 cfg0.N = (res12 m c : S32x40x160x256.Idx → EReal) := by
  refine (dats m 0 c).arrAt_eq_of_covers 12 _ (by decide +kernel) fun t hfl y => ?_
  have ht : t.val ≠ 0 := by
    intro h
    rw [noflush12 t h] at hfl
    exact absurd hfl (by decide)
  blk_simp
  rw [after_12 m c t ((cond4_iff t).2 ht)]
  refine left12 m c hf t ht _ y ((win0_12.blk t).view.emb y) ?_ ?_ ?_ ?_
  all_goals blk_simp [index12]

end Cert.KernelIdeal.Val

end
-- ==== Proof.Val.KRun.lean ====
module

public import proofs.«01_k».proof.Proof.Val.KAct
public import proofs.«01_k».proof.Proof.PI.Run

@[expose] public section

set_option maxRecDepth 16384

noncomputable section

/-! The kernel's run, with its results named. -/

namespace Cert.KernelIdeal.Val

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (g : Dev nD → PrngReg)

/-- Where the affine map's factors are reals, every run ends with the results at their values and the arguments unchanged. -/
theorem run_values (hf : ∀ c, Fine m c) : θ_run defs (onTc (τ := τ) (main (F := Ideal))) ⟨m, fun _ => 0, g⟩ (fun r => ∀ c : Dev nD,
      r.2.mem ((c.tc : Thread nD τ).loc main_v14_0) = (res12 m c : S32x40x160x256.Idx → EReal)
      ∧ r.2.mem ((c.tc : Thread nD τ).loc main_v14_1) = (res13 m c : S160x256.Idx → EReal)
      ∧ r.2.mem ((c.tc : Thread nD τ).loc main_v14_2) = (res14 m c : S160x256.Idx → EReal)
      ∧ r.2.mem ((c.tc : Thread nD τ).loc main_v14_3) = (res15 m c : S1x256.Idx → EReal)
      ∧ r.2.mem ((c.tc : Thread nD τ).loc main_v14_4) = (res16 m c : S30x256.Idx → EReal)
      ∧ r.2.mem ((c.tc : Thread nD τ).loc main_v14_5) = (res17 m c : S1x256.Idx → EReal)
      ∧ r.2.mem ((c.tc : Thread nD τ).loc main_v14_6) = (res18 m c : S1x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h.1 c).1 12).trans (final12 m c (hf c)), ((h.1 c).1 13).trans (final13 m c (hf c)), ((h.1 c).1 14).trans (final14 m c (hf c)), ((h.1 c).1 15).trans (final15 m c (hf c)), ((h.1 c).1 16).trans (final16 m c (hf c)), ((h.1 c).1 17).trans (final17 m c (hf c)), ((h.1 c).1 18).trans (final18 m c (hf c)), h.2 c⟩)
    (θ_run_and (run_main m g) (frame_of m g (dats m) (A_eq m) (run_main m g)))

end Cert.KernelIdeal.Val

end
-- ==== Proof.Val.RPay.lean ====
module

public import proofs.«01_k».proof.Proof.Gen.ReferenceIdeal.Value
public import Idealize.ShloMosaic.Lib.Pointwise
public import proofs.«01_k».proof.Proof.Val.Spec

@[expose] public section

set_option maxRecDepth 16384

noncomputable section

/-! What the operations of the reference's call compute. -/

namespace Cert.ReferenceIdeal.Val

open Idealize.ShloMosaic Idealize.ShloMosaic.TcCoe
open Cert.ReferenceIdeal Cert.ReferenceIdeal.Gen

/-- The means, as loaded. -/
theorem pay8 (P : Vec Ideal S256x160 .f32) (y : S256x160.Idx) : k0_pay8 P y = P y := by
  unfold k0_pay8
  pointwise

/-- The scale of an image's means. -/
theorem pay9 (P : Vec Ideal S256x160 .f32) (y : S256x1.Idx) :
    @Eq EReal (k0_pay9 P y) (Spec.scale fun k : Fin 160 => P (ix2 (y 0) k)) := by
  unfold k0_pay9
  pointwise
  simp only [pay8]
  rfl

/-- The codes of an image's means. -/
theorem pay10 (P : Vec Ideal S256x160 .f32) (y : S256x160.Idx) :
    @Eq EReal (k0_pay10 P y) (Spec.code (fun k : Fin 160 => P (ix2 (y 0) k)) (y 1)) := by
  unfold k0_pay10
  pointwise
  rw [pay8, pay9]
  unfold Spec.code
  exact congrArg (fun v : EReal => min (Ideal.ofBits FTy.f32 1138753536#32) (max (Ideal.ofBits FTy.f32 3286237184#32)
    (v * Ideal.div 1 (Spec.scale fun k : Fin 160 => P (ix2 (y 0) k))))) (congrArg P (ix2_eta (n0 := 256) (n1 := 160) y)).symm

/-- The hidden layer before its bias. -/
theorem pay11 (P0 : Vec Ideal S256x160 .f32) (P1 : Vec Ideal S160x30 .fp8e4m3) (P2 : Vec Ideal S1x30 .f32) (y : S256x30.Idx) :
    @Eq EReal (k0_pay11 P0 P1 P2 y) ((∑ k : Fin 160, Spec.code (fun k : Fin 160 => P0 (ix2 (y 0) k)) k * P1 (ix2 k (y 1)))
      * Spec.scale (fun k : Fin 160 => P0 (ix2 (y 0) k)) * P2 (ix2 0 (y 1))) := by
  unfold k0_pay11
  pointwise
  simp only [pay10, pay9]
  rfl

/-- The hidden layer. -/
theorem pay13 (P0 : Vec Ideal S256x160 .f32) (P1 : Vec Ideal S160x30 .fp8e4m3) (P2 P3 : Vec Ideal S1x30 .f32) (y : S256x30.Idx) :
    @Eq EReal (k0_pay13 (k0_pay11 P0 P1 P2) (k0_pay12 P3) y)
      (Spec.hid (fun k => P0 (ix2 (y 0) k)) (fun k j => P1 (ix2 k j)) (fun j => P2 (ix2 0 j)) (fun j => P3 (ix2 0 j)) (y 1)) := by
  unfold k0_pay13 k0_pay12
  pointwise
  rw [pay11]
  rfl

/-- The scale of an image's hidden layer. -/
theorem pay14 (P0 : Vec Ideal S256x160 .f32) (P1 : Vec Ideal S160x30 .fp8e4m3) (P2 P3 : Vec Ideal S1x30 .f32) (y : S256x1.Idx) :
    @Eq EReal (k0_pay14 (k0_pay11 P0 P1 P2) (k0_pay12 P3) y)
      (Spec.scale (Spec.hid (fun k => P0 (ix2 (y 0) k)) (fun k j => P1 (ix2 k j)) (fun j => P2 (ix2 0 j)) (fun j => P3 (ix2 0 j)))) := by
  unfold k0_pay14
  pointwise
  simp only [pay13]
  rfl

/-- The codes of an image's hidden layer. -/
theorem pay15 (P0 : Vec Ideal S256x160 .f32) (P1 : Vec Ideal S160x30 .fp8e4m3) (P2 P3 : Vec Ideal S1x30 .f32) (y : S256x30.Idx) :
    @Eq EReal (k0_pay15 (k0_pay11 P0 P1 P2) (k0_pay12 P3) y)
      (Spec.code (Spec.hid (fun k => P0 (ix2 (y 0) k)) (fun k j => P1 (ix2 k j)) (fun j => P2 (ix2 0 j)) (fun j => P3 (ix2 0 j))) (y 1)) := by
  unfold k0_pay15
  pointwise
  rw [pay13, pay14]
  rfl

/-- The gate. -/
theorem pay1 (P0 : Vec Ideal S256x160 .f32) (P1 : Vec Ideal S160x30 .fp8e4m3) (P2 P3 : Vec Ideal S1x30 .f32) (P4 : Vec Ideal S30x160 .fp8e4m3)
    (P5 P6 : Vec Ideal S1x160 .f32) (y : S256x160.Idx) :
    @Eq EReal (k0_pay1 (k0_pay16 (k0_pay11 P0 P1 P2) (k0_pay12 P3) P4 P5) (k0_pay17 P6) y)
      (Spec.gate (fun k => P0 (ix2 (y 0) k)) (fun k j => P1 (ix2 k j)) (fun j => P2 (ix2 0 j)) (fun j => P3 (ix2 0 j))
        (fun k j => P4 (ix2 k j)) (fun j => P5 (ix2 0 j)) (fun j => P6 (ix2 0 j)) (y 1)) := by
  unfold k0_pay1 k0_pay16 k0_pay17
  pointwise
  simp only [pay15, pay14]
  rfl

/-- The coordinates of an index of the activation, as a tuple. -/
def tuple : S1x256x32x40x160.Idx ≃ Fin 256 × Fin 32 × Fin 40 × Fin 160 where
  toFun i := (i 1, i 2, i 3, i 4)
  invFun x := ix5 0 x.1 x.2.1 x.2.2.1 x.2.2.2
  left_inv i := by
    have h : (0 : Fin 1) = i 0 := Subsingleton.elim (α := Fin 1) _ _
    exact (congrArg (fun z : Fin 1 => ix5 (n0 := 1) (n1 := 256) (n2 := 32) (n3 := 40) (n4 := 160) z (i 1) (i 2) (i 3) (i 4)) h).trans
      (ix5_eta (n0 := 1) (n1 := 256) (n2 := 32) (n3 := 40) (n4 := 160) i)
  right_inv x := rfl

/-- The scale of the 8-bit result. -/
theorem pay7 (P0 : Vec Ideal S256x160 .f32) (P1 : Vec Ideal S160x30 .fp8e4m3) (P2 P3 : Vec Ideal S1x30 .f32) (P4 : Vec Ideal S30x160 .fp8e4m3)
    (P5 P6 : Vec Ideal S1x160 .f32) (A : Vec Ideal S256x32x40x160 .f32) (y : S1x1.Idx) :
    @Eq EReal (k0_pay7 (k0_pay16 (k0_pay11 P0 P1 P2) (k0_pay12 P3) P4 P5) (k0_pay17 P6) A y)
      (Spec.yscale (Spec.top (fun b r w o => A (ix4 b r w o)) fun b o =>
        Spec.gate (fun k => P0 (ix2 b k)) (fun k j => P1 (ix2 k j)) (fun j => P2 (ix2 0 j)) (fun j => P3 (ix2 0 j))
          (fun k j => P4 (ix2 k j)) (fun j => P5 (ix2 0 j)) (fun j => P6 (ix2 0 j)) o)) := by
  unfold k0_pay7
  pointwise
  simp only [pay1]
  have hu : (Finset.univ.filter fun i => reduces_S1x256x32x40x160_S1.drop i = ix1 0) = (Finset.univ : Finset S1x256x32x40x160.Idx) := by
    ext i
    simp only [Finset.mem_filter, Finset.mem_univ, true_and, iff_true]
    exact funext fun k => by match k with | ⟨0, _⟩ => exact Subsingleton.elim (α := Fin 1) _ _
  rw [hu, Spec.fold_max_eq]
  refine congrArg Spec.yscale ?_
  unfold Spec.top
  rw [Finset.sup_univ_eq_iSup, Finset.sup_univ_eq_iSup]
  exact tuple.iSup_congr fun _ => rfl

end Cert.ReferenceIdeal.Val

end
-- ==== Proof.Val.RHost.lean ====
module

public import proofs.«01_k».proof.Proof.Gen.ReferenceIdeal.Value
public import Idealize.ShloMosaic.Lib.Pointwise
public import Idealize.ShloMosaic.Lib.Claim
public import proofs.«01_k».proof.Proof.Val.Spec

@[expose] public section

set_option maxRecDepth 16384

noncomputable section

/-! What the reference's host operations compute. -/

namespace Cert.ReferenceIdeal.Val

open Idealize.ShloMosaic Idealize.ShloMosaic.TcCoe
open Cert.ReferenceIdeal Cert.ReferenceIdeal.Gen

variable (m : (ℓ : Loc nD τ sig) → Buf (Elt Ideal) ℓ) (c : Dev nD)

/-- The image, by its coordinates. -/
abbrev X (b : Fin 256) (i : Fin 32) (j : Fin 40) (k : Fin 120) : BitVec 8 := m ((c : Thread nD τ).loc main_arg0) (ix4 b i j k)
/-- The convolution's weights. -/
abbrev W (i : Fin 3) (j : Fin 3) (k : Fin 120) (o : Fin 160) : BitVec 8 := m ((c : Thread nD τ).loc main_arg2) (ix4 i j k o)
/-- The images' scales. -/
abbrev xs (b : Fin 256) : EReal := m ((c : Thread nD τ).loc main_arg1) (ix1 b)
/-- The weights' scales. -/
abbrev ws (o : Fin 160) : EReal := m ((c : Thread nD τ).loc main_arg3) (ix1 o)
/-- The normalisation's scale. -/
abbrev bs (o : Fin 160) : EReal := m ((c : Thread nD τ).loc main_arg4) (ix1 o)
/-- The normalisation's bias. -/
abbrev bb (o : Fin 160) : EReal := m ((c : Thread nD τ).loc main_arg5) (ix1 o)

/-- A sign-extended byte converted to a float is the byte's integer. -/
theorem sx (v : BitVec 8) : FloatOps.sitofp (F := Ideal) FTy.f32 (BitVec.signExtend 32 v) = ((v.toInt : ℝ) : EReal) := by
  show (((BitVec.signExtend 32 v).toInt : ℝ) : EReal) = _
  rw [BitVec.toInt_signExtend_of_le (by decide)]

/-- The padding value is zero. -/
theorem sz : FloatOps.sitofp (F := Ideal) FTy.bf16 (0#32) = (0 : EReal) := by
  show (((0#32 : BitVec 32).toInt : ℝ) : EReal) = 0
  simp

set_option maxHeartbeats 1000000 in
/-- The affine map of the convolution. -/
theorem v65_apply (b : Fin 256) (r : Fin 32) (w : Fin 40) (o : Fin 160) :
    @Eq EReal (V m c main_v65 (ix4 b r w o)) (Spec.aff (X m c) (W m c) (xs m c) (ws m c) (bs m c) (bb m c) b r w o) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  simp only [sx, sz]
  unfold Spec.aff
  rw [← mul_assoc (Spec.conv _ _ _ _ _ _)]
  refine congrArg₂ (· + ·) (congrArg₂ (· * ·) (congrArg₂ (· * ·) ?_ rfl) rfl) rfl
  unfold Spec.conv
  simp only [Fin.sum_univ_three, ← add_assoc]
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
  all_goals
    refine Finset.sum_congr rfl fun k _ => congrArg₂ (· * ·) ?_ rfl
    have hr := r.isLt
    have hw := w.isLt
    simp only [Fin.val_zero, Fin.val_one, Fin.val_two, Nat.zero_add]
    repeat' split
    all_goals first
      | exact Spec.px_in (X m c) _ _ _ _ (by first | rfl | (dsimp only; omega) | omega) (by first | rfl | (dsimp only; omega) | omega)
      | exact Spec.px_out (X m c) _ _ (by omega)

/-- The activation from the affine map, as arrays. -/
theorem v72_eq : V m c main_v72 = mulf (F := Ideal) (V m c main_v65) (Host.divf (F := Ideal) (broadcastInDim S256x32x40x160 ![] bcast_S_S256x32x40x160 (constant (F := Ideal) S_ .f32 0x3F800000#32))
   (addf (F := Ideal) (broadcastInDim S256x32x40x160 ![] bcast_S_S256x32x40x160 (constant (F := Ideal) S_ .f32 0x3F800000#32)) (Host.exp (F := Ideal) (Host.negf (F := Ideal) (V m c main_v65))))) := by
  simp only [V, hostOps0, hostOps0_1, hostOps0_2, List.flatten_cons, List.flatten_nil, List.append_nil, List.cons_append, List.nil_append]
  entry_read
  rfl

/-- The transposed activation, as arrays. -/
theorem v76_eq : V m c main_v76 = transpose S32x40x160x256 [1, 2, 3, 0] (V m c main_v72) transposes_S256x32x40x160_S32x40x160x256_1_2_3_0 := by
  simp only [V, hostOps0, hostOps0_1, hostOps0_2, List.flatten_cons, List.flatten_nil, List.append_nil, List.cons_append, List.nil_append]
  entry_read
  rfl

/-- The mean, as arrays. -/
theorem v75_eq : V m c main_v75 = Host.divf (F := Ideal) (Host.reduceAdd (F := Ideal) (V m c main_v72) (constant (F := Ideal) S_ .f32 0x00000000#32) reducesTo_S256x32x40x160_S256x160_d1_2 h_S_)
   (broadcastInDim S256x160 ![] bcast_S_S256x160 (constant (F := Ideal) S_ .f32 0x44A00000#32)) := by
  simp only [V, hostOps0, hostOps0_1, hostOps0_2, List.flatten_cons, List.flatten_nil, List.append_nil, List.cons_append, List.nil_append]
  entry_read
  rfl

/-- The activation. -/
theorem v72_apply (b : Fin 256) (r : Fin 32) (w : Fin 40) (o : Fin 160) :
    @Eq EReal (V m c main_v72 (ix4 b r w o)) (Spec.act (X m c) (W m c) (xs m c) (ws m c) (bs m c) (bb m c) b r w o) := by
  rw [v72_eq]
  pointwise
  rw [v65_apply]
  rfl

/-- The activation with the batch last. -/
theorem v76_apply (r : Fin 32) (w : Fin 40) (o : Fin 160) (b : Fin 256) :
    @Eq EReal (V m c main_v76 (ix4 r w o b)) (Spec.act (X m c) (W m c) (xs m c) (ws m c) (bs m c) (bb m c) b r w o) := by
  rw [v76_eq]
  pointwise
  exact v72_apply m c b r w o

/-- The coordinates a sum over rows and columns keeps. -/
theorem drop_eq (i : S256x32x40x160.Idx) : reducesTo_S256x32x40x160_S256x160_d1_2.drop i = ix2 (n0 := 256) (n1 := 160) (i 0) (i 3) := by
  funext k
  match k with
  | ⟨0, _⟩ => rfl
  | ⟨1, _⟩ => rfl

/-- A sum over the rows and columns of one image and channel. -/
theorem sum_eq (f : S256x32x40x160.Idx → EReal) (b : Fin 256) (o : Fin 160) :
    ∑ i ∈ Finset.univ.filter (fun i => reducesTo_S256x32x40x160_S256x160_d1_2.drop i = ix2 (n0 := 256) (n1 := 160) b o), f i
      = ∑ r : Fin 32, ∑ w : Fin 40, f (ix4 b r w o) := by
  rw [← Fintype.sum_prod_type']
  refine Finset.sum_bij' (fun i _ => ((i 1 : Fin 32), (i 2 : Fin 40))) (fun p _ => ix4 b p.1 p.2 o) ?_ ?_ ?_ ?_ ?_
  · intros; exact Finset.mem_univ _
  · intro p _
    rw [Finset.mem_filter]
    exact ⟨Finset.mem_univ _, drop_eq _⟩
  · intro i hi
    have h := (Finset.mem_filter.mp hi).2
    rw [drop_eq] at h
    have h0 : (i 0 : Fin 256) = b := congrFun h 0
    have h3 : (i 3 : Fin 160) = o := congrFun h 1
    subst h0 h3
    exact ix4_eta i
  · intros; rfl
  · intro i hi
    have h := (Finset.mem_filter.mp hi).2
    rw [drop_eq] at h
    have h0 : (i 0 : Fin 256) = b := congrFun h 0
    have h3 : (i 3 : Fin 160) = o := congrFun h 1
    subst h0 h3
    exact congrArg f (ix4_eta i).symm

/-- The pattern of the number of pixels. -/
theorem pixels_eq : Ideal.ofBits FTy.f32 1151336448#32 = ((1280 : ℝ) : EReal) := by
  simp [Ideal.ofBits, Ideal.ieee, -EReal.coe_mul]; norm_num

/-- The mean of an array over its rows and columns. -/
theorem mean_apply (f : FVec Ideal S256x32x40x160 .f32) (b : Fin 256) (o : Fin 160) :
    Host.divf (F := Ideal) (Host.reduceAdd (F := Ideal) f (constant (F := Ideal) S_ .f32 0x00000000#32) reducesTo_S256x32x40x160_S256x160_d1_2 h_S_)
      (broadcastInDim S256x160 ![] bcast_S_S256x160 (constant (F := Ideal) S_ .f32 0x44A00000#32)) (ix2 b o)
      = (∑ r : Fin 32, ∑ w : Fin 40, f (ix4 b r w o)) * ((1 / 1280 : ℝ) : EReal) := by
  pointwise
  rw [pixels_eq, Ideal.div_coe (by norm_num)]
  unfold Ideal.hostReduceAdd
  rw [zero_add]
  refine congrArg (· * _) (Eq.trans (Finset.sum_congr ?_ fun _ _ => rfl) (sum_eq f b o))
  ext i
  simp only [Finset.mem_filter]

/-- The mean activation. -/
theorem v75_apply (b : Fin 256) (o : Fin 160) :
    @Eq EReal (V m c main_v75 (ix2 b o)) (Spec.mean (X m c) (W m c) (xs m c) (ws m c) (bs m c) (bb m c) b o) := by
  rw [v75_eq, mean_apply]
  unfold Spec.mean
  refine congrArg (· * ((1 / 1280 : ℝ) : EReal)) (Finset.sum_congr rfl fun r _ => Finset.sum_congr rfl fun w _ => ?_)
  exact v72_apply m c b r w o

end Cert.ReferenceIdeal.Val

end
-- ==== Proof.Val.RVal.lean ====
module

public import proofs.«01_k».proof.Proof.Val.RPay
public import proofs.«01_k».proof.Proof.Val.RHost
public import Idealize.ShloMosaic.Lib.Pipeline.ValueKit.Geometry

@[expose] public section

set_option maxRecDepth 16384

noncomputable section

/-! The reference's six results of its custom call, as the mathematics of `Spec` over the arguments. -/

namespace Cert.ReferenceIdeal.Val

open Idealize.ShloMosaic Idealize.ShloMosaic.TcCoe
open Cert.ReferenceIdeal Cert.ReferenceIdeal.Gen

variable (m : (ℓ : Loc nD τ sig) → Buf (Elt Ideal) ℓ) (c : Dev nD)

/-- The block of window 0 at each point. -/
theorem index0 : ∀ t : Fin cfg0.N, win0_0.index t = ![0, 0, 0, 0] := (by decide +kernel : ∀ t : Fin grid0.N, _)
/-- The block of window 1 at each point. -/
theorem index1 : ∀ t : Fin cfg0.N, win0_1.index t = ![0, 0] := (by decide +kernel : ∀ t : Fin grid0.N, _)
/-- The block of window 2 at each point. -/
theorem index2 : ∀ t : Fin cfg0.N, win0_2.index t = ![0, 0] := (by decide +kernel : ∀ t : Fin grid0.N, _)
/-- The block of window 3 at each point. -/
theorem index3 : ∀ t : Fin cfg0.N, win0_3.index t = ![0, 0] := (by decide +kernel : ∀ t : Fin grid0.N, _)
/-- The block of window 4 at each point. -/
theorem index4 : ∀ t : Fin cfg0.N, win0_4.index t = ![0, 0] := (by decide +kernel : ∀ t : Fin grid0.N, _)
/-- The block of window 5 at each point. -/
theorem index5 : ∀ t : Fin cfg0.N, win0_5.index t = ![0, 0] := (by decide +kernel : ∀ t : Fin grid0.N, _)
/-- The block of window 6 at each point. -/
theorem index6 : ∀ t : Fin cfg0.N, win0_6.index t = ![0, 0] := (by decide +kernel : ∀ t : Fin grid0.N, _)
/-- The block of window 7 at each point. -/
theorem index7 : ∀ t : Fin cfg0.N, win0_7.index t = ![0, 0] := (by decide +kernel : ∀ t : Fin grid0.N, _)
/-- The block of window 8 at each point. -/
theorem index8 : ∀ t : Fin cfg0.N, win0_8.index t = ![0, 0] := (by decide +kernel : ∀ t : Fin grid0.N, _)
/-- The block of window 9 at each point. -/
theorem index9 : ∀ t : Fin cfg0.N, win0_9.index t = ![0, 0] := (by decide +kernel : ∀ t : Fin grid0.N, _)
/-- The block of window 10 at each point. -/
theorem index10 : ∀ t : Fin cfg0.N, win0_10.index t = ![0, 0] := (by decide +kernel : ∀ t : Fin grid0.N, _)
/-- The block of window 11 at each point. -/
theorem index11 : ∀ t : Fin cfg0.N, win0_11.index t = ![0, 0] := (by decide +kernel : ∀ t : Fin grid0.N, _)
/-- The block of window 12 at each point. -/
theorem index12 : ∀ t : Fin cfg0.N, win0_12.index t = ![0, 0] := (by decide +kernel : ∀ t : Fin grid0.N, _)
/-- The block of window 13 at each point. -/
theorem index13 : ∀ t : Fin cfg0.N, win0_13.index t = ![0, 0] := (by decide +kernel : ∀ t : Fin grid0.N, _)

/-- The first layer's weights. -/
abbrev w1 (k : Fin 160) (j : Fin 30) : EReal := m ((c : Thread nD τ).loc main_arg6) (ix2 k j)
/-- Their scales. -/
abbrev s1 (j : Fin 30) : EReal := m ((c : Thread nD τ).loc main_arg7) (ix1 j)
/-- The first layer's bias. -/
abbrev t1 (j : Fin 30) : EReal := m ((c : Thread nD τ).loc main_arg8) (ix1 j)
/-- The second layer's weights. -/
abbrev w2 (k : Fin 30) (j : Fin 160) : EReal := m ((c : Thread nD τ).loc main_arg9) (ix2 k j)
/-- Their scales. -/
abbrev s2 (j : Fin 160) : EReal := m ((c : Thread nD τ).loc main_arg10) (ix1 j)
/-- The second layer's bias. -/
abbrev t2 (j : Fin 160) : EReal := m ((c : Thread nD τ).loc main_arg11) (ix1 j)
/-- The channel means. -/
abbrev p (b : Fin 256) (k : Fin 160) : EReal := Spec.mean (X m c) (W m c) (xs m c) (ws m c) (bs m c) (bb m c) b k

/-- The activation's block. -/
theorem blk0 (t : Fin cfg0.N) (b : Fin 256) (r : Fin 32) (w : Fin 40) (o : Fin 160) : @Eq EReal (iblk m c 0 t (ix4 b r w o)) (Spec.act (X m c) (W m c) (xs m c) (ws m c) (bs m c) (bb m c) b r w o) := by
  rw [← v72_apply]
  blk_simp [iblk]
  refine congrArg (V m c main_v72) ?_
  blk_ext [index0]

/-- The means' block. -/
theorem blk1 (t : Fin cfg0.N) (b : Fin 256) (o : Fin 160) : @Eq EReal (iblk m c 1 t (ix2 b o)) (p m c b o) := by
  rw [p, ← v75_apply]
  blk_simp [iblk]
  refine congrArg (V m c main_v75) ?_
  blk_ext [index1]

/-- The first weights' block. -/
theorem blk2 (t : Fin cfg0.N) (k : Fin 160) (j : Fin 30) : @Eq EReal (iblk m c 2 t (ix2 k j)) (w1 m c k j) := by
  blk_simp [iblk]
  rw [V_main_arg6]
  refine congrArg (m ((c : Thread nD τ).loc main_arg6)) ?_
  blk_ext [index2]

/-- A row vector the host makes of an argument. -/
theorem v77_apply (j : Fin 30) : @Eq EReal (V m c main_v77 (ix2 0 j)) (s1 m c j) := by
  simp only [V, hostOps0, hostOps0_1, hostOps0_2, List.flatten_cons, List.flatten_nil, List.append_nil, List.cons_append, List.nil_append]
  entry_read
  pointwise

/-- Its block. -/
theorem blk3 (t : Fin cfg0.N) (j : Fin 30) : @Eq EReal (iblk m c 3 t (ix2 0 j)) (s1 m c j) := by
  rw [← v77_apply]
  blk_simp [iblk]
  refine congrArg (V m c main_v77) ?_
  blk_ext [index3]

/-- A row vector the host makes of an argument. -/
theorem v78_apply (j : Fin 30) : @Eq EReal (V m c main_v78 (ix2 0 j)) (t1 m c j) := by
  simp only [V, hostOps0, hostOps0_1, hostOps0_2, List.flatten_cons, List.flatten_nil, List.append_nil, List.cons_append, List.nil_append]
  entry_read
  pointwise

/-- Its block. -/
theorem blk4 (t : Fin cfg0.N) (j : Fin 30) : @Eq EReal (iblk m c 4 t (ix2 0 j)) (t1 m c j) := by
  rw [← v78_apply]
  blk_simp [iblk]
  refine congrArg (V m c main_v78) ?_
  blk_ext [index4]

/-- A row vector the host makes of an argument. -/
theorem v79_apply (j : Fin 160) : @Eq EReal (V m c main_v79 (ix2 0 j)) (s2 m c j) := by
  simp only [V, hostOps0, hostOps0_1, hostOps0_2, List.flatten_cons, List.flatten_nil, List.append_nil, List.cons_append, List.nil_append]
  entry_read
  pointwise

/-- Its block. -/
theorem blk6 (t : Fin cfg0.N) (j : Fin 160) : @Eq EReal (iblk m c 6 t (ix2 0 j)) (s2 m c j) := by
  rw [← v79_apply]
  blk_simp [iblk]
  refine congrArg (V m c main_v79) ?_
  blk_ext [index6]

/-- A row vector the host makes of an argument. -/
theorem v80_apply (j : Fin 160) : @Eq EReal (V m c main_v80 (ix2 0 j)) (t2 m c j) := by
  simp only [V, hostOps0, hostOps0_1, hostOps0_2, List.flatten_cons, List.flatten_nil, List.append_nil, List.cons_append, List.nil_append]
  entry_read
  pointwise

/-- Its block. -/
theorem blk7 (t : Fin cfg0.N) (j : Fin 160) : @Eq EReal (iblk m c 7 t (ix2 0 j)) (t2 m c j) := by
  rw [← v80_apply]
  blk_simp [iblk]
  refine congrArg (V m c main_v80) ?_
  blk_ext [index7]

/-- The second weights' block. -/
theorem blk5 (t : Fin cfg0.N) (k : Fin 30) (j : Fin 160) : @Eq EReal (iblk m c 5 t (ix2 k j)) (w2 m c k j) := by
  blk_simp [iblk]
  rw [V_main_arg9]
  refine congrArg (m ((c : Thread nD τ).loc main_arg9)) ?_
  blk_ext [index5]

end Cert.ReferenceIdeal.Val

end
-- ==== Proof.Val.ROut.lean ====
module

public import proofs.«01_k».proof.Proof.Val.RPay
public import Idealize.ShloMosaic.Lib.Pipeline.ValueKit.Geometry
public import Idealize.ShloMosaic.Lib.Pipeline.ValueKit.Acc
public import Idealize.ShloMosaic.Lib.VecWindow

@[expose] public section

set_option maxRecDepth 16384

noncomputable section

/-! What the reference's custom call leaves in each result's block, from the operands' blocks. -/

namespace Cert.ReferenceIdeal.Val

open Idealize.ShloMosaic Idealize.ShloMosaic.TcCoe
open Cert.ReferenceIdeal Cert.ReferenceIdeal.Gen

variable (x0 : Vec Ideal S256x32x40x160 .f32) (x1 : Vec Ideal S256x160 .f32) (x2 : Vec Ideal S160x30 .fp8e4m3) (x3 x4 : Vec Ideal S1x30 .f32)
  (x5 : Vec Ideal S30x160 .fp8e4m3) (x6 x7 : Vec Ideal S1x160 .f32)

/-- A load of a whole operand is the operand. -/
theorem ld0 (x : Vec Ideal S256x160 .f32) : View.ld x r0_0 = x :=
  View.ld_unit_zero (S := S256x160) (by funext a; revert a; decide) _ x

/-- A load of a whole operand is the operand. -/
theorem ld1 (x : Vec Ideal S160x30 .fp8e4m3) : View.ld x r0_1 = x :=
  View.ld_unit_zero (S := S160x30) (by funext a; revert a; decide) _ x

/-- A load of a whole operand is the operand. -/
theorem ld2 (x : Vec Ideal S1x30 .f32) : View.ld x r0_2 = x :=
  View.ld_unit_zero (S := S1x30) (by funext a; revert a; decide) _ x

/-- A load of a whole operand is the operand. -/
theorem ld3 (x : Vec Ideal S30x160 .fp8e4m3) : View.ld x r0_3 = x :=
  View.ld_unit_zero (S := S30x160) (by funext a; revert a; decide) _ x

/-- A load of a whole operand is the operand. -/
theorem ld4 (x : Vec Ideal S1x160 .f32) : View.ld x r0_4 = x :=
  View.ld_unit_zero (S := S1x160) (by funext a; revert a; decide) _ x

/-- The gate. -/
theorem out8 (y : S160x256.Idx) : @Eq EReal (out0_8 x0 x1 x2 x3 x4 x5 x6 x7 y) ((Spec.gate (fun k => x1 (ix2 (y 1) k)) (fun k j => x2 (ix2 k j)) (fun j => x3 (ix2 0 j)) (fun j => x4 (ix2 0 j)) (fun k j => x5 (ix2 k j)) (fun j => x6 (ix2 0 j)) (fun j => x7 (ix2 0 j)) (y 0))) := by
  frame_out
  try simp only [k0_pay18, k0_pay19, k0_pay20, k0_pay21]
  try simp only [ld0, ld1, ld2, ld3, ld4]
  unfold k0_pay2
  pointwise
  rw [pay1]
  rfl

/-- The means' codes. -/
theorem out9 (y : S160x256.Idx) : @Eq EReal (out0_9 x0 x1 x2 x3 x4 x5 x6 x7 y) (Spec.code (fun k : Fin 160 => x1 (ix2 (y 1) k)) (y 0)) := by
  frame_out
  try simp only [k0_pay18, k0_pay19, k0_pay20, k0_pay21]
  try simp only [ld0, ld1, ld2, ld3, ld4]
  unfold k0_pay3
  pointwise
  rw [pay10]
  rfl

/-- The means' scales. -/
theorem out10 (y : S1x256.Idx) : @Eq EReal (out0_10 x0 x1 x2 x3 x4 x5 x6 x7 y) (Spec.scale (fun k : Fin 160 => x1 (ix2 (y 1) k))) := by
  frame_out
  try simp only [k0_pay18, k0_pay19, k0_pay20, k0_pay21]
  try simp only [ld0, ld1, ld2, ld3, ld4]
  unfold k0_pay4
  pointwise
  rw [pay9]
  rfl

/-- The hidden layer's codes. -/
theorem out11 (y : S30x256.Idx) : @Eq EReal (out0_11 x0 x1 x2 x3 x4 x5 x6 x7 y) (Spec.code (Spec.hid (fun k => x1 (ix2 (y 1) k)) (fun k j => x2 (ix2 k j)) (fun j => x3 (ix2 0 j)) (fun j => x4 (ix2 0 j))) (y 0)) := by
  frame_out
  try simp only [k0_pay18, k0_pay19, k0_pay20, k0_pay21]
  try simp only [ld0, ld1, ld2, ld3, ld4]
  unfold k0_pay5
  pointwise
  rw [pay15]
  rfl

/-- The hidden layer's scales. -/
theorem out12 (y : S1x256.Idx) : @Eq EReal (out0_12 x0 x1 x2 x3 x4 x5 x6 x7 y) (Spec.scale (Spec.hid (fun k => x1 (ix2 (y 1) k)) (fun k j => x2 (ix2 k j)) (fun j => x3 (ix2 0 j)) (fun j => x4 (ix2 0 j)))) := by
  frame_out
  try simp only [k0_pay18, k0_pay19, k0_pay20, k0_pay21]
  try simp only [ld0, ld1, ld2, ld3, ld4]
  unfold k0_pay6
  pointwise
  rw [pay14]
  rfl

/-- The 8-bit result's scale. -/
theorem out13 (y : S1x1.Idx) : @Eq EReal (out0_13 x0 x1 x2 x3 x4 x5 x6 x7 y) (Spec.yscale (Spec.top (fun b r w o => x0 (ix4 b r w o)) fun b o =>
        Spec.gate (fun k => x1 (ix2 b k)) (fun k j => x2 (ix2 k j)) (fun j => x3 (ix2 0 j)) (fun j => x4 (ix2 0 j))
          (fun k j => x5 (ix2 k j)) (fun j => x6 (ix2 0 j)) (fun j => x7 (ix2 0 j)) o)) := by
  frame_out
  try simp only [k0_pay18, k0_pay19, k0_pay20, k0_pay21]
  try simp only [ld0, ld1, ld2, ld3, ld4]
  rw [pay7]

end Cert.ReferenceIdeal.Val

end
-- ==== Proof.Val.RFinal.lean ====
module

public import proofs.«01_k».proof.Proof.Val.RVal
public import proofs.«01_k».proof.Proof.Val.ROut
public import Idealize.ShloMosaic.Lib.Pipeline.ValueKit.Geometry

@[expose] public section

set_option maxRecDepth 16384

noncomputable section

/-! The reference's six results of its custom call, as the mathematics of `Spec` over the arguments. -/

namespace Cert.ReferenceIdeal.Val

open Idealize.ShloMosaic Idealize.ShloMosaic.TcCoe
open Cert.ReferenceIdeal Cert.ReferenceIdeal.Gen

variable (m : (ℓ : Loc nD τ sig) → Buf (Elt Ideal) ℓ) (c : Dev nD)

/-- Equal inputs, equal hidden layers. -/
theorem hid_congr {p p' : Fin 160 → EReal} {w w' : Fin 160 → Fin 30 → EReal} {s s' t t' : Fin 30 → EReal} (hp : p = p') (hw : w = w') (hs : s = s') (ht : t = t') :
    Spec.hid p w s t = Spec.hid p' w' s' t' := by
  subst hp hw hs ht; rfl

/-- Equal inputs, equal gates. -/
theorem gate_congr {p p' : Fin 160 → EReal} {w w' : Fin 160 → Fin 30 → EReal} {s s' t t' : Fin 30 → EReal} {v v' : Fin 30 → Fin 160 → EReal} {a a' b b' : Fin 160 → EReal}
    (hp : p = p') (hw : w = w') (hs : s = s') (ht : t = t') (hv : v = v') (ha : a = a') (hb : b = b') (o : Fin 160) :
    Spec.gate p w s t v a b o = Spec.gate p' w' s' t' v' a' b' o := by
  subst hp hw hs ht hv ha hb; rfl

section
variable (t : Fin cfg0.N)
/-- Input window 0's block as a family over the arguments. -/
theorem f0 : (fun b r w o => iblk m c 0 t (ix4 b r w o) : Fin 256 → Fin 32 → Fin 40 → Fin 160 → EReal) = Spec.act (X m c) (W m c) (xs m c) (ws m c) (bs m c) (bb m c) :=
  funext fun b => funext fun r => funext fun w => funext fun o => blk0 m c t b r w o
/-- Input window 1's block as a family over the arguments. -/
theorem f1 (b : Fin 256) : (fun k => iblk m c 1 t (ix2 b k) : Fin 160 → EReal) = p m c b := funext fun k => blk1 m c t b k
/-- Input window 2's block as a family over the arguments. -/
theorem f2 : (fun k j => iblk m c 2 t (ix2 k j) : Fin 160 → Fin 30 → EReal) = w1 m c := funext fun k => funext fun j => blk2 m c t k j
/-- Input window 3's block as a family over the arguments. -/
theorem f3 : (fun j => iblk m c 3 t (ix2 0 j) : Fin 30 → EReal) = s1 m c := funext fun j => blk3 m c t j
/-- Input window 4's block as a family over the arguments. -/
theorem f4 : (fun j => iblk m c 4 t (ix2 0 j) : Fin 30 → EReal) = t1 m c := funext fun j => blk4 m c t j
/-- Input window 5's block as a family over the arguments. -/
theorem f5 : (fun k j => iblk m c 5 t (ix2 k j) : Fin 30 → Fin 160 → EReal) = w2 m c := funext fun k => funext fun j => blk5 m c t k j
/-- Input window 6's block as a family over the arguments. -/
theorem f6 : (fun j => iblk m c 6 t (ix2 0 j) : Fin 160 → EReal) = s2 m c := funext fun j => blk6 m c t j
/-- Input window 7's block as a family over the arguments. -/
theorem f7 : (fun j => iblk m c 7 t (ix2 0 j) : Fin 160 → EReal) = t2 m c := funext fun j => blk7 m c t j
end

/-- The gate, channel by image. -/
@[irreducible] def res8 (y : S160x256.Idx) : EReal := Spec.gate (p m c (y 1)) (w1 m c) (s1 m c) (t1 m c) (w2 m c) (s2 m c) (t2 m c) (y 0)

/-- The body leaves it. -/
theorem left8 (t : Fin cfg0.N) (y : S160x256.Idx) : @Eq EReal (out0_8 (iblk m c 0 t) (iblk m c 1 t) (iblk m c 2 t) (iblk m c 3 t) (iblk m c 4 t) (iblk m c 5 t) (iblk m c 6 t) (iblk m c 7 t) y) (res8 m c y) := by
  unfold res8
  exact (out8 (iblk m c 0 t) (iblk m c 1 t) (iblk m c 2 t) (iblk m c 3 t) (iblk m c 4 t) (iblk m c 5 t) (iblk m c 6 t) (iblk m c 7 t) y).trans ((gate_congr (f1 m c t (y 1)) (f2 m c t) (f3 m c t) (f4 m c t) (f5 m c t) (f6 m c t) (f7 m c t) (y 0)))

/-- So the array holds it. -/
theorem final8 : (dats m 0 c).arrAt 8 cfg0.N = (res8 m c : S160x256.Idx → EReal) := by
  refine (dats m 0 c).arrAt_eq_of_covers 8 _ (by decide +kernel) fun t hf y => ?_
  blk_simp
  rw [after0_8]
  refine (left8 m c t _).trans ?_
  refine congrArg (res8 m c) ?_
  blk_ext [index8]

/-- The means' codes. -/
@[irreducible] def res9 (y : S160x256.Idx) : EReal := Spec.code (p m c (y 1)) (y 0)

/-- The body leaves it. -/
theorem left9 (t : Fin cfg0.N) (y : S160x256.Idx) : @Eq EReal (out0_9 (iblk m c 0 t) (iblk m c 1 t) (iblk m c 2 t) (iblk m c 3 t) (iblk m c 4 t) (iblk m c 5 t) (iblk m c 6 t) (iblk m c 7 t) y) (res9 m c y) := by
  unfold res9
  exact (out9 (iblk m c 0 t) (iblk m c 1 t) (iblk m c 2 t) (iblk m c 3 t) (iblk m c 4 t) (iblk m c 5 t) (iblk m c 6 t) (iblk m c 7 t) y).trans (congrArg (fun v => Spec.code v (y 0)) (f1 m c t (y 1)))

/-- So the array holds it. -/
theorem final9 : (dats m 0 c).arrAt 9 cfg0.N = (res9 m c : S160x256.Idx → EReal) := by
  refine (dats m 0 c).arrAt_eq_of_covers 9 _ (by decide +kernel) fun t hf y => ?_
  blk_simp
  rw [after0_9]
  refine (left9 m c t _).trans ?_
  refine congrArg (res9 m c) ?_
  blk_ext [index9]

/-- The means' scales. -/
@[irreducible] def res10 (y : S1x256.Idx) : EReal := Spec.scale (p m c (y 1))

/-- The body leaves it. -/
theorem left10 (t : Fin cfg0.N) (y : S1x256.Idx) : @Eq EReal (out0_10 (iblk m c 0 t) (iblk m c 1 t) (iblk m c 2 t) (iblk m c 3 t) (iblk m c 4 t) (iblk m c 5 t) (iblk m c 6 t) (iblk m c 7 t) y) (res10 m c y) := by
  unfold res10
  exact (out10 (iblk m c 0 t) (iblk m c 1 t) (iblk m c 2 t) (iblk m c 3 t) (iblk m c 4 t) (iblk m c 5 t) (iblk m c 6 t) (iblk m c 7 t) y).trans (congrArg Spec.scale (f1 m c t (y 1)))

/-- So the array holds it. -/
theorem final10 : (dats m 0 c).arrAt 10 cfg0.N = (res10 m c : S1x256.Idx → EReal) := by
  refine (dats m 0 c).arrAt_eq_of_covers 10 _ (by decide +kernel) fun t hf y => ?_
  blk_simp
  rw [after0_10]
  refine (left10 m c t _).trans ?_
  refine congrArg (res10 m c) ?_
  blk_ext [index10]

/-- The hidden layer's codes. -/
@[irreducible] def res11 (y : S30x256.Idx) : EReal := Spec.code (Spec.hid (p m c (y 1)) (w1 m c) (s1 m c) (t1 m c)) (y 0)

/-- The body leaves it. -/
theorem left11 (t : Fin cfg0.N) (y : S30x256.Idx) : @Eq EReal (out0_11 (iblk m c 0 t) (iblk m c 1 t) (iblk m c 2 t) (iblk m c 3 t) (iblk m c 4 t) (iblk m c 5 t) (iblk m c 6 t) (iblk m c 7 t) y) (res11 m c y) := by
  unfold res11
  exact (out11 (iblk m c 0 t) (iblk m c 1 t) (iblk m c 2 t) (iblk m c 3 t) (iblk m c 4 t) (iblk m c 5 t) (iblk m c 6 t) (iblk m c 7 t) y).trans (congrArg (fun v => Spec.code v (y 0)) (hid_congr (f1 m c t (y 1)) (f2 m c t) (f3 m c t) (f4 m c t)))

/-- So the array holds it. -/
theorem final11 : (dats m 0 c).arrAt 11 cfg0.N = (res11 m c : S30x256.Idx → EReal) := by
  refine (dats m 0 c).arrAt_eq_of_covers 11 _ (by decide +kernel) fun t hf y => ?_
  blk_simp
  rw [after0_11]
  refine (left11 m c t _).trans ?_
  refine congrArg (res11 m c) ?_
  blk_ext [index11]

/-- The hidden layer's scales. -/
@[irreducible] def res12 (y : S1x256.Idx) : EReal := Spec.scale (Spec.hid (p m c (y 1)) (w1 m c) (s1 m c) (t1 m c))

/-- The body leaves it. -/
theorem left12 (t : Fin cfg0.N) (y : S1x256.Idx) : @Eq EReal (out0_12 (iblk m c 0 t) (iblk m c 1 t) (iblk m c 2 t) (iblk m c 3 t) (iblk m c 4 t) (iblk m c 5 t) (iblk m c 6 t) (iblk m c 7 t) y) (res12 m c y) := by
  unfold res12
  exact (out12 (iblk m c 0 t) (iblk m c 1 t) (iblk m c 2 t) (iblk m c 3 t) (iblk m c 4 t) (iblk m c 5 t) (iblk m c 6 t) (iblk m c 7 t) y).trans (congrArg Spec.scale (hid_congr (f1 m c t (y 1)) (f2 m c t) (f3 m c t) (f4 m c t)))

/-- So the array holds it. -/
theorem final12 : (dats m 0 c).arrAt 12 cfg0.N = (res12 m c : S1x256.Idx → EReal) := by
  refine (dats m 0 c).arrAt_eq_of_covers 12 _ (by decide +kernel) fun t hf y => ?_
  blk_simp
  rw [after0_12]
  refine (left12 m c t _).trans ?_
  refine congrArg (res12 m c) ?_
  blk_ext [index12]

/-- The 8-bit result's scale. -/
@[irreducible] def res13 (y : S1x1.Idx) : EReal := Spec.yscale (Spec.top (Spec.act (X m c) (W m c) (xs m c) (ws m c) (bs m c) (bb m c)) fun b o => Spec.gate (p m c b) (w1 m c) (s1 m c) (t1 m c) (w2 m c) (s2 m c) (t2 m c) o)

/-- The body leaves it. -/
theorem left13 (t : Fin cfg0.N) (y : S1x1.Idx) : @Eq EReal (out0_13 (iblk m c 0 t) (iblk m c 1 t) (iblk m c 2 t) (iblk m c 3 t) (iblk m c 4 t) (iblk m c 5 t) (iblk m c 6 t) (iblk m c 7 t) y) (res13 m c y) := by
  unfold res13
  exact (out13 (iblk m c 0 t) (iblk m c 1 t) (iblk m c 2 t) (iblk m c 3 t) (iblk m c 4 t) (iblk m c 5 t) (iblk m c 6 t) (iblk m c 7 t) y).trans (congrArg Spec.yscale (congrArg₂ Spec.top (f0 m c t) (funext fun b => funext fun o => (gate_congr (f1 m c t b) (f2 m c t) (f3 m c t) (f4 m c t) (f5 m c t) (f6 m c t) (f7 m c t) o))))

/-- So the array holds it. -/
theorem final13 : (dats m 0 c).arrAt 13 cfg0.N = (res13 m c : S1x1.Idx → EReal) := by
  refine (dats m 0 c).arrAt_eq_of_covers 13 _ (by decide +kernel) fun t hf y => ?_
  blk_simp
  rw [after0_13]
  refine (left13 m c t _).trans ?_
  refine congrArg (res13 m c) ?_
  blk_ext [index13]

end Cert.ReferenceIdeal.Val

end
-- ==== Proof.Val.RRun.lean ====
module

public import proofs.«01_k».proof.Proof.Val.RFinal

@[expose] public section

set_option maxRecDepth 16384

noncomputable section

/-! The reference's run, with its results named. -/

namespace Cert.ReferenceIdeal.Val

open Idealize.ShloMosaic Idealize.ShloMosaic.TcCoe Idealize.SL.Sem
open Cert.ReferenceIdeal Cert.ReferenceIdeal.Gen

variable (m : (ℓ : Loc nD τ sig) → Buf (Elt Ideal) ℓ) (g : Dev nD → PrngReg)

/-- The activation, row by row. -/
@[irreducible] def res7 (c : Dev nD) (y : S32x40x160x256.Idx) : EReal := Spec.act (X m c) (W m c) (xs m c) (ws m c) (bs m c) (bb m c) (y 3) (y 0) (y 1) (y 2)

/-- The host's last operation holds it. -/
theorem v76_res (c : Dev nD) : V m c main_v76 = (res7 m c : S32x40x160x256.Idx → EReal) := by
  funext y
  unfold res7
  exact (congrArg (V m c main_v76) (ix4_eta (n0 := 32) (n1 := 40) (n2 := 160) (n3 := 256) y).symm).trans (v76_apply m c (y 0) (y 1) (y 2) (y 3))

/-- Every run ends with the results at their values and the arguments unchanged. -/
theorem run_values : θ_run defs (onTc (τ := τ) (main (F := Ideal))) ⟨m, fun _ => 0, g⟩ (fun r => ∀ c : Dev nD,
      r.2.mem ((c.tc : Thread nD τ).loc main_v76) = (res7 m c : S32x40x160x256.Idx → EReal)
      ∧ r.2.mem ((c.tc : Thread nD τ).loc main_v81_0) = (res8 m c : S160x256.Idx → EReal)
      ∧ r.2.mem ((c.tc : Thread nD τ).loc main_v81_1) = (res9 m c : S160x256.Idx → EReal)
      ∧ r.2.mem ((c.tc : Thread nD τ).loc main_v81_2) = (res10 m c : S1x256.Idx → EReal)
      ∧ r.2.mem ((c.tc : Thread nD τ).loc main_v81_3) = (res11 m c : S30x256.Idx → EReal)
      ∧ r.2.mem ((c.tc : Thread nD τ).loc main_v81_4) = (res12 m c : S1x256.Idx → EReal)
      ∧ r.2.mem ((c.tc : Thread nD τ).loc main_v81_5) = (res13 m c : S1x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v76 (Pipeline.mem_restRefs_of main_v76 (by decide) (by decide))).trans (v76_res m c),
      (Value.post8 m r h c).trans (final8 m c), (Value.post9 m r h c).trans (final9 m c), (Value.post10 m r h c).trans (final10 m c), (Value.post11 m r h c).trans (final11 m c), (Value.post12 m r h c).trans (final12 m c), (Value.post13 m r h c).trans (final13 m c),
      Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c, Value.kept_main_arg9 m r h c, Value.kept_main_arg10 m r h c, Value.kept_main_arg11 m r h c⟩) (run_main m g)

end Cert.ReferenceIdeal.Val

end
-- ==== Proof.Val.KPre.lean ====
module

public import proofs.«01_k».proof.Proof.Val.KState
public import proofs.«01_k».proof.Proof.Gen.Pre_finite_affine
public import proofs.«01_k».proof.Defs
public import Idealize.ShloMosaic.Lib.IdealHost

@[expose] public section

set_option maxRecDepth 16384

noncomputable section

/-! What the precondition says: the affine map's factors are reals. -/

namespace Cert.KernelIdeal.Val

open Idealize.ShloMosaic Idealize.ShloMosaic.TcCoe
open Cert.KernelIdeal Cert.KernelIdeal.Gen

/-- A value whose magnitude is below infinity is a real. -/
theorem real_of_lt (z : EReal) (h : max z (-z) < ⊤) : IsReal z := by
  induction z using EReal.rec with
  | bot => simp at h
  | coe r => exact ⟨r, rfl⟩
  | top => simp at h

/-- Two bits both set. -/
theorem and_one : ∀ a b : BitVec 1, IntOp.andi a b = 1#1 → a = 1#1 ∧ b = 1#1 := by decide

/-- The comparison's bit says that the value is a real. -/
theorem real_of_bit (z : Ideal .f32) (h : BitVec.ofBool (decide ((FloatOps.absf z : EReal) < Ideal.ofBits FTy.f32 2139095040#32)) = 1#1) : IsReal (z : EReal) := by
  refine real_of_lt z ?_
  have e : Ideal.ofBits FTy.f32 2139095040#32 = ⊤ := by simp [Ideal.ofBits, Ideal.ieee]
  rw [e] at h
  by_contra hn
  have hn' : ¬ (FloatOps.absf z : EReal) < ⊤ := hn
  rw [decide_eq_false hn'] at h
  exact absurd h (by decide)

/-- The precondition, at an image and a channel. -/
theorem pre_at (a0) (a1 : FVec Ideal Cert.Pre_finite_affine.S256 .f32) (a2) (a3 a4 a5 : FVec Ideal Cert.Pre_finite_affine.S160 .f32) (a6 a7 a8 a9 a10 a11)
    (h : Cert.Pre_finite_affine.fn (F := Ideal) a0 a1 a2 a3 a4 a5 a6 a7 a8 a9 a10 a11 = fun _ => 1#1) (b : Fin 256) (o : Fin 160) :
    IsReal (a1 (ix1 b)) ∧ IsReal (a3 (ix1 o)) ∧ IsReal (a4 (ix1 o)) ∧ IsReal (a5 (ix1 o)) := by
  have h0 := congrFun h (ix2 b o)
  unfold Cert.Pre_finite_affine.fn at h0
  pointwise at h0
  obtain ⟨h1, h2⟩ := and_one _ _ h0
  obtain ⟨h2, h5⟩ := and_one _ _ h2
  obtain ⟨h3, h4⟩ := and_one _ _ h2
  exact ⟨real_of_bit _ h1, real_of_bit _ h3, real_of_bit _ h4, real_of_bit _ h5⟩

variable (m : (ℓ : Loc nD τ sig) → Buf (Elt Ideal) ℓ)

/-- Under the precondition the affine map's factors are reals. -/
theorem fine_of_pre (hpre : Cert.Pre_KernelIdeal_finite_affine m) (c : Dev nD) : Fine m c where
  xs b := (pre_at _ _ _ _ _ _ _ _ _ _ _ _ (hpre c) b 0).1
  ws o := (pre_at _ _ _ _ _ _ _ _ _ _ _ _ (hpre c) 0 o).2.1
  bs o := (pre_at _ _ _ _ _ _ _ _ _ _ _ _ (hpre c) 0 o).2.2.1
  bb o := (pre_at _ _ _ _ _ _ _ _ _ _ _ _ (hpre c) 0 o).2.2.2

end Cert.KernelIdeal.Val

end
-- ==== Proof.Val.Algebraic.lean ====
module

public import proofs.«01_k».proof.Proof.Val.KRun
public import proofs.«01_k».proof.Proof.Val.RRun
public import proofs.«01_k».proof.Proof.Val.KPre

@[expose] public section

set_option maxRecDepth 16384

noncomputable section

/-! The idealized kernel and the idealized reference compute the same seven results. -/

namespace Cert.Val

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's arguments are the kernel's. -/
structure Same : Prop where
  /-- argument 0 -/
  X : Cert.ReferenceIdeal.Val.X m' c = Cert.KernelIdeal.Val.X m c
  /-- argument 2 -/
  W : Cert.ReferenceIdeal.Val.W m' c = Cert.KernelIdeal.Val.W m c
  /-- argument 1 -/
  xs : Cert.ReferenceIdeal.Val.xs m' c = Cert.KernelIdeal.Val.xs m c
  /-- argument 3 -/
  ws : Cert.ReferenceIdeal.Val.ws m' c = Cert.KernelIdeal.Val.ws m c
  /-- argument 4 -/
  bs : Cert.ReferenceIdeal.Val.bs m' c = Cert.KernelIdeal.Val.bs m c
  /-- argument 5 -/
  bb : Cert.ReferenceIdeal.Val.bb m' c = Cert.KernelIdeal.Val.bb m c
  /-- argument 6 -/
  w1 : Cert.ReferenceIdeal.Val.w1 m' c = Cert.KernelIdeal.Val.w1 m c
  /-- argument 7 -/
  s1 : Cert.ReferenceIdeal.Val.s1 m' c = Cert.KernelIdeal.Val.s1 m c
  /-- argument 8 -/
  t1 : Cert.ReferenceIdeal.Val.t1 m' c = Cert.KernelIdeal.Val.t1 m c
  /-- argument 9 -/
  w2 : Cert.ReferenceIdeal.Val.w2 m' c = Cert.KernelIdeal.Val.w2 m c
  /-- argument 10 -/
  s2 : Cert.ReferenceIdeal.Val.s2 m' c = Cert.KernelIdeal.Val.s2 m c
  /-- argument 11 -/
  t2 : Cert.ReferenceIdeal.Val.t2 m' c = Cert.KernelIdeal.Val.t2 m c

variable {m m' c} (h : Same m m' c)
include h

/-- Equal means. -/
theorem p_eq : Cert.ReferenceIdeal.Val.p m' c = Cert.KernelIdeal.Val.p m c := by
  unfold Cert.ReferenceIdeal.Val.p Cert.KernelIdeal.Val.p
  rw [h.X, h.W, h.xs, h.ws, h.bs, h.bb]

/-- Equal results 0. -/
theorem res_eq0 : (Cert.ReferenceIdeal.Val.res7 m' c : Cert.KernelIdeal.S32x40x160x256.Idx → EReal) = Cert.KernelIdeal.Val.res12 m c := by
  funext y
  unfold Cert.ReferenceIdeal.Val.res7 Cert.KernelIdeal.Val.res12
  rw [h.X, h.W, h.xs, h.ws, h.bs, h.bb]

/-- Equal results 1. -/
theorem res_eq1 : (Cert.ReferenceIdeal.Val.res8 m' c : Cert.KernelIdeal.S160x256.Idx → EReal) = Cert.KernelIdeal.Val.res13 m c := by
  funext y
  unfold Cert.ReferenceIdeal.Val.res8 Cert.KernelIdeal.Val.res13
  unfold Cert.KernelIdeal.Val.gg
  rw [p_eq h, h.w1, h.s1, h.t1, h.w2, h.s2, h.t2]

/-- Equal results 2. -/
theorem res_eq2 : (Cert.ReferenceIdeal.Val.res9 m' c : Cert.KernelIdeal.S160x256.Idx → EReal) = Cert.KernelIdeal.Val.res14 m c := by
  funext y
  unfold Cert.ReferenceIdeal.Val.res9 Cert.KernelIdeal.Val.res14
  rw [p_eq h]

/-- Equal results 3. -/
theorem res_eq3 : (Cert.ReferenceIdeal.Val.res10 m' c : Cert.KernelIdeal.S1x256.Idx → EReal) = Cert.KernelIdeal.Val.res15 m c := by
  funext y
  unfold Cert.ReferenceIdeal.Val.res10 Cert.KernelIdeal.Val.res15
  rw [p_eq h]

/-- Equal results 4. -/
theorem res_eq4 : (Cert.ReferenceIdeal.Val.res11 m' c : Cert.KernelIdeal.S30x256.Idx → EReal) = Cert.KernelIdeal.Val.res16 m c := by
  funext y
  unfold Cert.ReferenceIdeal.Val.res11 Cert.KernelIdeal.Val.res16
  unfold Cert.KernelIdeal.Val.hh
  rw [p_eq h, h.w1, h.s1, h.t1]

/-- Equal results 5. -/
theorem res_eq5 : (Cert.ReferenceIdeal.Val.res12 m' c : Cert.KernelIdeal.S1x256.Idx → EReal) = Cert.KernelIdeal.Val.res17 m c := by
  funext y
  unfold Cert.ReferenceIdeal.Val.res12 Cert.KernelIdeal.Val.res17
  unfold Cert.KernelIdeal.Val.hh
  rw [p_eq h, h.w1, h.s1, h.t1]

/-- Equal results 6. -/
theorem res_eq6 : (Cert.ReferenceIdeal.Val.res13 m' c : Cert.KernelIdeal.S1x1.Idx → EReal) = Cert.KernelIdeal.Val.res18 m c := by
  funext y
  unfold Cert.ReferenceIdeal.Val.res13 Cert.KernelIdeal.Val.res18
  unfold Cert.KernelIdeal.Val.gg
  rw [p_eq h, h.X, h.W, h.xs, h.ws, h.bs, h.bb, h.w1, h.s1, h.t1, h.w2, h.s2, h.t2]

end

/-- The idealized kernel and its reference agree, where the affine map's factors are finite. -/
theorem algebraic : Cert.algebraic_KernelIdeal_ReferenceIdeal_pre_finite_affine := by
  intro m g m' g' hpre hargs
  have hs : ∀ c, Same m m' c := fun c => by
    obtain ⟨h0, h1, h2, h3, h4, h5, h6, h7, h8, h9, h10, h11⟩ := hargs c
    exact {
      X := funext fun b => funext fun i => funext fun j => funext fun k => congrFun h0 (ix4 b i j k)
      W := funext fun i => funext fun j => funext fun k => funext fun o => congrFun h2 (ix4 i j k o)
      xs := funext fun b => congrFun h1 (ix1 b)
      ws := funext fun b => congrFun h3 (ix1 b)
      bs := funext fun b => congrFun h4 (ix1 b)
      bb := funext fun b => congrFun h5 (ix1 b)
      w1 := funext fun k => funext fun j => congrFun h6 (ix2 k j)
      s1 := funext fun b => congrFun h7 (ix1 b)
      t1 := funext fun b => congrFun h8 (ix1 b)
      w2 := funext fun k => funext fun j => congrFun h9 (ix2 k j)
      s2 := funext fun b => congrFun h10 (ix1 b)
      t2 := funext fun b => congrFun h11 (ix1 b)
    }
  refine ⟨fun c => Cert.KernelIdeal.Val.res12 m c,
    fun c => Cert.KernelIdeal.Val.res13 m c,
    fun c => Cert.KernelIdeal.Val.res14 m c,
    fun c => Cert.KernelIdeal.Val.res15 m c,
    fun c => Cert.KernelIdeal.Val.res16 m c,
    fun c => Cert.KernelIdeal.Val.res17 m c,
    fun c => Cert.KernelIdeal.Val.res18 m c, ?_, ?_⟩
  · exact Cert.KernelIdeal.Val.run_values m g (Cert.KernelIdeal.Val.fine_of_pre m hpre)
  · refine (θ_run _ _ _).mono (fun r h c => ?_) (Cert.ReferenceIdeal.Val.run_values m' g')
    obtain ⟨e0, e1, e2, e3, e4, e5, e6, ha⟩ := h c
    exact ⟨e0.trans (res_eq0 (hs c)), e1.trans (res_eq1 (hs c)), e2.trans (res_eq2 (hs c)), e3.trans (res_eq3 (hs c)), e4.trans (res_eq4 (hs c)), e5.trans (res_eq5 (hs c)), e6.trans (res_eq6 (hs c)), ha⟩

end Cert.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Requant
public import proofs.«01_k».proof.Proof.Gen.Requant.Frame
public import proofs.«01_k».proof.Proof.Gen.RequantIdeal
public import proofs.«01_k».proof.Proof.Gen.RequantIdeal.Value
public import proofs.«01_k».proof.Proof.Gen.ReferenceRequantIdeal
public import proofs.«01_k».proof.Proof.Gen.ReferenceRequantIdeal.Value
public import proofs.«01_k».proof.Proof.Gen.Pre_nonzero_scale
public import proofs.«01_k».proof.Proof.Gen.Pre_finite_affine
public import proofs.«01_k».proof.Proof.P.Run
public import proofs.«01_k».proof.Proof.PI.Run
public import proofs.«01_k».proof.Proof.RQ.Algebraic
public import proofs.«01_k».proof.Proof.Val.Algebraic
public import Idealize.ShloMosaic.Adequacy
public import Idealize.ShloMosaic.Init

@[expose] public section

noncomputable section

namespace Cert.Proof

open Idealize.ShloMosaic Idealize.SL.Sem

/-- Every claim of the certificate: both kernels and both references run to the end with their arguments unchanged and
    every semaphore at zero; the idealized kernel differs from the kernel by one named constant; the idealized kernels
    compute what the references compute. -/
theorem claim : Cert.Claim :=
  ⟨Cert.Kernel.Gen.facts, Cert.KernelIdeal.Gen.facts, Cert.ReferenceIdeal.Gen.facts, Cert.Requant.Gen.facts,
    Cert.RequantIdeal.Gen.facts, Cert.ReferenceRequantIdeal.Gen.facts, Cert.Pre_finite_affine.Gen.facts, Cert.Pre_nonzero_scale.Gen.facts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    fun m g _ => Cert.Requant.Gen.frame m g,
    fun m g _ => Cert.RequantIdeal.Gen.frame m g,
    fun m g _ => Cert.RequantIdeal.Gen.frame m g,
    fun m g _ => Cert.ReferenceRequantIdeal.Gen.frame m g,
    fun m g _ => Cert.ReferenceRequantIdeal.Gen.frame m g,
    IdealRules.named_const.statement Cert.KernelIdeal.κ "inv_pixels" .f32 0x3A4CCCCD#32 ((1 / 1280 : ℝ) : EReal) rfl,
    Cert.Val.algebraic,
    trivial,
    Cert.RQ.algebraic⟩

end Cert.Proof

end
